-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v155_0)) (v1 : (c : Dev Cert.KernelIdeal.nD) → Buf (Elt Ideal) ((c.tc : Thread Cert.KernelIdeal.nD Cert.KernelIdeal.τ).loc Cert.KernelIdeal.main_v155_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155_0) = v0 c
          ∧ r.2.mem ((c.tc : Thread Cert.KernelIdeal.nD Cert.KernelIdeal.τ).loc Cert.KernelIdeal.main_v155_4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_tame.lean ====
abbrev S4224x2560 : Shape := ⟨2, ![4224, 2560]⟩
abbrev S4224x8192 : Shape := ⟨2, ![4224, 8192]⟩
abbrev S4112x1024 : Shape := ⟨2, ![4112, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_

variable [Facts]

def fn_part2 {F : FTy → Type} [FloatOps F] (main_arg3 : FVec F S64x64 .f32) (main_arg4 : FVec F S64x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64x64 .f32 := mulf main_arg3 main_arg3
  let main_v33 : FVec F S64x64 .f32 := mulf main_arg4 main_arg4
  let main_v34 : FVec F S64x64 .f32 := addf main_v32 main_v33
  let main_cst_14 : FVec F S_ .f32 := constant S_ .f32 0x00000000#32
  let main_v35 : FVec F S64x64 .f32 := broadcastInDim S64x64 ![] bcast_S_S64x64 main_cst_14
  let main_v36 : IVec S64x64 1 := cmpf .ogt main_v34 main_v35
  let main_c_15 : IVec S_ 1 := constantI S_ 1 1#1
  let main_v37 : IVec S_ 1 := (fun x v => Host.reduce IntOp.andi x v reducesTo_S64x64_S_d0_1 h_S_) main_v36 main_c_15
  let main_v38 : IVec S_ 1 := andi main_v3 main_v7
  let main_v39 : IVec S_ 1 := andi main_v38 main_v11
  let main_v40 : IVec S_ 1 := andi main_v39 main_v15
  let main_v41 : IVec S_ 1 := andi main_v40 main_v19
  let main_v42 : IVec S_ 1 := andi main_v41 main_v23
  let main_v43 : IVec S_ 1 := andi main_v42 main_v27
  let main_v44 : IVec S_ 1 := andi main_v43 main_v31
  let main_v45 : IVec S_ 1 := andi main_v44 main_v37
  main_v45

def fn_part1 {F : FTy → Type} [FloatOps F] (main_arg3 : FVec F S64x64 .f32) (main_arg4 : FVec F S64x64 .f32) (main_arg6 : FVec F S64x64x16 .f32) (main_arg7 : FVec F S64x64x16 .f32) (main_arg8 : FVec F S64x16x64 .f32) (main_arg9 : FVec F S64x16x64 .f32) (main_v3 : IVec S_ 1) (main_v7 : IVec S_ 1) (main_v11 : IVec S_ 1) (main_v15 : IVec S_ 1) : IVec S_ 1 :=
  let main_v16 : FVec F S64x64x16 .f32 := Host.absf main_arg6
  let main_cst_6 : FVec F S_ .f32 := constant S_ .f32 0x7F800000#32
  let main_v17 : FVec F S64x64x16 .f32 := broadcastInDim S64x64x16 ![] bcast_S_S64x64x16 main_cst_6
  let main_v18 : IVec S64x64x16 1 := cmpf .olt main_v16 main_v17
  let main_c_7 : IVec S_ 1 := constantI S_ 1 1#1
  let main_v19 : IVec S_ 1 := (fun x v => Host.reduce IntOp.andi x v reducesTo_S64x64x16_S_d0_1_2 h_S_) main_v18 main_c_7
  let main_v20 : FVec F S64x64x16 .f32 := Host.absf main_arg7
  let main_cst_8 : FVec F S_ .f32 := constant S_ .f32 0x7F800000#32
  let main_v21 : FVec F S64x64x16 .f32 := broadcastInDim S64x64x16 ![] bcast_S_S64x64x16 main_cst_8
  let main_v22 : IVec S64x64x16 1 := cmpf .olt main_v20 main_v21
  let main_c_9 : IVec S_ 1 := constantI S_ 1 1#1
  let main_v23 : IVec S_ 1 := (fun x v => Host.reduce IntOp.andi x v reducesTo_S64x64x16_S_d0_1_2 h_S_) main_v22 main_c_9
  let main_v24 : FVec F S64x16x64 .f32 := Host.absf main_arg8
  let main_cst_10 : FVec F S_ .f32 := constant S_ .f32 0x7F800000#32
  let main_v25 : FVec F S64x16x64 .f32 := broadcastInDim S64x16x64 ![] bcast_S_S64x16x64 main_cst_10
  let main_v26 : IVec S64x16x64 1 := cmpf .olt main_v24 main_v25
  let main_c_11 : IVec S_ 1 := constantI S_ 1 1#1
  let main_v27 : IVec S_ 1 := (fun x v => Host.reduce IntOp.andi x v reducesTo_S64x16x64_S_d0_1_2 h_S_) main_v26 main_c_11
  let main_v28 : FVec F S64x16x64 .f32 := Host.absf main_arg9
  let main_cst_12 : FVec F S_ .f32 := constant S_ .f32 0x7F800000#32
  let main_v29 : FVec F S64x16x64 .f32 := broadcastInDim S64x16x64 ![] bcast_S_S64x16x64 main_cst_12
  let main_v30 : IVec S64x16x64 1 := cmpf .olt main_v28 main_v29
  let main_c_13 : IVec S_ 1 := constantI S_ 1 1#1
  let main_v31 : IVec S_ 1 := (fun x v => Host.reduce IntOp.andi x v reducesTo_S64x16x64_S_d0_1_2 h_S_) main_v30 main_c_13
  fn_part2 (F := F) main_arg3 main_arg4 main_v3 main_v7 main_v11 main_v15 main_v19 main_v23 main_v27 main_v31

def fn {F : FTy → Type} [FloatOps F] (main_arg0 : FVec F S4224x2560 .f32) (main_arg1 : FVec F S4224x8192 .f32) (main_arg2 : FVec F S4112x1024 .f32) (main_arg3 : FVec F S64x64 .f32) (main_arg4 : FVec F S64x64 .f32) (main_arg5 : FVec F S64 .f32) (main_arg6 : FVec F S64x64x16 .f32) (main_arg7 : FVec F S64x64x16 .f32) (main_arg8 : FVec F S64x16x64 .f32) (main_arg9 : FVec F S64x16x64 .f32) (main_arg10 : FVec F S1x1024 .f32) : IVec S_ 1 :=
  let main_v0 : FVec F S4112x1024 .f32 := Host.absf main_arg2
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : FVec F S64x64 .f32 := Host.absf main_arg4
  let main_cst_2 : FVec F S_ .f32 := constant S_ .f32 0x7F800000#32
  let main_v9 : FVec F S64x64 .f32 := broadcastInDim S64x64 ![] bcast_S_S64x64 main_cst_2
  let main_v10 : IVec S64x64 1 := cmpf .olt main_v8 main_v9
  let main_c_3 : IVec S_ 1 := constantI S_ 1 1#1
  let main_v11 : IVec S_ 1 := (fun x v => Host.reduce IntOp.andi x v reducesTo_S64x64_S_d0_1 h_S_) main_v10 main_c_3
  let main_v12 : FVec F S64 .f32 := Host.absf main_arg5
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg3 main_arg4 main_arg6 main_arg7 main_arg8 main_arg9 main_v3 main_v7 main_v11 main_v15
-- ==== Kernel.lean ====
abbrev S4224x2560 : Shape := ⟨2, ![4224, 2560]⟩
abbrev S4224x8192 : Shape := ⟨2, ![4224, 8192]⟩
abbrev S4112x1024 : Shape := ⟨2, ![4112, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S64x1 : Shape := ⟨2, ![64, 1]⟩
abbrev S_ : Shape := ⟨0, ![]⟩
abbrev S64x1x64 : Shape := ⟨3, ![64, 1, 64]⟩
abbrev S1x64x64 : Shape := ⟨3, ![1, 64, 64]⟩
abbrev S8x64x64 : Shape := ⟨3, ![8, 64, 64]⟩
abbrev S8x64x1x64 : Shape := ⟨4, ![8, 64, 1, 64]⟩
abbrev S1x64x16x64 : Shape := ⟨4, ![1, 64, 16, 64]⟩
abbrev S8x64x16x64 : Shape := ⟨4, ![8, 64, 16, 64]⟩
abbrev S8x64x16x1x64 : Shape := ⟨5, ![8, 64, 16, 1, 64]⟩
abbrev S8x64x16x2x64 : Shape := ⟨5, ![8, 64, 16, 2, 64]⟩
abbrev S8x8x128x128 : Shape := ⟨4, ![8, 8, 128, 128]⟩
abbrev S8x1024x128 : Shape := ⟨3, ![8, 1024, 128]⟩
abbrev S64x16x1x64 : Shape := ⟨4, ![64, 16, 1, 64]⟩
abbrev S64x16x2x64 : Shape := ⟨4, ![64, 16, 2, 64]⟩
abbrev S8x8x16x2x1x64 : Shape := ⟨6, ![8, 8, 16, 2, 1, 64]⟩
abbrev S8x8 : Shape := ⟨2, ![8, 8]⟩
abbrev S1x8x1x1x8x1 : Shape := ⟨6, ![1, 8, 1, 1, 8, 1]⟩
abbrev S8x8x16x2x8x64 : Shape := ⟨6, ![8, 8, 16, 2, 8, 64]⟩
abbrev S8x128x1024 : Shape := ⟨3, ![8, 128, 1024]⟩
abbrev S8x1x512 : Shape := ⟨3, ![8, 1, 512]⟩
abbrev S8x1x1024 : Shape := ⟨3, ![8, 1, 1024]⟩
abbrev S4224x1024 : Shape := ⟨2, ![4224, 1024]⟩
abbrev S384x128 : Shape := ⟨2, ![384, 128]⟩
abbrev S8x128 : Shape := ⟨2, ![8, 128]⟩
abbrev S384x1024 : Shape := ⟨2, ![384, 1024]⟩
abbrev S8x1024 : Shape := ⟨2, ![8, 1024]⟩
abbrev S1x1024x128 : Shape := ⟨3, ![1, 1024, 128]⟩
abbrev S1x128x1024 : Shape := ⟨3, ![1, 128, 1024]⟩
abbrev S1x1x1024 : Shape := ⟨3, ![1, 1, 1024]⟩
abbrev S1x128 : Shape := ⟨2, ![1, 128]⟩
abbrev S1024x1024 : Shape := ⟨2, ![1024, 1024]⟩
abbrev S1024x128 : Shape := ⟨2, ![1024, 128]⟩
abbrev S1024x1 : Shape := ⟨2, ![1024, 1]⟩
abbrev S1024x64 : Shape := ⟨2, ![1024, 64]⟩
abbrev S128x1024 : Shape := ⟨2, ![128, 1024]⟩
abbrev S392x128 : Shape := ⟨2, ![392, 128]⟩
abbrev S1x1x512 : Shape := ⟨3, ![1, 1, 512]⟩
abbrev S1x512 : Shape := ⟨2, ![1, 512]⟩
abbrev S8x512 : Shape := ⟨2, ![8, 512]⟩
abbrev S376x1024 : Shape := ⟨2, ![376, 1024]⟩
abbrev S384x512 : Shape := ⟨2, ![384, 512]⟩
abbrev S512 : Shape := ⟨1, ![512]⟩
abbrev S392x1024 : Shape := ⟨2, ![392, 1024]⟩
abbrev S128 : Shape := ⟨1, ![128]⟩

abbrev nBuf : Space → Nat
  | .hbm => 178
  | .vmem => 33
  | .smem => 0
  | _ => 0

abbrev hbmTy0_0 (i : Nat) : BufTy := match i % 128 with
  | 0 => ⟨S4224x2560, .f32⟩
  | 1 => ⟨S4224x8192, .f32⟩
  | 2 => ⟨S4112x1024, .f32⟩
  | 3 => ⟨S64x64, .f32⟩
  | 4 => ⟨S64x64, .f32⟩
  | 5 => ⟨S64, .f32⟩
  | 6 => ⟨S64x64x16, .f32⟩
  | 7 => ⟨S64x64x16, .f32⟩
  | 8 => ⟨S64x16x64, .f32⟩
  | 9 => ⟨S64x16x64, .f32⟩
  | 10 => ⟨S1x1024, .f32⟩
  | 11 => ⟨S64, .f32⟩
  | 12 => ⟨S64x1, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x16x64, .f32⟩
  | 42 => ⟨S64x16x64, .f32⟩
  | 43 => ⟨S64x1x64, .f32⟩
  | 44 => ⟨S64x1x64, .f32⟩
  | 45 => ⟨S64x16x64, .f32⟩
  | 46 => ⟨S64x16x64, .f32⟩
  | 47 => ⟨S64x16x64, .f32⟩
  | 48 => ⟨S64x16x64, .f32⟩
  | 49 => ⟨S64x16x64, .f32⟩
  | 50 => ⟨S64x16x64, .f32⟩
  | 51 => ⟨S64x16x64, .f32⟩
  | 52 => ⟨S64x16x64, .f32⟩
  | 53 => ⟨S64x16x64, .f32⟩
  | 54 => ⟨S64x16x64, .f32⟩
  | 55 => ⟨S_, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S1x64x64, .f32⟩
  | 108 => ⟨S1x64x64, .f32⟩
  | 109 => ⟨S1x64x64, .f32⟩
  | 110 => ⟨S1x64x64, .f32⟩
  | 111 => ⟨S1x64x64, .f32⟩
  | 112 => ⟨S1x64x64, .f32⟩
  | 113 => ⟨S1x64x64, .f32⟩
  | 114 => ⟨S1x64x64, .f32⟩
  | 115 => ⟨S8x64x64, .f32⟩
  | 116 => ⟨S8x64x1x64, .f32⟩
  | 117 => ⟨S1x64x64, .f32⟩
  | 118 => ⟨S1x64x64, .f32⟩
  | 119 => ⟨S1x64x64, .f32⟩
  | 120 => ⟨S1x64x64, .f32⟩
  | 121 => ⟨S1x64x64, .f32⟩
  | 122 => ⟨S1x64x64, .f32⟩
  | 123 => ⟨S1x64x64, .f32⟩
  | 124 => ⟨S1x64x64, .f32⟩
  | 125 => ⟨S8x64x64, .f32⟩
  | 126 => ⟨S8x64x1x64, .f32⟩
  | 127 => ⟨S1x64x16x64, .f32⟩
  | _ => ⟨S4224x2560, .f32⟩

abbrev hbmTy0_1 (i : Nat) : BufTy := match i % 128 with
  | 0 => ⟨S1x64x16x64, .f32⟩
  | 1 => ⟨S8x64x16x64, .f32⟩
  | 2 => ⟨S8x64x16x64, .f32⟩
  | 3 => ⟨S8x64x16x64, .f32⟩
  | 4 => ⟨S8x64x16x64, .f32⟩
  | 5 => ⟨S8x64x16x64, .f32⟩
  | 6 => ⟨S8x64x16x64, .f32⟩
  | 7 => ⟨S8x64x16x64, .f32⟩
  | 8 => ⟨S8x64x16x64, .f32⟩
  | 9 => ⟨S8x64x16x64, .f32⟩
  | 10 => ⟨S8x64x16x64, .f32⟩
  | 11 => ⟨S8x64x16x64, .f32⟩
  | 12 => ⟨S8x64x16x64, .f32⟩
  | 13 => ⟨S8x64x16x64, .f32⟩
  | 14 => ⟨S8x64x16x64, .f32⟩
  | 15 => ⟨S8x64x16x1x64, .f32⟩
  | 16 => ⟨S8x64x16x1x64, .f32⟩
  | 17 => ⟨S8x64x16x2x64, .f32⟩
  | 18 => ⟨S8x8x128x128, .f32⟩
  | 19 => ⟨S8x8x128x128, .f32⟩
  | 20 => ⟨S8x1024x128, .f32⟩
  | 21 => ⟨S64x16x64, .f32⟩
  | 22 => ⟨S64x16x1x64, .f32⟩
  | 23 => ⟨S64x16x1x64, .f32⟩
  | 24 => ⟨S64x16x2x64, .f32⟩
  | 25 => ⟨S8x8x16x2x1x64, .f32⟩
  | 26 => ⟨S8x8, .i32⟩
  | 27 => ⟨S8x8, .i32⟩
  | 28 => ⟨S_, .i32⟩
  | 29 => ⟨S8x8, .i32⟩
  | 30 => ⟨S8x8, .i32⟩
  | 31 => ⟨S8x8, .i1⟩
  | 32 => ⟨S8x8, .f32⟩
  | 33 => ⟨S1x8x1x1x8x1, .f32⟩
  | 34 => ⟨S8x8x16x2x8x64, .f32⟩
  | 35 => ⟨S8x8x16x2x8x64, .f32⟩
  | 36 => ⟨S8x8x16x2x8x64, .f32⟩
  | 37 => ⟨S8x128x1024, .f32⟩
  | 38 => ⟨S8x1x512, .f32⟩
  | 39 => ⟨S8x1x512, .f32⟩
  | 40 => ⟨S8x1x1024, .f32⟩
  | 41 => ⟨S_, .i32⟩
  | 42 => ⟨S_, .f32⟩
  | 43 => ⟨S4224x1024, .f32⟩
  | 44 => ⟨S8x128x1024, .bf16⟩
  | 45 => ⟨S4224x1024, .bf16⟩
  | 46 => ⟨S8x1024x128, .f32⟩
  | 47 => ⟨S8x128x1024, .f32⟩
  | 48 => ⟨S8x1x1024, .f32⟩
  | 49 => ⟨S1x1024, .f32⟩
  | _ => ⟨S4224x2560, .f32⟩

abbrev hbmTy (i : Nat) : BufTy := match i / 128 with
  | 0 => hbmTy0_0 i
  | 1 => hbmTy0_1 i
  | _ => ⟨S4224x2560, .f32⟩

abbrev bufTy : (tb : Table) → Fin (tcTables nBuf tb) → BufTy
  | .hbm, ⟨i, _⟩ => hbmTy i
  | .local _ .vmem, ⟨0, _⟩ => ⟨S384x128, .f32⟩
  | .local _ .vmem, ⟨1, _⟩ => ⟨S384x128, .f32⟩
  | .local _ .vmem, ⟨2, _⟩ => ⟨S8x128, .f32⟩
  | .local _ .vmem, ⟨3, _⟩ => ⟨S8x128, .f32⟩
  | .local _ .vmem, ⟨4, _⟩ => ⟨S384x1024, .f32⟩
  | .local _ .vmem, ⟨5, _⟩ => ⟨S384x1024, .f32⟩
  | .local _ .vmem, ⟨6, _⟩ => ⟨S8x1024, .f32⟩
  | .local _ .vmem, ⟨7, _⟩ => ⟨S8x1024, .f32⟩
  | .local _ .vmem, ⟨8, _⟩ => ⟨S384x128, .f32⟩
  | .local _ .vmem, ⟨9, _⟩ => ⟨S384x128, .f32⟩
  | .local _ .vmem, ⟨10, _⟩ => ⟨S1x1024x128, .f32⟩
  | .local _ .vmem, ⟨11, _⟩ => ⟨S1x1024x128, .f32⟩
  | .local _ .vmem, ⟨12, _⟩ => ⟨S1x128x1024, .bf16⟩
  | .local _ .vmem, ⟨13, _⟩ => ⟨S1x128x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x128, .f32⟩
  | .local _ .vmem, ⟨17, _⟩ => ⟨S1x128, .f32⟩
  | .local _ .vmem, ⟨18, _⟩ => ⟨S384x128, .bf16⟩
  | .local _ .vmem, ⟨19, _⟩ => ⟨S384x128, .bf16⟩
  | .local _ .vmem, ⟨20, _⟩ => ⟨S1x1024x128, .f32⟩
  | .local _ .vmem, ⟨21, _⟩ => ⟨S1x1024x128, .f32⟩
  | .local _ .vmem, ⟨22, _⟩ => ⟨S1x128x1024, .f32⟩
  | .local _ .vmem, ⟨23, _⟩ => ⟨S1x128x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x128, .f32⟩
  | .local _ .vmem, ⟨27, _⟩ => ⟨S1x128, .f32⟩
  | .local _ .vmem, ⟨28, _⟩ => ⟨S384x1024, .f32⟩
  | .local _ .vmem, ⟨29, _⟩ => ⟨S8x1024, .f32⟩
  | .local _ .vmem, ⟨30, _⟩ => ⟨S8x1024, .f32⟩
  | .local _ .vmem, ⟨31, _⟩ => ⟨S1024x1024, .bf16⟩
  | .local _ .vmem, ⟨32, _⟩ => ⟨S1024x1024, .f32⟩
  | _, _ => ⟨S4224x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_c : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_c_3 : Ref sig .tc := ⟨.hbm, 169, rfl⟩
abbrev main_call0_v0 : Ref sig .tc := ⟨.hbm, 170, rfl⟩
abbrev main_v153 : Ref sig .tc := ⟨.hbm, 171, rfl⟩
abbrev main_v154 : Ref sig .tc := ⟨.hbm, 172, rfl⟩
abbrev main_v155_0 : Ref sig .tc := ⟨.hbm, 173, rfl⟩
abbrev main_v155_1 : Ref sig .tc := ⟨.hbm, 174, rfl⟩
abbrev main_v155_2 : Ref sig .tc := ⟨.hbm, 175, rfl⟩
abbrev main_v155_3 : Ref sig .tc := ⟨.hbm, 176, rfl⟩
abbrev main_v155_4 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 11], ![false, false]⟩

@[reducible] def k0_t1_loop : Scf.Loop 32 :=
  let c0_i32_22 : BitVec 32 := 0#32
  let c48_i32 : BitVec 32 := 48#32
  let v39 : BitVec 32 := Scalar.addi c0_i32_22 c48_i32
  let c1_i32 : BitVec 32 := 1#32
  ⟨c0_i32_22, v39, c1_i32⟩
def k0_mult1 (k0_t1 : Fin k0_t1_loop.trips) : BitVec 32 :=
  let c47_i32 : BitVec 32 := 47#32
  let c0_i32_22 : BitVec 32 := 0#32
  let c1_i32 : BitVec 32 := 1#32
  let arg21 : BitVec 32 := Scf.iv c0_i32_22 c1_i32 k0_t1
  let v136 : BitVec 32 := Scalar.subi c47_i32 arg21
  let c8_i32 : BitVec 32 := 8#32
  let v137 : BitVec 32 := Scalar.muli v136 c8_i32
  v137
def k0_off1 (k0_t1 : Fin k0_t1_loop.trips) : Fin 2 → Nat :=
  let c47_i32 : BitVec 32 := 47#32
  let c0_i32_22 : BitVec 32 := 0#32
  let c1_i32 : BitVec 32 := 1#32
  let arg21 : BitVec 32 := Scf.iv c0_i32_22 c1_i32 k0_t1
  let v136 : BitVec 32 := Scalar.subi c47_i32 arg21
  let c8_i32 : BitVec 32 := 8#32
  let v137 : BitVec 32 := Scalar.muli v136 c8_i32
  let v138 : BitVec 32 := v137
  let v139 : Index := Scalar.indexCast v138
  let c0_73 : Index := 0#32
  ![v139.toNat, 0]
def k0_cond2 (i : grid0.Coords) : BitVec 1 :=
  let arg1 : BitVec 32 := BitVec.ofNat 32 (i 1).val
  let c10_i32_71 : BitVec 32 := 10#32
  let v133 : BitVec 1 := Scalar.cmpi .eq arg1 c10_i32_71
  let v134 : BitVec 32 := Scalar.extui v133
  let c0_i32_72 : BitVec 32 := 0#32
  let v135 : BitVec 1 := Scalar.cmpi .ne v134 c0_i32_72
  v135

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c12_i32 : BitVec 32 := 12#32
  let v1 : BitVec 32 := Scalar.addi c12_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c48_i32 : BitVec 32 := 48#32
  let v1 : BitVec 32 := Scalar.muli v0 c48_i32
  let c1_i32 : BitVec 32 := 1#32
  let v2 : BitVec 32 := Scalar.subi v1 c1_i32
  let c0_i32 : BitVec 32 := 0#32
  let v3 : BitVec 32 := Scalar.maxsi v2 c0_i32
  let c12_i32 : BitVec 32 := 12#32
  let v4 : BitVec 32 := Scalar.addi c12_i32 arg0
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c48_i32 : BitVec 32 := 48#32
  let v1 : BitVec 32 := Scalar.muli v0 c48_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4224x2560 : Shape := ⟨2, ![4224, 2560]⟩
abbrev S4224x8192 : Shape := ⟨2, ![4224, 8192]⟩
abbrev S4112x1024 : Shape := ⟨2, ![4112, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S64x1 : Shape := ⟨2, ![64, 1]⟩
abbrev S_ : Shape := ⟨0, ![]⟩
abbrev S64x64x1 : Shape := ⟨3, ![64, 64, 1]⟩
abbrev S4112x64x16 : Shape := ⟨3, ![4112, 64, 16]⟩
abbrev S1x64x16 : Shape := ⟨3, ![1, 64, 16]⟩
abbrev S64x16 : Shape := ⟨2, ![64, 16]⟩
abbrev S1024 : Shape := ⟨1, ![1024]⟩
abbrev S4224x1024 : Shape := ⟨2, ![4224, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4224x2560, .f32⟩
  | .hbm, ⟨1, _⟩ => ⟨S4224x8192, .f32⟩
  | .hbm, ⟨2, _⟩ => ⟨S4112x1024, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1x1024, .f32⟩
  | .hbm, ⟨11, _⟩ => ⟨S64, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64x1, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S_, .f32⟩
  | .hbm, ⟨54, _⟩ => ⟨S64x64, .f32⟩
  | .hbm, ⟨55, _⟩ => ⟨S4112x64x16, .f32⟩
  | .hbm, ⟨56, _⟩ => ⟨S_, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S_, .f32⟩
  | .hbm, ⟨61, _⟩ => ⟨S4112x64x16, .f32⟩
  | .hbm, ⟨62, _⟩ => ⟨S_, .i32⟩
  | .hbm, ⟨63, _⟩ => ⟨S4112x64x16, .f32⟩
  | .hbm, ⟨64, _⟩ => ⟨S64x64, .f32⟩
  | .hbm, ⟨65, _⟩ => ⟨S64x64, .f32⟩
  | .hbm, ⟨66, _⟩ => ⟨S64x64x16, .f32⟩
  | .hbm, ⟨67, _⟩ => ⟨S64x16x64, .f32⟩
  | .hbm, ⟨68, _⟩ => ⟨S64x64x16, .f32⟩
  | .hbm, ⟨69, _⟩ => ⟨S64x16x64, .f32⟩
  | .hbm, ⟨70, _⟩ => ⟨S_, .i32⟩
  | .hbm, ⟨71, _⟩ => ⟨S64x64, .f32⟩
  | .hbm, ⟨72, _⟩ => ⟨S64x64, .f32⟩
  | .hbm, ⟨73, _⟩ => ⟨S4112x64x16, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x64x16, .f32⟩
  | .hbm, ⟨83, _⟩ => ⟨S64x16, .f32⟩
  | .hbm, ⟨84, _⟩ => ⟨S64x16, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S64x16, .f32⟩
  | .hbm, ⟨97, _⟩ => ⟨S64x16, .f32⟩
  | .hbm, ⟨98, _⟩ => ⟨S64x16, .f32⟩
  | .hbm, ⟨99, _⟩ => ⟨S1x64x16, .f32⟩
  | .hbm, ⟨100, _⟩ => ⟨S_, .i32⟩
  | .hbm, ⟨101, _⟩ => ⟨S_, .i32⟩
  | .hbm, ⟨102, _⟩ => ⟨S4112x64x16, .f32⟩
  | .hbm, ⟨103, _⟩ => ⟨S_, .i32⟩
  | .hbm, ⟨104, _⟩ => ⟨S_, .i32⟩
  | .hbm, ⟨105, _⟩ => ⟨S4112x1024, .f32⟩
  | .hbm, ⟨106, _⟩ => ⟨S4112x1024, .f32⟩
  | .hbm, ⟨107, _⟩ => ⟨S4112x1024, .f32⟩
  | .hbm, ⟨108, _⟩ => ⟨S4112x1024, .f32⟩
  | .hbm, ⟨109, _⟩ => ⟨S4112x1024, .f32⟩
  | .hbm, ⟨110, _⟩ => ⟨S4112x1024, .f32⟩
  | .hbm, ⟨111, _⟩ => ⟨S4112x1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S4112x1024, .f32⟩
  | .hbm, ⟨116, _⟩ => ⟨S4112x1024, .bf16⟩
  | .hbm, ⟨117, _⟩ => ⟨S_, .i32⟩
  | .hbm, ⟨118, _⟩ => ⟨S_, .bf16⟩
  | .hbm, ⟨119, _⟩ => ⟨S4224x1024, .bf16⟩
  | _, _ => ⟨S4224x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_c : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev main_v45_4 : Ref sig .tc := ⟨.hbm, 67, rfl⟩
abbrev main_v45_5 : Ref sig .tc := ⟨.hbm, 68, rfl⟩
abbrev main_v45_6 : Ref sig .tc := ⟨.hbm, 69, rfl⟩
abbrev main_v45_7 : Ref sig .tc := ⟨.hbm, 70, rfl⟩
abbrev main_v45_8 : Ref sig .tc := ⟨.hbm, 71, rfl⟩
abbrev main_v45_9 : Ref sig .tc := ⟨.hbm, 72, rfl⟩
abbrev main_v45_10 : Ref sig .tc := ⟨.hbm, 73, rfl⟩
abbrev main_while0c_c_17 : Ref sig .tc := ⟨.hbm, 74, rfl⟩
abbrev main_while0c_v58 : Ref sig .tc := ⟨.hbm, 75, rfl⟩
abbrev main_while0b_c_17 : Ref sig .tc := ⟨.hbm, 76, rfl⟩
abbrev main_while0b_v58 : Ref sig .tc := ⟨.hbm, 77, rfl⟩
abbrev main_while0b_c_18 : Ref sig .tc := ⟨.hbm, 78, rfl⟩
abbrev main_while0b_v59 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_v0 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_v64 : Ref sig .tc := ⟨.hbm, 87, rfl⟩
abbrev main_while0b_v65 : Ref sig .tc := ⟨.hbm, 88, rfl⟩
abbrev main_while0b_v66 : Ref sig .tc := ⟨.hbm, 89, rfl⟩
abbrev main_while0b_v67 : Ref sig .tc := ⟨.hbm, 90, rfl⟩
abbrev main_while0b_v68 : Ref sig .tc := ⟨.hbm, 91, rfl⟩
abbrev main_while0b_v69 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_call1_v0 : Ref sig .tc := ⟨.hbm, 99, rfl⟩
abbrev main_while0b_call1_c : Ref sig .tc := ⟨.hbm, 100, rfl⟩
abbrev main_while0b_call1_c_0 : Ref sig .tc := ⟨.hbm, 101, rfl⟩
abbrev main_while0b_v76 : Ref sig .tc := ⟨.hbm, 102, rfl⟩
abbrev main_while0b_c_19 : Ref sig .tc := ⟨.hbm, 103, rfl⟩
abbrev main_while0b_v77 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_cst_5 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_c_6 : Ref sig .tc := ⟨.hbm, 117, rfl⟩
abbrev main_call2_v0 : Ref sig .tc := ⟨.hbm, 118, rfl⟩
abbrev main_v57 : Ref sig .tc := ⟨.hbm, 119, rfl⟩

abbrev nD : Nat := 1
abbrev τ : Topo := Topo.v7x

variable {F : FTy → Type} [FloatOps F]

abbrev main_while0_count : Scf.Loop 32 := ⟨0#32, 4112#32, 1#32⟩
-- ==== Kernel2.lean ====
abbrev S4224x8192 : Shape := ⟨2, ![4224, 8192]⟩
abbrev S8192x2048 : Shape := ⟨2, ![8192, 2048]⟩
abbrev S4224x2048 : Shape := ⟨2, ![4224, 2048]⟩
abbrev S_ : Shape := ⟨0, ![]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4224x8192, .f32⟩
  | .hbm, ⟨1, _⟩ => ⟨S8192x2048, .bf16⟩
  | .hbm, ⟨2, _⟩ => ⟨S4224x2048, .bf16⟩
  | .hbm, ⟨3, _⟩ => ⟨S_, .f32⟩
  | .hbm, ⟨4, _⟩ => ⟨S4224x8192, .f32⟩
  | .hbm, ⟨5, _⟩ => ⟨S4224x8192, .f32⟩
  | .hbm, ⟨6, _⟩ => ⟨S4224x8192, .bf16⟩
  | .hbm, ⟨7, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4224x8192 : Shape := ⟨2, ![4224, 8192]⟩
abbrev S8192x2048 : Shape := ⟨2, ![8192, 2048]⟩
abbrev S4224x2048 : Shape := ⟨2, ![4224, 2048]⟩
abbrev S_ : Shape := ⟨0, ![]⟩
abbrev S2048x8192 : Shape := ⟨2, ![2048, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S8192x2048, .bf16⟩
  | .hbm, ⟨2, _⟩ => ⟨S4224x2048, .bf16⟩
  | .hbm, ⟨3, _⟩ => ⟨S8192x2048, .f32⟩
  | .hbm, ⟨4, _⟩ => ⟨S_, .f32⟩
  | .hbm, ⟨5, _⟩ => ⟨S4224x8192, .f32⟩
  | .hbm, ⟨6, _⟩ => ⟨S4224x8192, .f32⟩
  | .hbm, ⟨7, _⟩ => ⟨S_, .f32⟩
  | .hbm, ⟨8, _⟩ => ⟨S4224x8192, .f32⟩
  | .hbm, ⟨9, _⟩ => ⟨S4224x8192, .i1⟩
  | .hbm, ⟨10, _⟩ => ⟨S_, .f32⟩
  | .hbm, ⟨11, _⟩ => ⟨S4224x8192, .f32⟩
  | .hbm, ⟨12, _⟩ => ⟨S4224x8192, .f32⟩
  | .hbm, ⟨13, _⟩ => ⟨S_, .f32⟩
  | .hbm, ⟨14, _⟩ => ⟨S4224x8192, .f32⟩
  | .hbm, ⟨15, _⟩ => ⟨S4224x8192, .f32⟩
  | .hbm, ⟨16, _⟩ => ⟨S4224x2048, .f32⟩
  | .hbm, ⟨17, _⟩ => ⟨S4224x2048, .f32⟩
  | .hbm, ⟨18, _⟩ => ⟨S2048x8192, .f32⟩
  | .hbm, ⟨19, _⟩ => ⟨S8192x2048, .f32⟩
  | .hbm, ⟨20, _⟩ => ⟨S4224x8192, .f32⟩
  | .hbm, ⟨21, _⟩ => ⟨S4224x8192, .f32⟩
  | .hbm, ⟨22, _⟩ => ⟨S_, .f32⟩
  | .hbm, ⟨23, _⟩ => ⟨S4224x8192, .f32⟩
  | .hbm, ⟨24, _⟩ => ⟨S4224x8192, .f32⟩
  | .hbm, ⟨25, _⟩ => ⟨S4224x8192, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel3.lean ====
abbrev S4224x8192 : Shape := ⟨2, ![4224, 8192]⟩
abbrev S4224x2048 : Shape := ⟨2, ![4224, 2048]⟩
abbrev S_ : Shape := ⟨0, ![]⟩
abbrev S8192x2048 : Shape := ⟨2, ![8192, 2048]⟩
abbrev S4224x1024 : Shape := ⟨2, ![4224, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4224x8192, .f32⟩
  | .hbm, ⟨1, _⟩ => ⟨S4224x2048, .bf16⟩
  | .hbm, ⟨2, _⟩ => ⟨S_, .f32⟩
  | .hbm, ⟨3, _⟩ => ⟨S4224x8192, .f32⟩
  | .hbm, ⟨4, _⟩ => ⟨S4224x8192, .f32⟩
  | .hbm, ⟨5, _⟩ => ⟨S4224x8192, .f32⟩
  | .hbm, ⟨6, _⟩ => ⟨S4224x8192, .bf16⟩
  | .hbm, ⟨7, _⟩ => ⟨S8192x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x8192 : Shape := ⟨2, ![4224, 8192]⟩
abbrev S4224x2048 : Shape := ⟨2, ![4224, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S4224x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4224x8192, .f32⟩
  | .hbm, ⟨6, _⟩ => ⟨S4224x8192, .f32⟩
  | .hbm, ⟨7, _⟩ => ⟨S_, .f32⟩
  | .hbm, ⟨8, _⟩ => ⟨S4224x8192, .f32⟩
  | .hbm, ⟨9, _⟩ => ⟨S4224x8192, .i1⟩
  | .hbm, ⟨10, _⟩ => ⟨S_, .f32⟩
  | .hbm, ⟨11, _⟩ => ⟨S4224x8192, .f32⟩
  | .hbm, ⟨12, _⟩ => ⟨S4224x8192, .f32⟩
  | .hbm, ⟨13, _⟩ => ⟨S_, .f32⟩
  | .hbm, ⟨14, _⟩ => ⟨S4224x8192, .f32⟩
  | .hbm, ⟨15, _⟩ => ⟨S4224x8192, .f32⟩
  | .hbm, ⟨16, _⟩ => ⟨S4224x2048, .f32⟩
  | .hbm, ⟨17, _⟩ => ⟨S4224x2048, .f32⟩
  | .hbm, ⟨18, _⟩ => ⟨S2048x8192, .f32⟩
  | .hbm, ⟨19, _⟩ => ⟨S8192x2048, .f32⟩
  | .hbm, ⟨20, _⟩ => ⟨S4224x8192, .f32⟩
  | .hbm, ⟨21, _⟩ => ⟨S4224x8192, .f32⟩
  | .hbm, ⟨22, _⟩ => ⟨S_, .f32⟩
  | .hbm, ⟨23, _⟩ => ⟨S4224x8192, .f32⟩
  | .hbm, ⟨24, _⟩ => ⟨S4224x8192, .f32⟩
  | .hbm, ⟨25, _⟩ => ⟨S8192x2048, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S4224x2048 : Shape := ⟨2, ![4224, 2048]⟩
abbrev S4224x8192 : Shape := ⟨2, ![4224, 8192]⟩
abbrev S8x2048x1024 : Shape := ⟨3, ![8, 2048, 1024]⟩
abbrev S4224x1024 : Shape := ⟨2, ![4224, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S8x2048x1024, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1x1024x1024, .bf16⟩
  | .local _ .vmem, ⟨5, _⟩ => ⟨S1x1024x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x2048 : Shape := ⟨2, ![4224, 2048]⟩
abbrev S4224x8192 : Shape := ⟨2, ![4224, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S_, .f32⟩
  | .hbm, ⟨3, _⟩ => ⟨S2048x8192, .f32⟩
  | .hbm, ⟨4, _⟩ => ⟨S4224x2048, .f32⟩
  | .hbm, ⟨5, _⟩ => ⟨S4224x8192, .f32⟩
  | .hbm, ⟨6, _⟩ => ⟨S4224x8192, .f32⟩
  | .hbm, ⟨7, _⟩ => ⟨S8192x2048, .f32⟩
  | .hbm, ⟨8, _⟩ => ⟨S2048x8192, .f32⟩
  | .hbm, ⟨9, _⟩ => ⟨S4224x2048, .f32⟩
  | .hbm, ⟨10, _⟩ => ⟨S2048x8x1024, .f32⟩
  | .hbm, ⟨11, _⟩ => ⟨S8x2048x1024, .f32⟩
  | .hbm, ⟨12, _⟩ => ⟨S8x2048x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4224x8192 : Shape := ⟨2, ![4224, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4224x2048 : Shape := ⟨2, ![4224, 2048]⟩
abbrev S2112x1024 : Shape := ⟨2, ![2112, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4224x2048, .f32⟩
  | .local _ .vmem, ⟨0, _⟩ => ⟨S2112x1024, .bf16⟩
  | .local _ .vmem, ⟨1, _⟩ => ⟨S2112x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2112x1024, .f32⟩
  | .local _ .vmem, ⟨5, _⟩ => ⟨S2112x1024, .f32⟩
  | .local _ .vmem, ⟨6, _⟩ => ⟨S2112x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x8192 : Shape := ⟨2, ![4224, 8192]⟩
abbrev S2048x8192 : Shape := ⟨2, ![2048, 8192]⟩
abbrev S_ : Shape := ⟨0, ![]⟩
abbrev S4224x2048 : Shape := ⟨2, ![4224, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S_, .f32⟩
  | .hbm, ⟨3, _⟩ => ⟨S4224x2048, .f32⟩
  | .hbm, ⟨4, _⟩ => ⟨S2048x8192, .f32⟩
  | .hbm, ⟨5, _⟩ => ⟨S4224x8192, .f32⟩
  | .hbm, ⟨6, _⟩ => ⟨S4224x8192, .f32⟩
  | .hbm, ⟨7, _⟩ => ⟨S8192x2048, .f32⟩
  | .hbm, ⟨8, _⟩ => ⟨S2048x8192, .f32⟩
  | .hbm, ⟨9, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4224x2048 : Shape := ⟨2, ![4224, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4224x8192 : Shape := ⟨2, ![4224, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4224x8192, .bf16⟩
  | .hbm, ⟨5, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4224x2048 : Shape := ⟨2, ![4224, 2048]⟩
abbrev S2048x8192 : Shape := ⟨2, ![2048, 8192]⟩
abbrev S4224x8192 : Shape := ⟨2, ![4224, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x8192, .bf16⟩
  | .hbm, ⟨2, _⟩ => ⟨S4224x2048, .f32⟩
  | .hbm, ⟨3, _⟩ => ⟨S2048x8192, .f32⟩
  | .hbm, ⟨4, _⟩ => ⟨S4224x8192, .f32⟩
  | .hbm, ⟨5, _⟩ => ⟨S_, .f32⟩
  | .hbm, ⟨6, _⟩ => ⟨S4224x8192, .f32⟩
  | .hbm, ⟨7, _⟩ => ⟨S4224x8192, .f32⟩
  | .hbm, ⟨8, _⟩ => ⟨S4224x8192, .bf16⟩
  | .hbm, ⟨9, _⟩ => ⟨S4224x8192, .f32⟩
  | .hbm, ⟨10, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4224x8192 : Shape := ⟨2, ![4224, 8192]⟩
abbrev S8192x2048 : Shape := ⟨2, ![8192, 2048]⟩
abbrev S4224x2048 : Shape := ⟨2, ![4224, 2048]⟩
abbrev S_ : Shape := ⟨0, ![]⟩
abbrev S1408x1024 : Shape := ⟨2, ![1408, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4224x8192, .f32⟩
  | .hbm, ⟨1, _⟩ => ⟨S8192x2048, .bf16⟩
  | .hbm, ⟨2, _⟩ => ⟨S4224x2048, .f32⟩
  | .hbm, ⟨3, _⟩ => ⟨S_, .f32⟩
  | .hbm, ⟨4, _⟩ => ⟨S4224x8192, .f32⟩
  | .hbm, ⟨5, _⟩ => ⟨S4224x8192, .f32⟩
  | .hbm, ⟨6, _⟩ => ⟨S4224x8192, .f32⟩
  | .hbm, ⟨7, _⟩ => ⟨S4224x8192, .bf16⟩
  | .hbm, ⟨8, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4224x8192 : Shape := ⟨2, ![4224, 8192]⟩
abbrev S8192x2048 : Shape := ⟨2, ![8192, 2048]⟩
abbrev S4224x2048 : Shape := ⟨2, ![4224, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S8192x2048, .bf16⟩
  | .hbm, ⟨2, _⟩ => ⟨S4224x2048, .f32⟩
  | .hbm, ⟨3, _⟩ => ⟨S8192x2048, .f32⟩
  | .hbm, ⟨4, _⟩ => ⟨S_, .f32⟩
  | .hbm, ⟨5, _⟩ => ⟨S4224x8192, .f32⟩
  | .hbm, ⟨6, _⟩ => ⟨S4224x8192, .f32⟩
  | .hbm, ⟨7, _⟩ => ⟨S4224x8192, .f32⟩
  | .hbm, ⟨8, _⟩ => ⟨S4224x2048, .f32⟩
  | .hbm, ⟨9, _⟩ => ⟨S4224x2048, .f32⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S4224x2048 : Shape := ⟨2, ![4224, 2048]⟩
abbrev S2048x2560 : Shape := ⟨2, ![2048, 2560]⟩
abbrev S2560x2048 : Shape := ⟨2, ![2560, 2048]⟩
abbrev S4224x2560 : Shape := ⟨2, ![4224, 2560]⟩
abbrev S1408x2048 : Shape := ⟨2, ![1408, 2048]⟩
abbrev S1280x2048 : Shape := ⟨2, ![1280, 2048]⟩
abbrev S1408x1280 : Shape := ⟨2, ![1408, 1280]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2560, .bf16⟩
  | .hbm, ⟨2, _⟩ => ⟨S2560x2048, .bf16⟩
  | .hbm, ⟨3, _⟩ => ⟨S4224x2560, .f32⟩
  | .local _ .vmem, ⟨0, _⟩ => ⟨S1408x2048, .bf16⟩
  | .local _ .vmem, ⟨1, _⟩ => ⟨S1408x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1408x1280, .f32⟩
  | .local _ .vmem, ⟨5, _⟩ => ⟨S1408x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S2048x2560 : Shape := ⟨2, ![2048, 2560]⟩
abbrev S4224x2560 : Shape := ⟨2, ![4224, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2560, .bf16⟩
  | .hbm, ⟨2, _⟩ => ⟨S4224x2048, .f32⟩
  | .hbm, ⟨3, _⟩ => ⟨S2048x2560, .f32⟩
  | .hbm, ⟨4, _⟩ => ⟨S4224x2560, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4224x2048 : Shape := ⟨2, ![4224, 2048]⟩
abbrev S2048x2048 : Shape := ⟨2, ![2048, 2048]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4224x2048 : Shape := ⟨2, ![4224, 2048]⟩
abbrev S2048x2048 : Shape := ⟨2, ![2048, 2048]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S_, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4224x2048 : Shape := ⟨2, ![4224, 2048]⟩
abbrev S2048x2048 : Shape := ⟨2, ![2048, 2048]⟩
abbrev S4224x1024 : Shape := ⟨2, ![4224, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S_, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S4224x2048, .f32⟩
  | .hbm, ⟨9, _⟩ => ⟨S4224x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel12.lean ====
abbrev S4224x2560 : Shape := ⟨2, ![4224, 2560]⟩
abbrev S4224x2048 : Shape := ⟨2, ![4224, 2048]⟩
abbrev S2560x2048 : Shape := ⟨2, ![2560, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2560, .bf16⟩
  | .hbm, ⟨1, _⟩ => ⟨S4224x2048, .bf16⟩
  | .hbm, ⟨2, _⟩ => ⟨S2560x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | _, _ => ⟨S4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x2560 : Shape := ⟨2, ![4224, 2560]⟩
abbrev S4224x2048 : Shape := ⟨2, ![4224, 2048]⟩
abbrev S_ : Shape := ⟨0, ![]⟩
abbrev S2048x2560 : Shape := ⟨2, ![2048, 2560]⟩
abbrev S2560x2048 : Shape := ⟨2, ![2560, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x2560, .bf16⟩
  | .hbm, ⟨1, _⟩ => ⟨S4224x2048, .bf16⟩
  | .hbm, ⟨2, _⟩ => ⟨S_, .f32⟩
  | .hbm, ⟨3, _⟩ => ⟨S2048x2560, .f32⟩
  | .hbm, ⟨4, _⟩ => ⟨S4224x2048, .f32⟩
  | .hbm, ⟨5, _⟩ => ⟨S4224x2560, .f32⟩
  | .hbm, ⟨6, _⟩ => ⟨S4224x2560, .f32⟩
  | .hbm, ⟨7, _⟩ => ⟨S2560x2048, .f32⟩
  | .hbm, ⟨8, _⟩ => ⟨S2048x2560, .f32⟩
  | .hbm, ⟨9, _⟩ => ⟨S2560x2048, .f32⟩
  | .hbm, ⟨10, _⟩ => ⟨S2560x2048, .bf16⟩
  | _, _ => ⟨S4224x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4224x2560 : Shape := ⟨2, ![4224, 2560]⟩
abbrev S2048x2560 : Shape := ⟨2, ![2048, 2560]⟩
abbrev S2560x2048 : Shape := ⟨2, ![2560, 2048]⟩
abbrev S4224x2048 : Shape := ⟨2, ![4224, 2048]⟩
abbrev S1408x2560 : Shape := ⟨2, ![1408, 2560]⟩
abbrev S2560x1024 : Shape := ⟨2, ![2560, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x2560, .bf16⟩
  | .hbm, ⟨1, _⟩ => ⟨S2048x2560, .bf16⟩
  | .hbm, ⟨2, _⟩ => ⟨S2560x2048, .bf16⟩
  | .hbm, ⟨3, _⟩ => ⟨S4224x2048, .f32⟩
  | .local _ .vmem, ⟨0, _⟩ => ⟨S1408x2560, .bf16⟩
  | .local _ .vmem, ⟨1, _⟩ => ⟨S1408x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1408x1024, .f32⟩
  | .local _ .vmem, ⟨5, _⟩ => ⟨S1408x1024, .f32⟩
  | _, _ => ⟨S4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x2560 : Shape := ⟨2, ![4224, 2560]⟩
abbrev S2048x2560 : Shape := ⟨2, ![2048, 2560]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2560, .bf16⟩
  | .hbm, ⟨1, _⟩ => ⟨S2048x2560, .bf16⟩
  | .hbm, ⟨2, _⟩ => ⟨S_, .f32⟩
  | .hbm, ⟨3, _⟩ => ⟨S4224x2048, .f32⟩
  | .hbm, ⟨4, _⟩ => ⟨S2048x2560, .f32⟩
  | .hbm, ⟨5, _⟩ => ⟨S4224x2560, .f32⟩
  | .hbm, ⟨6, _⟩ => ⟨S4224x2560, .f32⟩
  | .hbm, ⟨7, _⟩ => ⟨S4224x2048, .f32⟩
  | _, _ => ⟨S4224x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4224x1024 : Shape := ⟨2, ![4224, 1024]⟩
abbrev S1024x1024 : Shape := ⟨2, ![1024, 1024]⟩
abbrev S1024 : Shape := ⟨1, ![1024]⟩
abbrev S1x1024 : Shape := ⟨2, ![1, 1024]⟩
abbrev S384x1024 : Shape := ⟨2, ![384, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S1024x1024, .bf16⟩
  | .local _ .vmem, ⟨3, _⟩ => ⟨S1x1024, .f32⟩
  | .local _ .vmem, ⟨4, _⟩ => ⟨S384x1024, .f32⟩
  | .local _ .vmem, ⟨5, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4224x1024 : Shape := ⟨2, ![4224, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S1024, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S4224x1024, .f32⟩
  | .hbm, ⟨32, _⟩ => ⟨S4224x1024, .f32⟩
  | .hbm, ⟨33, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel15.lean ====
abbrev S4224x1024 : Shape := ⟨2, ![4224, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .bf16⟩
  | .local _ .vmem, ⟨0, _⟩ => ⟨S4224x1024, .bf16⟩
  | .local _ .vmem, ⟨1, _⟩ => ⟨S4224x1024, .bf16⟩
  | .local _ .vmem, ⟨2, _⟩ => ⟨S1024x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.WholeRead

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

/-- Whether a point is a sweep's first tile, -/
abbrev cond0 (i : grid0.Coords) : Prop := (Scalar.cmpi .ne (Scalar.extui (Scalar.cmpi .eq (BitVec.ofNat 32 (i 1).val) 0#32)) 0#32) = 1#1
/-- and whether it is its last. -/
abbrev cond1 (i : grid0.Coords) : Prop := k0_cond2 i = 1#1

/-! ## What one point computes, as plain functions of the blocks -/

/-- The blocks a point is handed. -/
structure Blk (F : FTy → Type) [FloatOps F] where
  u : Vec F S384x128 .f32
  up : Vec F S8x128 .f32
  xs : Vec F S384x1024 .f32
  xp : Vec F S8x1024 .f32
  dy : Vec F S384x128 .f32
  wc : Vec F S1x1024x128 .f32
  ct : Vec F S1x128x1024 .bf16
  lam : Vec F S1x1x1024 .f32
  d : Vec F S1x128 .f32

/-- What is carried from one point to the next: the adjoint state of the row after the tile, the head of the products of the tile after, the spread weights, and the accumulators. -/
structure St (F : FTy → Type) [FloatOps F] where
  carry : Vec F S8x1024 .f32
  head : Vec F S8x1024 .f32
  w : Vec F S1024x1024 .bf16
  dw : Vec F S1024x1024 .f32
  dc : Vec F S1x128x1024 .f32
  dl : Vec F S1x1x1024 .f32
  dd : Vec F S1x128 .f32

/-- One trip of the reversed recurrence: eight rows of the tile advanced, the new rows put in their place. -/
def tripSt (lr : FVec F S8x512 .f32) (li : Vec F S1x1x512 .f32) (k : ℕ) (s : (Vec F S8x512 .f32 × Vec F S8x512 .f32) × Vec F S384x1024 .f32) :
    (Vec F S8x512 .f32 × Vec F S8x512 .f32) × Vec F S384x1024 .f32 :=
  if h : k < k0_t1_loop.trips then
    ((k0_pay44 lr li s.1.1 s.1.2 (window s.2 (k0_off1 ⟨k, h⟩) S8x1024.size (k0_off1_inb ⟨k, h⟩)),
      k0_pay45 lr li s.1.1 s.1.2 (window s.2 (k0_off1 ⟨k, h⟩) S8x1024.size (k0_off1_inb ⟨k, h⟩))),
     put s.2 (k0_off1 ⟨k, h⟩) S8x1024.size (k0_pay46 lr li s.1.1 s.1.2 (window s.2 (k0_off1 ⟨k, h⟩) S8x1024.size (k0_off1_inb ⟨k, h⟩))))
  else s

/-- The recurrence after `k` trips. -/
def scanSt (lr : FVec F S8x512 .f32) (li : Vec F S1x1x512 .f32) (init : Vec F S8x512 .f32 × Vec F S8x512 .f32) (a : Vec F S384x1024 .f32) :
    ℕ → (Vec F S8x512 .f32 × Vec F S8x512 .f32) × Vec F S384x1024 .f32
  | 0 => (init, a)
  | k + 1 => tripSt lr li k (scanSt lr li init a k)

/-- The word `10 - t` of the point's second coordinate. -/
abbrev tileWord (i : grid0.Coords) : BitVec 32 := Scalar.subi 10#32 (BitVec.ofNat 32 (i 1).val)

/-- The whole recurrence over a tile: the adjoint states, and the state carried on. -/
def scanned (b : Blk F) (s : St F) : (Vec F S8x512 .f32 × Vec F S8x512 .f32) × Vec F S384x1024 .f32 :=
  scanSt (k0_pay42 (window b.lam ![0, 0, 0] ![1, 1, 512] inb_S1x1x1024_S1x1x512_0_0_0)) (window b.lam ![0, 0, 512] ![1, 1, 512] inb_S1x1x1024_S1x1x512_0_0_512)
    (window s.carry ![0, 0] ![8, 512] inb_S8x1024_S8x512_0_0, window s.carry ![0, 512] ![8, 512] inb_S8x1024_S8x512_0_512)
    (k0_pay41 b.dy b.ct) k0_t1_loop.trips

/-- What is carried on from a point. -/
def step (i : grid0.Coords) (b : Blk F) (s : St F) : St F where
  carry := k0_pay47 (scanned b s).1.1 (scanned b s).1.2
  head := k0_pay61 (scanned b s).2 s.w
  w := s.w
  dw := k0_pay58 (k0_pay38 i b.u b.up) (scanned b s).2 s.dw
  dc := k0_pay3 (k0_pay40 b.dy) b.xs s.dc
  dl := k0_pay56 (k0_pay53 s.dl) (k0_pay54 (tileWord i) (scanned b s).2 b.xs b.xp) (k0_pay55 (tileWord i) (scanned b s).2 b.xs b.xp)
  dd := k0_pay2 b.u (k0_pay39 b.dy) s.dd

/-- The block of the input's gradient a point writes. -/
def duOut (i : grid0.Coords) (b : Blk F) (s : St F) : Vec F S384x128 .bf16 :=
  k0_pay1 (tileWord i) (k0_pay60 (k0_pay39 b.dy) (scanned b s).2 s.w s.head b.d) 384#32

/-- The weights spread over the groups' columns. -/
def spread (wc : Vec F S1x1024x128 .f32) : Vec F S1024x1024 .bf16 :=
  k0_pay24 (k0_pay5 wc) k0_pay6 (k0_pay7 (k0_pay5 wc) k0_pay6 0#32) (k0_pay8 (k0_pay5 wc) k0_pay6) (k0_pay9 (k0_pay5 wc) k0_pay6) (k0_pay10 (k0_pay5 wc) k0_pay6)
    (k0_pay11 (k0_pay5 wc) k0_pay6) (k0_pay12 (k0_pay5 wc) k0_pay6) (k0_pay15 (k0_pay13 (k0_pay5 wc)) (Scalar.ofBits .f32 0x00000000#32) (k0_pay14 k0_pay6))
    (k0_pay16 (k0_pay5 wc) k0_pay6) (k0_pay17 (k0_pay5 wc) k0_pay6) (k0_pay18 (k0_pay5 wc) k0_pay6) (k0_pay19 (k0_pay5 wc) k0_pay6)
    (k0_pay20 (k0_pay5 wc) k0_pay6) (k0_pay21 (k0_pay5 wc) k0_pay6) (k0_pay22 k0_pay6) (k0_pay23 (k0_pay5 wc))

/-- What a sweep over the tiles starts from. -/
def start (wc : Vec F S1x1024x128 .f32) : St F where
  carry := k0_pay25
  head := k0_pay26
  w := spread wc
  dw := k0_pay27
  dc := k0_pay35 k0_pay28
  dl := k0_pay36
  dd := k0_pay37

/-- The gathered gradient of the weights a sweep ends with. -/
def gathered (dw : Vec F S1024x1024 .f32) : Vec F S1x1024x128 .f32 :=
  k0_pay4 dw k0_pay29 (k0_pay32 dw k0_pay29 (k0_pay31 dw k0_pay29 k0_pay30 0#32) 6#32) (k0_pay33 dw k0_pay29) (k0_pay34 dw k0_pay29)

/-! ## The loop's state is the recurrence -/

theorem readAt_window {κ : Kind} {sp : Space} {s : Shape} {e : EltTy} (v : View sig κ sp s e) (f : v.ty.Contents (Elt F)) {off size : Fin s.rank → ℕ} (inb : ∀ a, off a + size a ≤ s.size a) :
    v.readAt (Elt F) (Rect.unit off size inb).toLoadRect f = window (v.read (Elt F) f) off size inb := rfl

theorem readCov_window {κ : Kind} {sp : Space} {s : Shape} {e : EltTy} (v : View sig κ sp s e) (L : List (View.Piece (Elt F) s e)) {off size : Fin s.rank → ℕ} (inb : ∀ a, off a + size a ≤ s.size a) :
    v.readCov L (Rect.unit off size inb).toLoadRect = window (v.read (Elt F) (v.writes (Elt F) v.junk L)) off size inb := rfl

set_option maxHeartbeats 4000000 in
/-- What the loop carries and leaves in the tile after `k` trips is the recurrence's. -/
theorem st_eq (c : Dev nD) (i : grid0.Coords) (arg2 : Memref sig .tc .vmem S384x128 .f32) (harg2 : arg2.IsWhole) (arg3 : Memref sig .tc .vmem S8x128 .f32) (harg3 : arg3.IsWhole) (arg4 : Memref sig .tc .vmem S384x1024 .f32) (harg4 : arg4.IsWhole) (arg5 : Memref sig .tc .vmem S8x1024 .f32) (harg5 : arg5.IsWhole) (arg6 : Memref sig .tc .vmem S384x128 .f32) (harg6 : arg6.IsWhole) (arg7 : Memref sig .tc .vmem S1x1024x128 .f32) (harg7 : arg7.IsWhole) (arg8 : Memref sig .tc .vmem S1x128x1024 .bf16) (harg8 : arg8.IsWhole) (arg9 : Memref sig .tc .vmem S1x1x1024 .f32) (harg9 : arg9.IsWhole) (arg10 : Memref sig .tc .vmem S1x128 .f32) (harg10 : arg10.IsWhole) (arg11 : Memref sig .tc .vmem S384x128 .bf16) (harg11 : arg11.IsWhole) (arg12 : Memref sig .tc .vmem S1x1024x128 .f32) (harg12 : arg12.IsWhole) (arg13 : Memref sig .tc .vmem S1x128x1024 .f32) (harg13 : arg13.IsWhole) (arg14 : Memref sig .tc .vmem S1x1x1024 .f32) (harg14 : arg14.IsWhole) (arg15 : Memref sig .tc .vmem S1x128 .f32) (harg15 : arg15.IsWhole) (arg16 : Memref sig .tc .vmem S384x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S1024x1024 .bf16) (harg19 : arg19.IsWhole) (arg20 : Memref sig .tc .vmem S1024x1024 .f32) (harg20 : arg20.IsWhole) (v0 : BitVec 32) (lr : FVec F S8x512 .f32) (li : Vec F S1x1x512 .f32)
    (G : BufTy.Contents (Elt F) arg16.view.ty) (init : Vec F S8x512 .f32 × Vec F S8x512 .f32) (k : ℕ) (hk : k ≤ k0_t1_loop.trips) :
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 lr li G init k).1 = (scanSt lr li init (arg16.view.read (Elt F) G) k).1
    ∧ arg16.view.read (Elt F) (arg16.view.writes (Elt F) G (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 lr li G init k).2) = (scanSt lr li init (arg16.view.read (Elt F) G) k).2 := by
  induction k with
  | zero => exact ⟨rfl, rfl⟩
  | succ k ih =>
    obtain ⟨h1, h2⟩ := ih (Nat.le_of_succ_le hk)
    have e := st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 lr li G init ⟨k, hk⟩
    dsimp only at e
    rw [e]
    unfold tripR_k0_t1 tripL_k0_t1 trip_k0_t1
    dsimp only [scanSt]
    rw [tripSt, dif_pos (show k < k0_t1_loop.trips from hk), ← h1, ← h2]
    refine ⟨rfl, ?_⟩
    rw [View.writes_append]
    exact View.read_writes_cons_put _ _ _ _ [] rfl

end Cert.KernelIdeal.Ssm

end
-- ==== Proof.Pay.lean ====
module

public import proofs.«01_k».proof.Proof.Spec
public import Idealize.ShloMosaic.Lib.Pointwise

@[expose] public section

set_option maxRecDepth 16384

noncomputable section

namespace Cert.KernelIdeal.Ssm

open Idealize.ShloMosaic
open Cert.KernelIdeal.Gen
open Idealize.ShloMosaic.VecWindow (window put)
/-! ## What the payloads compute, at an index -/

theorem pay41_apply (dy : Vec Ideal S384x128 .f32) (ct : Vec Ideal S1x128x1024 .bf16) (r : Fin 384) (q : Fin 1024) :
    k0_pay41 dy ct (ix2 r q) = ∑ k : Fin 128, dy (ix2 r k) * ct (ix3 0 k q) := by
  pointwise [k0_pay41, k0_pay40, k0_pay39]

theorem pay42_apply (v : Vec Ideal S1x1x512 .f32) (r : Fin 8) (q : Fin 512) : k0_pay42 v (ix2 r q) = v (ix3 0 0 q) := by
  pointwise [k0_pay42]

theorem pay44_apply (lr : FVec Ideal S8x512 .f32) (li : Vec Ideal S1x1x512 .f32) (a b : Vec Ideal S8x512 .f32) (v : Vec Ideal S8x1024 .f32) (r : Fin 8) (q : Fin 512) :
    k0_pay44 lr li a b v (ix2 r q) = v (ix2 r ⟨q.val, by omega⟩) + lr (ix2 r q) * a (ix2 r q) + li (ix3 0 0 q) * b (ix2 r q) := by
  pointwise [k0_pay44, k0_pay43]

theorem pay45_apply (lr : FVec Ideal S8x512 .f32) (li : Vec Ideal S1x1x512 .f32) (a b : Vec Ideal S8x512 .f32) (v : Vec Ideal S8x1024 .f32) (r : Fin 8) (q : Fin 512) :
    k0_pay45 lr li a b v (ix2 r q) = v (ix2 r ⟨512 + q.val, by omega⟩) + lr (ix2 r q) * b (ix2 r q) - li (ix3 0 0 q) * a (ix2 r q) := by
  pointwise [k0_pay45, k0_pay43]

theorem pay46_apply (lr : FVec Ideal S8x512 .f32) (li : Vec Ideal S1x1x512 .f32) (a b : Vec Ideal S8x512 .f32) (v : Vec Ideal S8x1024 .f32) (r : Fin 8) (q : Fin 1024) :
    k0_pay46 lr li a b v (ix2 r q) = if h : q.val < 512 then k0_pay44 lr li a b v (ix2 r ⟨q.val, h⟩) else k0_pay45 lr li a b v (ix2 r ⟨q.val - 512, by omega⟩) := by
  pointwise [k0_pay46]

theorem pay47_apply (a b : Vec Ideal S8x512 .f32) (r : Fin 8) (q : Fin 1024) :
    k0_pay47 a b (ix2 r q) = if h : q.val < 512 then a (ix2 r ⟨q.val, h⟩) else b (ix2 r ⟨q.val - 512, by omega⟩) := by
  pointwise [k0_pay47]

theorem pay59_apply (a : Vec Ideal S384x1024 .f32) (w : Vec Ideal S1024x1024 .bf16) (r : Fin 384) (k : Fin 1024) :
    k0_pay59 a w (ix2 r k) = ∑ q : Fin 1024, a (ix2 r q) * w (ix2 k q) := by
  pointwise [k0_pay59, k0_pay57]

theorem pay61_apply (a : Vec Ideal S384x1024 .f32) (w : Vec Ideal S1024x1024 .bf16) (r : Fin 8) (k : Fin 1024) :
    k0_pay61 a w (ix2 r k) = k0_pay59 a w (ix2 ⟨r.val, by omega⟩ k) := by
  pointwise [k0_pay61]

theorem pay2_apply (u dy : Vec Ideal S384x128 .f32) (dd : Vec Ideal S1x128 .f32) (k : Fin 128) :
    k0_pay2 u dy dd (ix2 0 k) = dd (ix2 0 k) + ∑ r : Fin 384, dy (ix2 r k) * u (ix2 r k) := by
  pointwise [k0_pay2]

/-- The rows of the products a tile's gradient is made of: the tile's own, then the first of the tile after it. -/
def prodRow (a : Vec Ideal S384x1024 .f32) (w : Vec Ideal S1024x1024 .bf16) (head : Vec Ideal S8x1024 .f32) (n : ℕ) (k : Fin 1024) : EReal :=
  if h : n < 384 then k0_pay59 a w (ix2 ⟨n, h⟩ k) else if h : n - 384 < 8 then head (ix2 ⟨n - 384, h⟩ k) else 0

set_option maxHeartbeats 1000000 in
theorem pay60_apply (dy : FVec Ideal S384x128 .f32) (a : Vec Ideal S384x1024 .f32) (w : Vec Ideal S1024x1024 .bf16) (head : Vec Ideal S8x1024 .f32) (d : Vec Ideal S1x128 .f32) (r : Fin 384) (k : Fin 128) :
    k0_pay60 dy a w head d (ix2 r k) = d (ix2 0 k) * dy (ix2 r k) + ∑ τ : Fin 8, prodRow a w head (r.val + τ.val) ⟨128 * τ.val + k.val, by have := τ.isLt; have := k.isLt; omega⟩ := by
  pointwise [k0_pay60]
  have e : ∀ n : ℕ, ∀ k : Fin 1024, n < 392 → prodRow a w head n k = if h : n < 384 then k0_pay59 a w (ix2 ⟨n, h⟩ k) else if h : n - 384 < 8 then head (ix2 ⟨n - 384, h⟩ k) else 0 := fun _ _ _ => rfl
  have lt : r.val + 7 < 392 := by omega
  rw [Fin.sum_univ_eight, ← add_assoc, ← add_assoc, ← add_assoc, ← add_assoc, ← add_assoc, ← add_assoc, ← add_assoc]
  congr 1
  congr 1
  congr 1
  congr 1
  congr 1
  congr 1
  congr 1
  congr 1
  all_goals
    simp only [prodRow, Fin.val_zero, Fin.val_one, add_comm r.val]
    try split
  all_goals first | (exfalso; have := r.isLt; omega) | rfl | (apply congrArg; apply congrArg₂ <;> ext <;> simp) | (rw [dif_neg ‹_›, dif_pos (by simp; omega)]; rfl) | (rw [dif_pos ‹_›]; rfl) | (rw [dif_pos (by omega)]) | (apply congrArg₂ <;> ext <;> simp) | (exfalso; have := r.isLt; simp at *; omega)

theorem pay1_apply (w c : BitVec 32) (v : FVec Ideal S384x128 .f32) (r : Fin 384) (k : Fin 128) :
    k0_pay1 w v c (ix2 r k) = if (112#32).sle (w * c + BitVec.ofNat 32 r.val) then v (ix2 r k) else 0 := by
  pointwise [k0_pay1]
  simp only [Scalar.select, IntOp.cmpi, IntOp.addi, Scalar.muli, IntOp.muli]
  by_cases h : (112#32).sle (w * c + BitVec.ofNat 32 r.val) = true
  · simp only [h]; rfl
  · simp only [h]; rfl

theorem pay6_apply (k : Fin 1024) : k0_pay6 (ix2 k 0) = BitVec.ofNat 32 (k.val / 16 % 8) := by
  pointwise [k0_pay6]
  revert k
  decide +kernel

theorem select_eq {w : ℕ} (x y : BitVec w) (a b : EReal) : Scalar.select (IntOp.cmpi CmpIPredicate.eq x y) a b = if x = y then a else b := by
  simp only [Scalar.select, IntOp.cmpi]
  by_cases h : x = y
  · simp [h]
  · have e : (x == y) = false := by simpa using h
    simp only [e, if_neg h]; rfl

theorem pay7_apply (v : FVec Ideal S1024x128 .f32) (s : IVec S1024x1 32) (c : BitVec 32) (k : Fin 1024) (q : Fin 64) :
    k0_pay7 v s c (ix2 k q) = if s (ix2 k 0) = c then v (ix2 k ⟨q.val, by omega⟩) else 0 := by
  pointwise [k0_pay7]
  exact select_eq _ _ _ _

theorem pay15_apply (v : FVec Ideal S1024x64 .f32) (z : Ideal .f32) (s : IVec S1024x64 1) (k : Fin 1024) (q : Fin 64) :
    k0_pay15 v z s (ix2 k q) = if s (ix2 k q) = 1#1 then v (ix2 k q) else z := by
  pointwise [k0_pay15]
  rfl

/-- Sixteen blocks of 64 columns side by side, read at a column. -/
theorem cat16 (x : Fin 16 → FVec Ideal S1024x64 .f32) (k : Fin 1024) (q : Fin 1024) :
    concatenate S1024x1024 1 [⟨S1024x64, x 0⟩, ⟨S1024x64, x 1⟩, ⟨S1024x64, x 2⟩, ⟨S1024x64, x 3⟩, ⟨S1024x64, x 4⟩, ⟨S1024x64, x 5⟩, ⟨S1024x64, x 6⟩, ⟨S1024x64, x 7⟩, ⟨S1024x64, x 8⟩, ⟨S1024x64, x 9⟩, ⟨S1024x64, x 10⟩, ⟨S1024x64, x 11⟩, ⟨S1024x64, x 12⟩, ⟨S1024x64, x 13⟩, ⟨S1024x64, x 14⟩, ⟨S1024x64, x 15⟩] concatenates_S1024x64_S1024x64_S1024x64_S1024x64_S1024x64_S1024x64_S1024x64_S1024x64_S1024x64_S1024x64_S1024x64_S1024x64_S1024x64_S1024x64_S1024x64_S1024x64_S1024x1024_d1 (ix2 k q)
      = x ⟨q.val / 64, by omega⟩ (ix2 k (⟨q.val % 64, by omega⟩ : Fin 64)) := by
  have e : concatenate S1024x1024 1 (List.ofFn fun n : Fin 16 => (⟨S1024x64, x n⟩ : (s : Shape) × (s.Idx → Ideal .f32))) concatenates_S1024x64_S1024x64_S1024x64_S1024x64_S1024x64_S1024x64_S1024x64_S1024x64_S1024x64_S1024x64_S1024x64_S1024x64_S1024x64_S1024x64_S1024x64_S1024x64_S1024x1024_d1 (ix2 k q)
      = x ⟨q.val / 64, by omega⟩ (ix2 k (⟨q.val % 64, by omega⟩ : Fin 64)) :=
    concatenate_ofFn_apply (t := S1024x1024) (s₁ := S1024x64) 1 x _ rfl 64 rfl (ix2 k q) ⟨q.val / 64, by omega⟩ rfl (ix2 k (⟨q.val % 64, by omega⟩ : Fin 64)) rfl (fun b hb => by
      match b with
      | 0 => rfl
      | 1 => exact absurd rfl hb)
  exact e

/-- The columns of the second half, kept in the rows of one group. -/
def pieceR (v : FVec Ideal S1024x128 .f32) (s : IVec S1024x1 32) (c : BitVec 32) : FVec Ideal S1024x64 .f32 :=
  select (broadcastTo S1024x64 (shapeCast S1024x1 (cmpi .eq s (broadcast S1024x1 c)) shapeCasts_S1024x1_S1024x1) broadcasts_S1024x1_S1024x64)
    (extractStridedSlice S1024x64 ![0, 64] v slices_S1024x128_o0_64_S1024x64) (broadcast S1024x64 (Scalar.ofBits .f32 0x00000000#32))

theorem pieceR_apply (v : FVec Ideal S1024x128 .f32) (s : IVec S1024x1 32) (c : BitVec 32) (k : Fin 1024) (q : Fin 64) :
    pieceR v s c (ix2 k q) = if s (ix2 k 0) = c then v (ix2 k ⟨64 + q.val, by omega⟩) else 0 := by
  pointwise [pieceR]
  exact select_eq _ _ _ _

theorem pay5_apply (wc : Vec Ideal S1x1024x128 .f32) (k : Fin 1024) (q : Fin 128) : k0_pay5 wc (ix2 k q) = wc (ix3 0 k q) := by
  pointwise [k0_pay5]

/-- The blocks the spread weights are made of. -/
def pieces (wc : Vec Ideal S1x1024x128 .f32) (m : Fin 16) : FVec Ideal S1024x64 .f32 :=
  if m.val < 8 then k0_pay7 (k0_pay5 wc) k0_pay6 (BitVec.ofNat 32 m.val) else pieceR (k0_pay5 wc) k0_pay6 (BitVec.ofNat 32 (m.val - 8))

theorem word_eq (a b : ℕ) (ha : a < 8) (hb : b < 8) : BitVec.ofNat 32 a = BitVec.ofNat 32 b ↔ a = b := by
  constructor
  · intro h
    have := congrArg BitVec.toNat h
    simp only [BitVec.toNat_ofNat] at this
    omega
  · rintro rfl; rfl

set_option maxHeartbeats 1000000 in
/-- The spread weights: row `k`'s group keeps its 64 columns of either half, the other groups' are zero. -/
theorem spread_apply (wc : Vec Ideal S1x1024x128 .f32) (k : Fin 1024) (q : Fin 1024) :
    spread wc (ix2 k q) = if k.val / 16 % 8 = q.val % 512 / 64 then wc (ix3 0 k ⟨q.val / 512 * 64 + q.val % 64, by omega⟩) else 0 := by
  have e : spread wc (ix2 k q) = pieces wc ⟨q.val / 64, by omega⟩ (ix2 k (⟨q.val % 64, by omega⟩ : Fin 64)) := by
    rw [← cat16 (pieces wc)]
    change shapeCast S1024x1024 (truncf .bf16 (concatenate S1024x1024 1 [⟨S1024x64, pieces wc 0⟩, ⟨S1024x64, pieces wc 1⟩, ⟨S1024x64, pieces wc 2⟩, ⟨S1024x64, pieces wc 3⟩, ⟨S1024x64, pieces wc 4⟩, ⟨S1024x64, pieces wc 5⟩, ⟨S1024x64, pieces wc 6⟩, ⟨S1024x64, pieces wc 7⟩, ⟨S1024x64, pieces wc 8⟩, ⟨S1024x64, pieces wc 9⟩, ⟨S1024x64, pieces wc 10⟩, ⟨S1024x64, pieces wc 11⟩, ⟨S1024x64, pieces wc 12⟩, ⟨S1024x64, pieces wc 13⟩, ⟨S1024x64, pieces wc 14⟩, ⟨S1024x64, pieces wc 15⟩] concatenates_S1024x64_S1024x64_S1024x64_S1024x64_S1024x64_S1024x64_S1024x64_S1024x64_S1024x64_S1024x64_S1024x64_S1024x64_S1024x64_S1024x64_S1024x64_S1024x64_S1024x1024_d1) bitsLt_bf16_f32) shapeCasts_S1024x1024_S1024x1024 (ix2 k q) = _
    generalize concatenate S1024x1024 1 _ _ = C
    pointwise []
  rw [e, pieces]
  simp only
  by_cases h : q.val / 64 < 8
  · rw [if_pos h, pay7_apply, pay6_apply, pay5_apply]
    have e1 : q.val % 512 / 64 = q.val / 64 := by omega
    simp only [word_eq _ _ (Nat.mod_lt _ (by omega)) h, e1]
    congr 3
    ext
    simp
    omega
  · rw [if_neg h, pieceR_apply, pay6_apply, pay5_apply]
    have e1 : q.val % 512 / 64 = q.val / 64 - 8 := by omega
    simp only [word_eq _ _ (Nat.mod_lt _ (by omega)) (show q.val / 64 - 8 < 8 by omega), e1]
    congr 3
    ext
    simp
    omega

end Cert.KernelIdeal.Ssm

end
-- ==== Proof.Math.lean ====
module

public import Idealize.ShloMosaic.Lib.Pointwise
public import Mathlib.Data.Complex.Basic
public import Mathlib.Data.Complex.BigOperators

@[expose] public section

set_option maxRecDepth 16384

noncomputable section

namespace Cert.Ssm

open Idealize.ShloMosaic
open ComplexConjugate

/-! ## The adjoint of a linear recurrence, row by row and eight rows at a time -/

/-- What row `T` is sent back by itself and the rows after it: row `T + n`'s share is multiplied `n` times. -/
def adj (c : ℂ) (g : ℕ → ℂ) (T : ℕ) : ℂ := ∑ n ∈ Finset.range 4224, c ^ n * g (T + n)

/-- The same of every eighth row. -/
def adj8 (c : ℂ) (g : ℕ → ℂ) (T : ℕ) : ℂ := ∑ n ∈ Finset.range 528, c ^ (8 * n) * g (T + 8 * n)

theorem adj_step (c : ℂ) (g : ℕ → ℂ) (hg : ∀ T, 4224 ≤ T → g T = 0) (T : ℕ) : adj c g T = g T + c * adj c g (T + 1) := by
  have e : ∑ n ∈ Finset.range 4225, c ^ n * g (T + n) = adj c g T := by
    rw [Finset.sum_range_succ, hg (T + 4224) (by omega), mul_zero, add_zero, adj]
  rw [← e, Finset.sum_range_succ', adj, Finset.mul_sum, pow_zero, one_mul, add_zero, add_comm]
  congr 1
  refine Finset.sum_congr rfl fun n _ => ?_
  rw [show T + (n + 1) = T + 1 + n by omega, pow_succ]
  ring

theorem adj8_step (c : ℂ) (g : ℕ → ℂ) (hg : ∀ T, 4224 ≤ T → g T = 0) (T : ℕ) : adj8 c g T = g T + c ^ 8 * adj8 c g (T + 8) := by
  have e : ∑ n ∈ Finset.range 529, c ^ (8 * n) * g (T + 8 * n) = adj8 c g T := by
    rw [Finset.sum_range_succ, hg (T + 8 * 528) (by omega), mul_zero, add_zero, adj8]
  rw [← e, Finset.sum_range_succ', adj8, Finset.mul_sum, mul_zero, pow_zero, one_mul, add_zero, add_comm]
  congr 1
  refine Finset.sum_congr rfl fun n _ => ?_
  rw [show T + 8 * (n + 1) = T + 8 + 8 * n by omega, show 8 * (n + 1) = 8 + 8 * n by omega, pow_add]
  ring

theorem adj_zero (c : ℂ) (g : ℕ → ℂ) (hg : ∀ T, 4224 ≤ T → g T = 0) (T : ℕ) (hT : 4224 ≤ T) : adj c g T = 0 :=
  Finset.sum_eq_zero fun n _ => by rw [hg _ (by omega), mul_zero]

theorem adj8_zero (c : ℂ) (g : ℕ → ℂ) (hg : ∀ T, 4224 ≤ T → g T = 0) (T : ℕ) (hT : 4224 ≤ T) : adj8 c g T = 0 :=
  Finset.sum_eq_zero fun n _ => by rw [hg _ (by omega), mul_zero]

/-- A sum over `8 M` rows, by the row's place among eight. -/
theorem sum_by_eight (f : ℕ → ℂ) (M : ℕ) : ∑ n ∈ Finset.range (8 * M), f n = ∑ τ : Fin 8, ∑ i ∈ Finset.range M, f (8 * i + τ.val) := by
  induction M with
  | zero => simp
  | succ M ih =>
    rw [show 8 * (M + 1) = 8 * M + 8 by ring, Finset.sum_range_add, ih]
    simp only [Finset.sum_range_succ _ M, Finset.sum_add_distrib]
    congr 1

/-- The row-by-row adjoint out of eight of the eight-at-a-time ones. -/
theorem adj_split (c : ℂ) (g : ℕ → ℂ) (T : ℕ) : adj c g T = ∑ τ : Fin 8, c ^ τ.val * adj8 c g (T + τ.val) := by
  rw [adj, show 4224 = 8 * 528 by rfl, sum_by_eight]
  refine Finset.sum_congr rfl fun τ _ => ?_
  rw [adj8, Finset.mul_sum]
  refine Finset.sum_congr rfl fun n _ => ?_
  rw [show T + (8 * n + τ.val) = T + τ.val + 8 * n by omega, pow_add]
  ring

/-- The real part or the imaginary part, by the half of the 1024 columns. -/
def part (z : ℂ) (q : ℕ) : ℝ := if q < 512 then z.re else z.im

/-- One row of the gradient: the adjoint against the input weights, as eight products of the eight-at-a-time adjoints with the weights multiplied on. -/
theorem pair_split (lam b : Fin 64 → ℂ) (g : Fin 64 → ℕ → ℂ) (T : ℕ) :
    ∑ p : Fin 64, ((adj (conj (lam p)) (g p) T).re * (b p).re + (adj (conj (lam p)) (g p) T).im * (b p).im)
      = ∑ τ : Fin 8, ∑ p : Fin 64, ((adj8 (conj (lam p)) (g p) (T + τ.val)).re * (lam p ^ τ.val * b p).re + (adj8 (conj (lam p)) (g p) (T + τ.val)).im * (lam p ^ τ.val * b p).im) := by
  rw [Finset.sum_comm]
  refine Finset.sum_congr rfl fun p _ => ?_
  have hre : ∀ z w : ℂ, z.re * w.re + z.im * w.im = (z * conj w).re := fun z w => by simp [Complex.mul_re]
  simp only [hre]
  rw [adj_split, Finset.sum_mul, Complex.re_sum]
  refine Finset.sum_congr rfl fun τ _ => ?_
  rw [map_mul, map_pow]
  congr 1
  ring

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-! ## The step's parameters as real arrays, and what is made of them -/

/-- The arrays a step is handed, as reals. -/
structure Par where
  dy : Fin 4112 → Fin 1024 → ℝ
  lamRe : Fin 64 → Fin 64 → ℝ
  lamIm : Fin 64 → Fin 64 → ℝ
  logStep : Fin 64 → ℝ
  bRe : Fin 64 → Fin 64 → Fin 16 → ℝ
  bIm : Fin 64 → Fin 64 → Fin 16 → ℝ
  cRe : Fin 64 → Fin 16 → Fin 64 → ℝ
  cIm : Fin 64 → Fin 16 → Fin 64 → ℝ

namespace Par
variable (x : Par)

/-- The length of a step of a group. -/
def dt (g : Fin 64) : ℝ := Real.exp (x.logStep g)
/-- The discrete pole of a group's state `p`. -/
def lam (g p : Fin 64) : ℂ :=
  ⟨Real.exp (x.lamRe g p * x.dt g) * Real.cos (x.lamIm g p * x.dt g), Real.exp (x.lamRe g p * x.dt g) * Real.sin (x.lamIm g p * x.dt g)⟩
/-- The squared size of the continuous pole. -/
def den (g p : Fin 64) : ℝ := x.lamRe g p * x.lamRe g p + x.lamIm g p * x.lamIm g p
/-- The factor of the input weights. -/
def fac (g p : Fin 64) : ℂ :=
  ⟨(((x.lam g p).re - 1) * x.lamRe g p + (x.lam g p).im * x.lamIm g p) * (1 / x.den g p),
   ((x.lam g p).im * x.lamRe g p - ((x.lam g p).re - 1) * x.lamIm g p) * (1 / x.den g p)⟩
/-- The discrete input weights. -/
def bb (g p : Fin 64) (h : Fin 16) : ℂ :=
  ⟨(x.fac g p).re * x.bRe g p h - (x.fac g p).im * x.bIm g p h, (x.fac g p).re * x.bIm g p h + (x.fac g p).im * x.bRe g p h⟩
/-- The output's gradient of a row of the padded arrays, the 112 rows in front being zero. -/
def gy (T : ℕ) (k : Fin 1024) : ℝ := if h : 112 ≤ T ∧ T < 4224 then x.dy ⟨T - 112, by omega⟩ k else 0
/-- What a row's gradient sends to the state. -/
def src (g p : Fin 64) (T : ℕ) : ℂ :=
  ⟨∑ h : Fin 16, x.gy T ⟨16 * g.val + h.val, by omega⟩ * x.cRe g h p, ∑ h : Fin 16, x.gy T ⟨16 * g.val + h.val, by omega⟩ * -x.cIm g h p⟩

theorem src_zero (g p : Fin 64) (T : ℕ) (hT : 4224 ≤ T) : x.src g p T = 0 := by
  have e : ∀ k, x.gy T k = 0 := fun k => dif_neg (by omega)
  simp only [src, e, zero_mul, Finset.sum_const_zero]
  rfl

/-- The mixer's share of the input's gradient: row `T` of group `g`, channel `h`. -/
def mix (T : ℕ) (g : Fin 64) (h : Fin 16) : ℝ :=
  ∑ p : Fin 64, ((adj (conj (x.lam g p)) (x.src g p) T).re * (x.bb g p h).re + (adj (conj (x.lam g p)) (x.src g p) T).im * (x.bb g p h).im)

end Par

end Cert.Ssm

end
-- ==== Proof.Scan.lean ====
module

public import proofs.«01_k».proof.Proof.Pay
public import proofs.«01_k».proof.Proof.Math

@[expose] public section

set_option maxRecDepth 16384

noncomputable section

namespace Cert.KernelIdeal.Ssm

open Idealize.ShloMosaic
open Cert.KernelIdeal.Gen Cert.Ssm
open Idealize.ShloMosaic.VecWindow (window put)
open ComplexConjugate

/-! ## The reversed recurrence over one tile, at the reals -/

theorem window_rows (x : S384x1024.Idx → EReal) (o : ℕ) (off : Fin 2 → ℕ) (e : off = ![o, 0]) (inb : ∀ a, off a + S8x1024.size a ≤ S384x1024.size a) (r : Fin 8) (q : Fin 1024) (h : o + r.val < 384) :
    window x off S8x1024.size inb (ix2 r q) = x (ix2 ⟨o + r.val, h⟩ q) := by
  subst e
  refine congrArg x (funext fun a => Fin.ext ?_)
  fin_cases a
  · exact congrArg (o + ·) (Nat.one_mul _)
  · exact (Nat.zero_add _).trans (Nat.one_mul _)

theorem put_rows (x : S384x1024.Idx → EReal) (o : ℕ) (off : Fin 2 → ℕ) (e : off = ![o, 0]) (w : S8x1024.Idx → EReal) (n : Fin 384) (q : Fin 1024) :
    put (s := S384x1024) x off S8x1024.size w (ix2 n q) = if h : o ≤ n.val ∧ n.val < o + 8 then w (ix2 ⟨n.val - o, by omega⟩ q) else x (ix2 n q) := by
  subst e
  unfold VecWindow.put
  by_cases h : o ≤ n.val ∧ n.val < o + 8
  · rw [dif_pos h, dif_pos (show ∀ a, (![o, 0] : Fin 2 → ℕ) a ≤ ((ix2 n q : S384x1024.Idx) a).val ∧ ((ix2 n q : S384x1024.Idx) a).val < (![o, 0] : Fin 2 → ℕ) a + S8x1024.size a from fun a => by
      fin_cases a
      · exact h
      · exact ⟨Nat.zero_le _, by have := q.isLt; exact this⟩)]
    refine congrArg w (funext fun a => Fin.ext ?_)
    fin_cases a <;> rfl
  · rw [dif_neg h, dif_neg]
    intro g
    exact h (g 0)

theorem halves_window (x : S8x1024.Idx → EReal) (o : ℕ) (ho : o + 512 ≤ 1024) (inb : ∀ a, (![0, o] : Fin 2 → ℕ) a + (![8, 512] : Fin 2 → ℕ) a ≤ S8x1024.size a) (r : Fin 8) (q : Fin 512) :
    window (s := S8x1024) x ![0, o] ![8, 512] inb (ix2 r q) = x (ix2 r ⟨o + q.val, by omega⟩) := by
  refine congrArg x (funext fun a => Fin.ext ?_)
  fin_cases a
  · exact (Nat.zero_add _).trans (Nat.one_mul _)
  · exact congrArg (o + ·) (Nat.one_mul _)

theorem lam_window (x : S1x1x1024.Idx → EReal) (o : ℕ) (ho : o + 512 ≤ 1024) (inb : ∀ a, (![0, 0, o] : Fin 3 → ℕ) a + (![1, 1, 512] : Fin 3 → ℕ) a ≤ S1x1x1024.size a) (q : Fin 512) :
    window (s := S1x1x1024) x ![0, 0, o] ![1, 1, 512] inb (ix3 0 0 q) = x (ix3 0 0 ⟨o + q.val, by omega⟩) := by
  refine congrArg x (funext fun a => Fin.ext ?_)
  fin_cases a
  · rfl
  · rfl
  · exact congrArg (o + ·) (Nat.one_mul _)

theorem trips_eq : k0_t1_loop.trips = 48 := by decide +kernel

/-- The parts of one step back, by the reals' arithmetic. -/
theorem back_re (l A G : ℂ) : (G + conj l * A).re = G.re + l.re * A.re + l.im * A.im := by
  simp [Complex.mul_re]; ring
theorem back_im (l A G : ℂ) : (G + conj l * A).im = G.im + l.re * A.im - l.im * A.re := by
  simp [Complex.mul_im]; ring

/-- What the loop holds after `k` trips: the carried rows and the tile's last `8 k` rows are the adjoint's, the others still the rows' own. -/
theorem scanSt_at (lr : FVec Ideal S8x512 .f32) (li : Vec Ideal S1x1x512 .f32) (init : Vec Ideal S8x512 .f32 × Vec Ideal S8x512 .f32) (a : Vec Ideal S384x1024 .f32)
    (l : ℕ → ℂ) (A G : ℕ → ℕ → ℂ)
    (hlr : ∀ (r : Fin 8) (q : Fin 512), lr (ix2 r q) = (((l q.val).re : ℝ) : EReal)) (hli : ∀ q : Fin 512, li (ix3 0 0 q) = (((l q.val).im : ℝ) : EReal))
    (h1 : ∀ (r : Fin 8) (q : Fin 512), init.1 (ix2 r q) = (((A (384 + r.val) q.val).re : ℝ) : EReal)) (h2 : ∀ (r : Fin 8) (q : Fin 512), init.2 (ix2 r q) = (((A (384 + r.val) q.val).im : ℝ) : EReal))
    (ha : ∀ (r : Fin 384) (q : Fin 1024), a (ix2 r q) = ((part (G r.val (q.val % 512)) q.val : ℝ) : EReal))
    (hA : ∀ n < 384, ∀ q < 512, A n q = G n q + conj (l q) * A (n + 8) q) (k : ℕ) (hk : k ≤ 48) :
    (∀ (r : Fin 8) (q : Fin 512), (scanSt lr li init a k).1.1 (ix2 r q) = (((A (384 - 8 * k + r.val) q.val).re : ℝ) : EReal))
    ∧ (∀ (r : Fin 8) (q : Fin 512), (scanSt lr li init a k).1.2 (ix2 r q) = (((A (384 - 8 * k + r.val) q.val).im : ℝ) : EReal))
    ∧ ∀ (r : Fin 384) (q : Fin 1024), (scanSt lr li init a k).2 (ix2 r q) = ((part ((if 384 - 8 * k ≤ r.val then A else G) r.val (q.val % 512)) q.val : ℝ) : EReal) := by
  induction k with
  | zero =>
    refine ⟨h1, h2, fun r q => ?_⟩
    rw [if_neg (by omega)]
    exact ha r q
  | succ k ih =>
    obtain ⟨e1, e2, e3⟩ := ih (by omega)
    have hk' : k < k0_t1_loop.trips := by rw [trips_eq]; omega
    have off : k0_off1 ⟨k, hk'⟩ = ![376 - 8 * k, 0] := k0_off1_eq ⟨k, hk'⟩
    simp only [scanSt]
    generalize scanSt lr li init a k = s at e1 e2 e3
    simp only [tripSt, dif_pos hk']
    have hw : ∀ (r : Fin 8) (q : Fin 1024), window s.2 (k0_off1 ⟨k, hk'⟩) S8x1024.size (k0_off1_inb ⟨k, hk'⟩) (ix2 r q) = ((part (G (376 - 8 * k + r.val) (q.val % 512)) q.val : ℝ) : EReal) := fun r q => by
      rw [window_rows s.2 (376 - 8 * k) _ off _ r q (by omega), e3, if_neg (by show ¬ 384 - 8 * k ≤ 376 - 8 * k + r.val; omega)]
    generalize window s.2 (k0_off1 ⟨k, hk'⟩) S8x1024.size (k0_off1_inb ⟨k, hk'⟩) = w at hw
    have n1 : ∀ (r : Fin 8) (q : Fin 512), k0_pay44 lr li s.1.1 s.1.2 w (ix2 r q) = (((A (376 - 8 * k + r.val) q.val).re : ℝ) : EReal) := fun r q => by
      rw [pay44_apply, hw, hlr, hli, e1, e2, hA (376 - 8 * k + r.val) (by omega) q.val q.isLt, back_re, show 376 - 8 * k + r.val + 8 = 384 - 8 * k + r.val by omega]
      have : part (G (376 - 8 * k + r.val) (q.val % 512)) q.val = (G (376 - 8 * k + r.val) q.val).re := by
        rw [part, if_pos q.isLt, Nat.mod_eq_of_lt q.isLt]
      simp only [this]
      norm_cast
    have n2 : ∀ (r : Fin 8) (q : Fin 512), k0_pay45 lr li s.1.1 s.1.2 w (ix2 r q) = (((A (376 - 8 * k + r.val) q.val).im : ℝ) : EReal) := fun r q => by
      rw [pay45_apply, hw, hlr, hli, e1, e2, hA (376 - 8 * k + r.val) (by omega) q.val q.isLt, back_im, show 376 - 8 * k + r.val + 8 = 384 - 8 * k + r.val by omega]
      have : part (G (376 - 8 * k + r.val) ((512 + q.val) % 512)) (512 + q.val) = (G (376 - 8 * k + r.val) q.val).im := by
        rw [part, if_neg (by omega), Nat.add_mod_left, Nat.mod_eq_of_lt q.isLt]
      simp only [this]
      norm_cast
    have eo : 384 - 8 * (k + 1) = 376 - 8 * k := by omega
    rw [eo]
    refine ⟨n1, n2, fun r q => ?_⟩
    rw [put_rows s.2 (376 - 8 * k) _ off]
    by_cases hr : 376 - 8 * k ≤ r.val ∧ r.val < 376 - 8 * k + 8
    · rw [dif_pos hr, if_pos hr.1, pay46_apply]
      by_cases hq : q.val < 512
      · rw [dif_pos hq, n1, part, if_pos hq, Nat.mod_eq_of_lt hq]
        simp only [Nat.add_sub_cancel' hr.1]
      · have := q.isLt
        rw [dif_neg hq, n2, part, if_neg hq, show q.val % 512 = q.val - 512 by omega]
        simp only [Nat.add_sub_cancel' hr.1]
    · rw [dif_neg hr, e3]
      by_cases hr' : 384 - 8 * k ≤ r.val
      · rw [if_pos hr', if_pos (by omega)]
      · rw [if_neg hr', if_neg (by omega)]

end Cert.KernelIdeal.Ssm

end
-- ==== Proof.Tile.lean ====
module

public import proofs.«01_k».proof.Proof.Scan

@[expose] public section

set_option maxRecDepth 16384

noncomputable section

namespace Cert.KernelIdeal.Ssm

open Idealize.ShloMosaic
open Cert.KernelIdeal.Gen Cert.Ssm
open Idealize.ShloMosaic.VecWindow (window put)
open ComplexConjugate

/-! ## One tile of one slab of eight groups -/

/-- The group and the state a column stands for, -/
def grp (j : Fin 8) (q : ℕ) : Fin 64 := ⟨8 * j.val + q % 512 / 64, by omega⟩
def sta (q : ℕ) : Fin 64 := ⟨q % 64, by omega⟩
/-- the group and the channel of a column of the slab's channels. -/
def chanG (j : Fin 8) (k : ℕ) : Fin 64 := ⟨8 * j.val + k % 128 / 16, by omega⟩
def chanH (k : ℕ) : Fin 16 := ⟨k % 16, by omega⟩

theorem sum_128 (f : Fin 128 → ℝ) : ∑ k, f k = ∑ a : Fin 8, ∑ h : Fin 16, f ⟨16 * a.val + h.val, by omega⟩ := by
  rw [← Finset.sum_product', ← Fintype.sum_equiv (finProdFinEquiv : Fin 8 × Fin 16 ≃ Fin 128) (fun p => f (finProdFinEquiv p)) f (fun _ => rfl)]
  refine Finset.sum_congr rfl fun p _ => congrArg f (Fin.ext ?_)
  simp [finProdFinEquiv]; omega

theorem sum_512 (f : Fin 512 → ℝ) : ∑ k, f k = ∑ a : Fin 8, ∑ p : Fin 64, f ⟨64 * a.val + p.val, by omega⟩ := by
  rw [← Finset.sum_product', ← Fintype.sum_equiv (finProdFinEquiv : Fin 8 × Fin 64 ≃ Fin 512) (fun p => f (finProdFinEquiv p)) f (fun _ => rfl)]
  refine Finset.sum_congr rfl fun p _ => congrArg f (Fin.ext ?_)
  simp [finProdFinEquiv]; omega

theorem sum_1024 (f : Fin 1024 → ℝ) : ∑ q, f q = ∑ q : Fin 512, (f ⟨q.val, by omega⟩ + f ⟨512 + q.val, by omega⟩) := by
  rw [Finset.sum_add_distrib]
  exact Fin.sum_univ_add (a := 512) (b := 512) f

theorem one_block {n : ℕ} (a : Fin 8) (v : Fin 8 → Fin n → ℝ) : (∑ a', ∑ h, v a' h * (if a'.val = a.val then 1 else 0)) = ∑ h, v a h := by
  rw [Finset.sum_eq_single a]
  · simp
  · intro a' _ h
    exact Finset.sum_eq_zero fun _ _ => by rw [if_neg (fun e => h (Fin.ext e)), mul_zero]
  · exact fun h => absurd (Finset.mem_univ _) h

variable (x : Par) (j : Fin 8)

/-- The adjoint state of a row, by columns. -/
def A8 (T q : ℕ) : ℂ := adj8 (conj (x.lam (grp j q) (sta q))) (x.src (grp j q) (sta q)) T
/-- The spread weights: column `q` of the weights of channel and shift `k`. -/
def Wt (k q : ℕ) : ℝ := if k / 16 % 8 = q % 512 / 64 then part (x.lam (chanG j k) (sta q) ^ (k / 128) * x.bb (chanG j k) (sta q) (chanH k)) q else 0
/-- A row of the products. -/
def Pr (T k : ℕ) : ℝ := ∑ q : Fin 1024, part (A8 x j T q.val) q.val * Wt x j k q.val

theorem Pr_eq (T τ : ℕ) (k : Fin 128) : Pr x j T (128 * τ + k.val)
    = ∑ p : Fin 64, ((adj8 (conj (x.lam (chanG j k.val) p)) (x.src (chanG j k.val) p) T).re * (x.lam (chanG j k.val) p ^ τ * x.bb (chanG j k.val) p (chanH k.val)).re
      + (adj8 (conj (x.lam (chanG j k.val) p)) (x.src (chanG j k.val) p) T).im * (x.lam (chanG j k.val) p ^ τ * x.bb (chanG j k.val) p (chanH k.val)).im) := by
  have hk := k.isLt
  rw [Pr, sum_1024, sum_512]
  refine (Finset.sum_congr rfl fun a _ => Finset.sum_congr rfl fun p _ => ?_).trans (one_block (⟨k.val / 16, by omega⟩ : Fin 8) (fun _ p =>
    (adj8 (conj (x.lam (chanG j k.val) p)) (x.src (chanG j k.val) p) T).re * (x.lam (chanG j k.val) p ^ τ * x.bb (chanG j k.val) p (chanH k.val)).re
      + (adj8 (conj (x.lam (chanG j k.val) p)) (x.src (chanG j k.val) p) T).im * (x.lam (chanG j k.val) p ^ τ * x.bb (chanG j k.val) p (chanH k.val)).im))
  have ha := a.isLt
  have hp := p.isLt
  have c1 : chanG j (128 * τ + k.val) = chanG j k.val := Fin.ext (by show 8 * j.val + (128 * τ + k.val) % 128 / 16 = 8 * j.val + k.val % 128 / 16; omega)
  have c2 : chanH (128 * τ + k.val) = chanH k.val := Fin.ext (by show (128 * τ + k.val) % 16 = k.val % 16; omega)
  have s1 : sta (64 * a.val + p.val) = p := Fin.ext (by show (64 * a.val + p.val) % 64 = p.val; omega)
  have s2 : sta (512 + (64 * a.val + p.val)) = p := Fin.ext (by show (512 + (64 * a.val + p.val)) % 64 = p.val; omega)
  simp only [Wt, A8, c1, c2, s1, s2, show (128 * τ + k.val) / 16 % 8 = k.val / 16 by omega, show (64 * a.val + p.val) % 512 / 64 = a.val by omega, show (512 + (64 * a.val + p.val)) % 512 / 64 = a.val by omega, show (128 * τ + k.val) / 128 = τ by omega]
  by_cases h : k.val / 16 = a.val
  · have g1 : grp j (64 * a.val + p.val) = chanG j k.val := Fin.ext (by show 8 * j.val + (64 * a.val + p.val) % 512 / 64 = 8 * j.val + k.val % 128 / 16; omega)
    have g2 : grp j (512 + (64 * a.val + p.val)) = chanG j k.val := Fin.ext (by show 8 * j.val + (512 + (64 * a.val + p.val)) % 512 / 64 = 8 * j.val + k.val % 128 / 16; omega)
    rw [if_pos h, if_pos h, if_pos h.symm, g1, g2, mul_one]
    simp only [part, if_pos (show 64 * a.val + p.val < 512 by omega), if_neg (show ¬ 512 + (64 * a.val + p.val) < 512 by omega)]
  · rw [if_neg h, if_neg h, if_neg (fun e => h e.symm)]
    simp only [mul_zero, add_zero]

/-- The row's gradient, out of eight rows of the products. -/
theorem mix_eq (T : ℕ) (k : Fin 128) : ∑ τ : Fin 8, Pr x j (T + τ.val) (128 * τ.val + k.val) = x.mix T (chanG j k.val) (chanH k.val) := by
  rw [Par.mix, pair_split]
  exact Finset.sum_congr rfl fun τ _ => Pr_eq x j (T + τ.val) τ.val k

/-- What the kernel's first product gives: the row's source, by columns. -/
theorem src_eq (T : ℕ) (q : Fin 1024) :
    ∑ k : Fin 128, x.gy T ⟨128 * j.val + k.val, by omega⟩ * ((if q.val / 512 < 1 then x.cRe ⟨j.val * 8 + k.val / 16, by omega⟩ ⟨k.val % 16, by omega⟩ ⟨q.val % 64, by omega⟩ else -x.cIm ⟨j.val * 8 + k.val / 16, by omega⟩ ⟨k.val % 16, by omega⟩ ⟨q.val % 64, by omega⟩) * if k.val / 16 = q.val / 64 % 8 then 1 else 0)
      = part (x.src (grp j q.val) (sta q.val) T) q.val := by
  have hq := q.isLt
  rw [sum_128]
  refine (Finset.sum_congr rfl fun a _ => Finset.sum_congr rfl fun h _ => ?_).trans ((one_block (⟨q.val / 64 % 8, by omega⟩ : Fin 8) (fun a h =>
    x.gy T ⟨16 * (8 * j.val + a.val) + h.val, by omega⟩ * (if q.val < 512 then x.cRe ⟨8 * j.val + a.val, by omega⟩ h (sta q.val) else -x.cIm ⟨8 * j.val + a.val, by omega⟩ h (sta q.val)))).trans ?_)
  · have ha := a.isLt
    have hh := h.isLt
    have e1 : (⟨j.val * 8 + a.val, by omega⟩ : Fin 64) = ⟨8 * j.val + a.val, by omega⟩ := Fin.ext (by show j.val * 8 + a.val = 8 * j.val + a.val; omega)
    have e2 : (⟨(16 * a.val + h.val) % 16, by omega⟩ : Fin 16) = h := Fin.ext (by show (16 * a.val + h.val) % 16 = h.val; omega)
    have e3 : (⟨128 * j.val + (16 * a.val + h.val), by omega⟩ : Fin 1024) = ⟨16 * (8 * j.val + a.val) + h.val, by omega⟩ := Fin.ext (by show 128 * j.val + (16 * a.val + h.val) = 16 * (8 * j.val + a.val) + h.val; omega)
    simp only [show (16 * a.val + h.val) / 16 = a.val by omega, e1, e2, e3]
    rw [← mul_assoc]
    congr 2
    by_cases g : q.val < 512
    · rw [if_pos g, if_pos (by omega)]; rfl
    · rw [if_neg g, if_neg (by omega)]; rfl
  · have e : (⟨8 * j.val + q.val / 64 % 8, by omega⟩ : Fin 64) = grp j q.val := Fin.ext (by show 8 * j.val + q.val / 64 % 8 = 8 * j.val + q.val % 512 / 64; omega)
    have e' : ∀ h : Fin 16, (⟨16 * (8 * j.val + q.val / 64 % 8) + h.val, by omega⟩ : Fin 1024) = ⟨16 * (grp j q.val).val + h.val, by have := (grp j q.val).isLt; omega⟩ := fun h => Fin.ext (by show 16 * (8 * j.val + q.val / 64 % 8) + h.val = 16 * (8 * j.val + q.val % 512 / 64) + h.val; omega)
    simp only [e, e']
    by_cases g : q.val < 512
    · simp only [part, if_pos g, Par.src]
    · simp only [part, if_neg g, Par.src]

/-- What a point finds carried from the tiles after it, `T` being the row after its tile. -/
structure Good (T : ℕ) (s : St Ideal) : Prop where
  carry : ∀ (r : Fin 8) (q : Fin 1024), s.carry (ix2 r q) = ((part (A8 x j (T + r.val) q.val) q.val : ℝ) : EReal)
  head : ∀ (r : Fin 8) (k : Fin 1024), s.head (ix2 r k) = ((Pr x j (T + r.val) k.val : ℝ) : EReal)
  w : ∀ (k q : Fin 1024), s.w (ix2 k q) = ((Wt x j k.val q.val : ℝ) : EReal)

/-- The blocks of a point whose tile starts at row `T`. -/
structure Fits (T : ℕ) (b : Blk Ideal) : Prop where
  dy : ∀ (r : Fin 384) (k : Fin 128), b.dy (ix2 r k) = ((x.gy (T + r.val) ⟨128 * j.val + k.val, by omega⟩ : ℝ) : EReal)
  ct : ∀ (k : Fin 128) (q : Fin 1024), b.ct (ix3 0 k q) = (((if q.val / 512 < 1 then x.cRe ⟨j.val * 8 + k.val / 16, by omega⟩ ⟨k.val % 16, by omega⟩ ⟨q.val % 64, by omega⟩ else -x.cIm ⟨j.val * 8 + k.val / 16, by omega⟩ ⟨k.val % 16, by omega⟩ ⟨q.val % 64, by omega⟩) * if k.val / 16 = q.val / 64 % 8 then 1 else 0 : ℝ) : EReal)
  lam : ∀ q : Fin 1024, b.lam (ix3 0 0 q) = ((part (x.lam (grp j q.val) (sta q.val) ^ 8) q.val : ℝ) : EReal)

variable {x j} {T : ℕ} {b : Blk Ideal} {s : St Ideal} (hb : Fits x j T b) (hs : Good x j (T + 384) s)

theorem grp_mod (q : ℕ) : grp j (q % 512) = grp j q := Fin.ext (by show 8 * j.val + q % 512 % 512 / 64 = 8 * j.val + q % 512 / 64; omega)
theorem sta_mod (q : ℕ) : sta (q % 512) = sta q := Fin.ext (by show q % 512 % 64 = q % 64; omega)
theorem grp_half (q : ℕ) : grp j (512 + q) = grp j q := Fin.ext (by show 8 * j.val + (512 + q) % 512 / 64 = 8 * j.val + q % 512 / 64; omega)
theorem sta_half (q : ℕ) : sta (512 + q) = sta q := Fin.ext (by show (512 + q) % 64 = q % 64; omega)

include hb hs in
/-- The recurrence over the tile leaves the adjoint states of its rows. -/
theorem scanned_at : (∀ (r : Fin 8) (q : Fin 512), (scanned b s).1.1 (ix2 r q) = (((A8 x j (T + r.val) q.val).re : ℝ) : EReal))
    ∧ (∀ (r : Fin 8) (q : Fin 512), (scanned b s).1.2 (ix2 r q) = (((A8 x j (T + r.val) q.val).im : ℝ) : EReal))
    ∧ ∀ (r : Fin 384) (q : Fin 1024), (scanned b s).2 (ix2 r q) = ((part (A8 x j (T + r.val) q.val) q.val : ℝ) : EReal) := by
  have key := scanSt_at (k0_pay42 (window b.lam ![0, 0, 0] ![1, 1, 512] inb_S1x1x1024_S1x1x512_0_0_0)) (window b.lam ![0, 0, 512] ![1, 1, 512] inb_S1x1x1024_S1x1x512_0_0_512)
    (window s.carry ![0, 0] ![8, 512] inb_S8x1024_S8x512_0_0, window s.carry ![0, 512] ![8, 512] inb_S8x1024_S8x512_0_512)
    (k0_pay41 b.dy b.ct) (fun q => x.lam (grp j q) (sta q) ^ 8) (fun n q => A8 x j (T + n) q) (fun n q => x.src (grp j q) (sta q) (T + n)) ?_ ?_ ?_ ?_ ?_ ?_ 48 le_rfl
  · unfold scanned
    rw [trips_eq]
    refine ⟨fun r q => (key.1 r q).trans ?_, fun r q => (key.2.1 r q).trans ?_, fun r q => (key.2.2 r q).trans ?_⟩
    · simp only [show 384 - 8 * 48 + r.val = r.val by omega]
    · simp only [show 384 - 8 * 48 + r.val = r.val by omega]
    · rw [if_pos (by omega)]
      simp only [A8, grp_mod, sta_mod]
  · intro r q
    rw [pay42_apply, lam_window b.lam 0 (by omega), hb.lam]
    simp only [Nat.zero_add, part, if_pos q.isLt]
  · intro q
    rw [lam_window b.lam 512 (by omega), hb.lam]
    simp only [part, if_neg (show ¬ 512 + q.val < 512 by omega), grp_half, sta_half]
  · intro r q
    show window s.carry ![0, 0] ![8, 512] inb_S8x1024_S8x512_0_0 (ix2 r q) = _
    rw [halves_window s.carry 0 (by omega), hs.carry]
    simp only [Nat.zero_add, part, if_pos q.isLt, Nat.add_assoc]
  · intro r q
    show window s.carry ![0, 512] ![8, 512] inb_S8x1024_S8x512_0_512 (ix2 r q) = _
    rw [halves_window s.carry 512 (by omega), hs.carry]
    simp only [A8, part, if_neg (show ¬ 512 + q.val < 512 by omega), grp_half, sta_half, Nat.add_assoc]
  · intro r q
    rw [pay41_apply]
    simp only [hb.dy, hb.ct, ← EReal.coe_mul]
    rw [← coe_sum, src_eq x j (T + r.val) q]
    simp only [grp_mod, sta_mod]
  · intro n hn q hq
    have := adj8_step (conj (x.lam (grp j q) (sta q))) (x.src (grp j q) (sta q)) (x.src_zero _ _) (T + n)
    simp only [A8, map_pow]
    exact this

include hb hs in
theorem pay59_at (r : Fin 384) (k : Fin 1024) : k0_pay59 (scanned b s).2 s.w (ix2 r k) = ((Pr x j (T + r.val) k.val : ℝ) : EReal) := by
  rw [pay59_apply]
  simp only [(scanned_at hb hs).2.2, hs.w, ← EReal.coe_mul]
  exact (coe_sum _).symm

include hb hs in
/-- What the point leaves for the tile before it. -/
theorem good_step (i : grid0.Coords) : Good x j T (step i b s) where
  carry := fun r q => by
    show k0_pay47 (scanned b s).1.1 (scanned b s).1.2 (ix2 r q) = _
    rw [pay47_apply]
    have hq := q.isLt
    by_cases h : q.val < 512
    · rw [dif_pos h, (scanned_at hb hs).1, part, if_pos h]
    · rw [dif_neg h, (scanned_at hb hs).2.1, part, if_neg h]
      have e1 : grp j (q.val - 512) = grp j q.val := Fin.ext (by show 8 * j.val + (q.val - 512) % 512 / 64 = 8 * j.val + q.val % 512 / 64; omega)
      have e2 : sta (q.val - 512) = sta q.val := Fin.ext (by show (q.val - 512) % 64 = q.val % 64; omega)
      simp only [A8, e1, e2]
  head := fun r k => by
    show k0_pay61 (scanned b s).2 s.w (ix2 r k) = _
    rw [pay61_apply, pay59_at hb hs]
  w := hs.w

theorem tile_word (a : ℕ) (ha : a ≤ 10) (r : ℕ) (hr : r < 384) : (112#32).sle (Scalar.subi 10#32 (BitVec.ofNat 32 a) * 384#32 + BitVec.ofNat 32 r) = decide (112 ≤ 384 * (10 - a) + r) := by
  have e : Scalar.subi 10#32 (BitVec.ofNat 32 a) * 384#32 + BitVec.ofNat 32 r = BitVec.ofNat 32 (384 * (10 - a) + r) := by
    interval_cases a <;> simp only [Scalar.subi, IntOp.subi] <;> apply BitVec.eq_of_toNat_eq <;> simp [BitVec.toNat_add] <;> omega
  rw [e, BitVec.sle]
  have h1 : (BitVec.ofNat 32 (384 * (10 - a) + r)).toInt = ((384 * (10 - a) + r : ℕ) : ℤ) := by
    have hm : (384 * (10 - a) + r) % 2 ^ 32 = 384 * (10 - a) + r := Nat.mod_eq_of_lt (by omega)
    rw [BitVec.toInt_eq_toNat_of_lt (by rw [BitVec.toNat_ofNat, hm]; omega), BitVec.toNat_ofNat, hm]
  have h2 : (112#32).toInt = 112 := by decide
  rw [h1, h2]
  congr 1
  exact propext (by omega)

include hb hs in
/-- The block of the input's gradient the point writes. -/
theorem duOut_at (i : grid0.Coords) (hi : T = 384 * (10 - (i 1).val)) (r : Fin 384) (k : Fin 128) :
    duOut i b s (ix2 r k) = if 112 ≤ T + r.val then b.d (ix2 0 k) * ((x.gy (T + r.val) ⟨128 * j.val + k.val, by omega⟩ : ℝ) : EReal) + ((x.mix (T + r.val) (chanG j k.val) (chanH k.val) : ℝ) : EReal) else 0 := by
  have h10 : (i 1).val ≤ 10 := by have := (i 1).isLt; exact Nat.le_of_lt_succ this
  unfold duOut
  rw [pay1_apply, tile_word _ h10 _ r.isLt, ← hi]
  have e : k0_pay60 (k0_pay39 b.dy) (scanned b s).2 s.w s.head b.d (ix2 r k) = b.d (ix2 0 k) * ((x.gy (T + r.val) ⟨128 * j.val + k.val, by omega⟩ : ℝ) : EReal) + ((x.mix (T + r.val) (chanG j k.val) (chanH k.val) : ℝ) : EReal) := by
    rw [pay60_apply, ← mix_eq, coe_sum]
    have e39 : k0_pay39 b.dy (ix2 r k) = b.dy (ix2 r k) := by pointwise [k0_pay39]
    rw [e39, hb.dy]
    congr 1
    refine Finset.sum_congr rfl fun τ _ => ?_
    have hr := r.isLt
    have hτ := τ.isLt
    unfold prodRow
    by_cases h : r.val + τ.val < 384
    · rw [dif_pos h, pay59_at hb hs]
      simp only [Nat.add_assoc]
    · rw [dif_neg h, dif_pos (by omega), hs.head]
      simp only [show T + 384 + (r.val + τ.val - 384) = T + r.val + τ.val by omega]
  rw [e]
  simp only [decide_eq_true_eq]

end Cert.KernelIdeal.Ssm

end
-- ==== Proof.HostA.lean ====
module

public import proofs.«01_k».proof.Proof.Gen.KernelIdeal.Frame
public import proofs.«01_k».proof.Proof.Math
public import Idealize.ShloMosaic.Lib.Pointwise
public import Idealize.ShloMosaic.Lib.Claim
public import Idealize.ShloMosaic.Lib.StableHlo.RunRead

@[expose] public section

set_option maxRecDepth 65536

noncomputable section

namespace Cert.KernelIdeal.Ssm

open Idealize.ShloMosaic
open Cert.KernelIdeal.Gen Cert.Ssm
open ComplexConjugate

/-! ## The arrays the host lines before the call leave, at an index -/

variable (m : (ℓ : Loc nD τ sig) → Buf (Elt Ideal) ℓ) (c : Dev nD)

/-- The host lines before the call. -/
abbrev ops : List (HloOp τ sig (Elt Ideal)) := List.flatten [hostOps0, hostOps0_1, hostOps0_2]

/-- What memory holds at launch, as real arrays. -/
structure Reads (x : Par) : Prop where
  dy : ∀ r k, (m (c, Proc.devRef .tc main_arg2) : S4112x1024.Idx → EReal) (ix2 r k) = ((x.dy r k : ℝ) : EReal)
  lamRe : ∀ g p, (m (c, Proc.devRef .tc main_arg3) : S64x64.Idx → EReal) (ix2 g p) = ((x.lamRe g p : ℝ) : EReal)
  lamIm : ∀ g p, (m (c, Proc.devRef .tc main_arg4) : S64x64.Idx → EReal) (ix2 g p) = ((x.lamIm g p : ℝ) : EReal)
  logStep : ∀ g, (m (c, Proc.devRef .tc main_arg5) : S64.Idx → EReal) (ix1 g) = ((x.logStep g : ℝ) : EReal)
  bRe : ∀ g p h, (m (c, Proc.devRef .tc main_arg6) : S64x64x16.Idx → EReal) (ix3 g p h) = ((x.bRe g p h : ℝ) : EReal)
  bIm : ∀ g p h, (m (c, Proc.devRef .tc main_arg7) : S64x64x16.Idx → EReal) (ix3 g p h) = ((x.bIm g p h : ℝ) : EReal)
  cRe : ∀ g h p, (m (c, Proc.devRef .tc main_arg8) : S64x16x64.Idx → EReal) (ix3 g h p) = ((x.cRe g h p : ℝ) : EReal)
  cIm : ∀ g h p, (m (c, Proc.devRef .tc main_arg9) : S64x16x64.Idx → EReal) (ix3 g h p) = ((x.cIm g h p : ℝ) : EReal)
  den : ∀ g p, x.den g p ≠ 0

/-- After the lines that make the poles and the input weights, -/
def X1 : Valuation τ sig (Elt Ideal) := StableHlo.after (ops.take 48) (fun b => m (c, b))
/-- after the powers of the poles, -/
def X2 : Valuation τ sig (Elt Ideal) := StableHlo.after ((ops.drop 48).take 48) (X1 m c)
/-- and after these are stacked. -/
def X3 : Valuation τ sig (Elt Ideal) := StableHlo.after ((ops.drop 96).take 20) (X2 m c)

theorem V_eq (b : Ref sig .tc) : V m c b = StableHlo.after (ops.drop 116) (X3 m c) (Proc.devRef .tc b) := by
  have e : (ops : List (HloOp τ sig (Elt Ideal))) = ops.take 48 ++ ((ops.drop 48).take 48 ++ ((ops.drop 96).take 20 ++ ops.drop 116)) := rfl
  show StableHlo.after ops _ _ = _
  unfold X3 X2 X1
  rw [← StableHlo.after_append, ← StableHlo.after_append, ← StableHlo.after_append]
  exact congrFun (congrFun (congrArg StableHlo.after e) _) _

section
variable {m c} {x : Par} (hx : Reads m c x)
include hx

set_option maxHeartbeats 4000000

theorem lam_X1 (g p : Fin 64) : (X1 m c (Proc.devRef .tc main_v8) : S64x64.Idx → EReal) (ix2 g p) = (((x.lam g p).re : ℝ) : EReal) ∧ (X1 m c (Proc.devRef .tc main_v12) : S64x64.Idx → EReal) (ix2 g p) = (((x.lam g p).im : ℝ) : EReal) := by
  unfold X1
  refine ⟨?_, ?_⟩ <;>
  · after_reads_simp
    pointwise []
    simp only [hx.lamRe, hx.lamIm, hx.logStep, Ideal.exp_coe, ← EReal.coe_mul, Ideal.cos_coe, Ideal.sin_coe]
    rfl

theorem bb_X1 (g : Fin 64) (h : Fin 16) (p : Fin 64) : (X1 m c (Proc.devRef .tc main_v36) : S64x16x64.Idx → EReal) (ix3 g h p) = (((x.bb g p h).re : ℝ) : EReal) ∧ (X1 m c (Proc.devRef .tc main_v41) : S64x16x64.Idx → EReal) (ix3 g h p) = (((x.bb g p h).im : ℝ) : EReal) := by
  have hd : x.lamRe g p * x.lamRe g p + x.lamIm g p * x.lamIm g p ≠ 0 := hx.den g p
  unfold X1
  refine ⟨?_, ?_⟩ <;>
  · after_reads_simp
    pointwise []
    simp only [hx.lamRe, hx.lamIm, hx.logStep, hx.bRe, hx.bIm, Ideal.exp_coe, ← EReal.coe_mul, Ideal.cos_coe, Ideal.sin_coe, ← EReal.coe_add, ← EReal.coe_one, ← EReal.coe_sub, Ideal.div_coe hd]
    rfl

theorem one_X1 (g p : Fin 64) : (X1 m c (Proc.devRef .tc main_v42) : S64x64.Idx → EReal) (ix2 g p) = ((1 : ℝ) : EReal) ∧ (X1 m c (Proc.devRef .tc main_v43) : S64x64.Idx → EReal) (ix2 g p) = ((0 : ℝ) : EReal) := by
  unfold X1
  refine ⟨?_, ?_⟩ <;>
  · after_reads_simp
    pointwise []
    rfl
end

/-- A complex power by its parts. -/
def pw (a b r i : EReal) : ℕ → EReal × EReal
  | 0 => (r, i)
  | k + 1 => ((pw a b r i k).1 * a - (pw a b r i k).2 * b, (pw a b r i k).1 * b + (pw a b r i k).2 * a)

theorem pw_coe (l : ℂ) (k : ℕ) : pw ((l.re : ℝ) : EReal) ((l.im : ℝ) : EReal) ((1 : ℝ) : EReal) ((0 : ℝ) : EReal) k = ((((l ^ k).re : ℝ) : EReal), (((l ^ k).im : ℝ) : EReal)) := by
  induction k with
  | zero => simp [pw]
  | succ k ih =>
    rw [pw, ih, pow_succ, Complex.mul_re, Complex.mul_im]
    simp only [← EReal.coe_mul, ← EReal.coe_add, ← EReal.coe_sub]

section
variable (Y : Valuation τ sig (Elt Ideal))
set_option maxHeartbeats 4000000

/-- The lines of the powers, read at an index. -/
theorem pow_reads (i : S64x64.Idx) :
    (StableHlo.after ((ops.drop 48).take 48) Y (Proc.devRef .tc main_v42) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 0).1
    ∧ (StableHlo.after ((ops.drop 48).take 48) Y (Proc.devRef .tc main_v43) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 0).2
    ∧ (StableHlo.after ((ops.drop 48).take 48) Y (Proc.devRef .tc main_v46) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 1).1
    ∧ (StableHlo.after ((ops.drop 48).take 48) Y (Proc.devRef .tc main_v49) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 1).2
    ∧ (StableHlo.after ((ops.drop 48).take 48) Y (Proc.devRef .tc main_v52) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 2).1
    ∧ (StableHlo.after ((ops.drop 48).take 48) Y (Proc.devRef .tc main_v55) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 2).2
    ∧ (StableHlo.after ((ops.drop 48).take 48) Y (Proc.devRef .tc main_v58) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 3).1
    ∧ (StableHlo.after ((ops.drop 48).take 48) Y (Proc.devRef .tc main_v61) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 3).2
    ∧ (StableHlo.after ((ops.drop 48).take 48) Y (Proc.devRef .tc main_v64) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 4).1
    ∧ (StableHlo.after ((ops.drop 48).take 48) Y (Proc.devRef .tc main_v67) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 4).2
    ∧ (StableHlo.after ((ops.drop 48).take 48) Y (Proc.devRef .tc main_v70) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 5).1
    ∧ (StableHlo.after ((ops.drop 48).take 48) Y (Proc.devRef .tc main_v73) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 5).2
    ∧ (StableHlo.after ((ops.drop 48).take 48) Y (Proc.devRef .tc main_v76) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 6).1
    ∧ (StableHlo.after ((ops.drop 48).take 48) Y (Proc.devRef .tc main_v79) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 6).2
    ∧ (StableHlo.after ((ops.drop 48).take 48) Y (Proc.devRef .tc main_v82) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 7).1
    ∧ (StableHlo.after ((ops.drop 48).take 48) Y (Proc.devRef .tc main_v85) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 7).2
    ∧ (StableHlo.after ((ops.drop 48).take 48) Y (Proc.devRef .tc main_v88) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 8).1
    ∧ (StableHlo.after ((ops.drop 48).take 48) Y (Proc.devRef .tc main_v91) : S64x64.Idx → EReal) i = (pw ((Y (Proc.devRef .tc main_v8) : S64x64.Idx → EReal) i) ((Y (Proc.devRef .tc main_v12) : S64x64.Idx → EReal) i) ((Y (Proc.devRef .tc main_v42) : S64x64.Idx → EReal) i) ((Y (Proc.devRef .tc main_v43) : S64x64.Idx → EReal) i) 8).2 := by
  refine ⟨?_, ?_, ?_, ?_, ?_, ?_, ?_, ?_, ?_, ?_, ?_, ?_, ?_, ?_, ?_, ?_, ?_, ?_⟩ <;>
  · after_reads_simp
    rfl

/-- The powers stacked. -/
theorem stack_reads (t : Fin 8) (g p : Fin 64) :
    (StableHlo.after ((ops.drop 96).take 20) Y (Proc.devRef .tc main_v101) : S8x64x1x64.Idx → EReal) (ix4 t g 0 p) = (![(Y (Proc.devRef .tc main_v42) : S64x64.Idx → EReal), (Y (Proc.devRef .tc main_v46) : S64x64.Idx → EReal), (Y (Proc.devRef .tc main_v52) : S64x64.Idx → EReal), (Y (Proc.devRef .tc main_v58) : S64x64.Idx → EReal), (Y (Proc.devRef .tc main_v64) : S64x64.Idx → EReal), (Y (Proc.devRef .tc main_v70) : S64x64.Idx → EReal), (Y (Proc.devRef .tc main_v76) : S64x64.Idx → EReal), (Y (Proc.devRef .tc main_v82) : S64x64.Idx → EReal) ] : Fin 8 → S64x64.Idx → EReal) t (ix2 g p)
    ∧ (StableHlo.after ((ops.drop 96).take 20) Y (Proc.devRef .tc main_v111) : S8x64x1x64.Idx → EReal) (ix4 t g 0 p) = (![(Y (Proc.devRef .tc main_v43) : S64x64.Idx → EReal), (Y (Proc.devRef .tc main_v49) : S64x64.Idx → EReal), (Y (Proc.devRef .tc main_v55) : S64x64.Idx → EReal), (Y (Proc.devRef .tc main_v61) : S64x64.Idx → EReal), (Y (Proc.devRef .tc main_v67) : S64x64.Idx → EReal), (Y (Proc.devRef .tc main_v73) : S64x64.Idx → EReal), (Y (Proc.devRef .tc main_v79) : S64x64.Idx → EReal), (Y (Proc.devRef .tc main_v85) : S64x64.Idx → EReal) ] : Fin 8 → S64x64.Idx → EReal) t (ix2 g p) := by
  fin_cases t <;> refine ⟨?_, ?_⟩ <;>
  · after_reads_simp
    pointwise []
    after_reads_simp
    pointwise []
    all_goals rfl

end

end Cert.KernelIdeal.Ssm

end
-- ==== Proof.HostB.lean ====
module

public import proofs.«01_k».proof.Proof.HostA

@[expose] public section

set_option maxRecDepth 65536

noncomputable section

namespace Cert.KernelIdeal.Ssm

open Idealize.ShloMosaic
open Cert.KernelIdeal.Gen Cert.Ssm
open ComplexConjugate

section
variable (Y : Valuation τ sig (Elt Ideal))
set_option maxHeartbeats 1000000

/-- A read, as an extended real. -/
abbrev rd (z : EReal) : EReal := z

theorem eye_word (a b : ℕ) (ha : a < 8) (hb : b < 8) :
    (FloatOps.uitofp (F := Ideal) .f32 (IntOp.cmpi .eq (IntOp.addi (BitVec.ofNat 32 a) 0#32) (BitVec.ofNat 32 b)) : EReal) = if a = b then (1 : EReal) else 0 := by
  have e : BitVec.ofNat 32 a + 0#32 = BitVec.ofNat 32 b ↔ a = b := by
    constructor
    · intro h
      have := congrArg BitVec.toNat h
      simp only [BitVec.toNat_add, BitVec.toNat_ofNat] at this
      omega
    · rintro rfl; simp
  by_cases h : a = b
  · rw [if_pos h]
    have h' := e.mpr h
    simp only [IntOp.cmpi, IntOp.addi, h']
    simp [FloatOps.uitofp]
  · rw [if_neg h]
    have h' : (BitVec.ofNat 32 a + 0#32 == BitVec.ofNat 32 b) = false := by
      rw [beq_eq_false_iff_ne]; exact fun hh => h (e.mp hh)
    simp only [IntOp.cmpi, IntOp.addi, h']
    simp [FloatOps.uitofp]

theorem wc_reads (pw : Fin 8 → Fin 64 → Fin 64 → ℂ) (bb : Fin 64 → Fin 64 → Fin 16 → ℂ)
    (h1 : ∀ t g p, (Y (Proc.devRef .tc main_v101) : S8x64x1x64.Idx → EReal) (ix4 t g 0 p) = (((pw t g p).re : ℝ) : EReal)) (h2 : ∀ t g p, (Y (Proc.devRef .tc main_v111) : S8x64x1x64.Idx → EReal) (ix4 t g 0 p) = (((pw t g p).im : ℝ) : EReal))
    (h3 : ∀ g h p, (Y (Proc.devRef .tc main_v36) : S64x16x64.Idx → EReal) (ix3 g h p) = (((bb g p h).re : ℝ) : EReal)) (h4 : ∀ g h p, (Y (Proc.devRef .tc main_v41) : S64x16x64.Idx → EReal) (ix3 g h p) = (((bb g p h).im : ℝ) : EReal))
    (j : Fin 8) (k : Fin 1024) (q : Fin 128) :
    rd ((StableHlo.after (ops.drop 116) Y (Proc.devRef .tc main_v133) : S8x1024x128.Idx → EReal) (ix3 j k q)) =
      ((if q.val / 64 < 1 then (pw ⟨k.val / 128, by omega⟩ ⟨j.val * 8 + k.val % 128 / 16, by omega⟩ ⟨q.val % 64, by omega⟩ * bb ⟨j.val * 8 + k.val % 128 / 16, by omega⟩ ⟨q.val % 64, by omega⟩ ⟨k.val % 128 % 16, by omega⟩).re else (pw ⟨k.val / 128, by omega⟩ ⟨j.val * 8 + k.val % 128 / 16, by omega⟩ ⟨q.val % 64, by omega⟩ * bb ⟨j.val * 8 + k.val % 128 / 16, by omega⟩ ⟨q.val % 64, by omega⟩ ⟨k.val % 128 % 16, by omega⟩).im : ℝ) : EReal) := by
  after_reads_simp
  pointwise []
  after_reads_simp
  pointwise []
  simp only [h1, h2, h3, h4]
  by_cases h : q.val / 64 < 1
  · simp only [h, ↓reduceDIte, ↓reduceIte, Complex.mul_re, EReal.coe_sub, EReal.coe_mul]
  · simp only [h, ↓reduceDIte, ↓reduceIte, Complex.mul_im, EReal.coe_add, EReal.coe_mul]

theorem ct_reads (cRe cIm : Fin 64 → Fin 16 → Fin 64 → ℝ)
    (h1 : ∀ g h p, (Y (Proc.devRef .tc main_arg8) : S64x16x64.Idx → EReal) (ix3 g h p) = ((cRe g h p : ℝ) : EReal)) (h2 : ∀ g h p, (Y (Proc.devRef .tc main_arg9) : S64x16x64.Idx → EReal) (ix3 g h p) = ((cIm g h p : ℝ) : EReal))
    (j : Fin 8) (k : Fin 128) (q : Fin 1024) :
    rd ((StableHlo.after (ops.drop 116) Y (Proc.devRef .tc main_v154) : S8x128x1024.Idx → EReal) (ix3 j k q)) =
      (((if q.val / 512 < 1 then cRe ⟨j.val * 8 + k.val / 16, by omega⟩ ⟨k.val % 16, by omega⟩ ⟨q.val % 64, by omega⟩ else -cIm ⟨j.val * 8 + k.val / 16, by omega⟩ ⟨k.val % 16, by omega⟩ ⟨q.val % 64, by omega⟩) * if k.val / 16 = q.val / 64 % 8 then 1 else 0 : ℝ) : EReal) := by
  after_reads_simp
  pointwise []
  after_reads_simp
  pointwise []
  simp only [h1, h2]
  have e := eye_word (k.val / 16) (q.val / 64 % 8) (by omega) (by omega)
  simp only [e]
  by_cases h : q.val / 512 < 1 <;> by_cases h' : k.val / 16 = q.val / 64 % 8 <;>
    simp only [h, h', ↓reduceDIte, ↓reduceIte, EReal.coe_mul, EReal.coe_neg, EReal.coe_one, EReal.coe_zero]

theorem lam_reads (L : Fin 64 → Fin 64 → ℂ)
    (h1 : ∀ g p, (Y (Proc.devRef .tc main_v88) : S64x64.Idx → EReal) (ix2 g p) = (((L g p).re : ℝ) : EReal)) (h2 : ∀ g p, (Y (Proc.devRef .tc main_v91) : S64x64.Idx → EReal) (ix2 g p) = (((L g p).im : ℝ) : EReal))
    (j : Fin 8) (q : Fin 1024) :
    rd ((StableHlo.after (ops.drop 116) Y (Proc.devRef .tc main_v152) : S8x1x1024.Idx → EReal) (ix3 j 0 q)) = ((if h : q.val < 512 then (L ⟨j.val * 8 + q.val / 64, by omega⟩ ⟨q.val % 64, by omega⟩).re else (L ⟨j.val * 8 + (q.val - 512) / 64, by omega⟩ ⟨(q.val - 512) % 64, by omega⟩).im : ℝ) : EReal) := by
  after_reads_simp
  pointwise []
  simp only [h1, h2]
  by_cases h : q.val < 512 <;> simp only [h, ↓reduceDIte]

theorem dy_reads (dy : Fin 4112 → Fin 1024 → ℝ) (A : S4112x1024.Idx → EReal) (hA : Y (Proc.devRef .tc main_arg2) = A) (h1 : ∀ r k, A (ix2 r k) = ((dy r k : ℝ) : EReal)) (r : Fin 4224) (k : Fin 1024) :
    rd ((StableHlo.after (ops.drop 116) Y (Proc.devRef .tc main_v153) : S4224x1024.Idx → EReal) (ix2 r k)) = ((if h : 112 ≤ r.val then dy ⟨r.val - 112, by omega⟩ k else 0 : ℝ) : EReal) := by
  after_reads_simp
  rw [hA]
  change pad (s := S4112x1024) (α := EReal) S4224x1024 ![112, 0] ![0, 0] ![0, 0] A (sitofp (F := Ideal) .f32 (constantI S_ 32 0#32)) pads_S4112x1024_S4224x1024_11200_000 h_S_ (ix2 r k) = _
  pointwise []
  by_cases h : 112 ≤ r.val
  · rw [dif_pos ⟨h, by omega⟩, dif_pos h, h1]
  · rw [dif_neg (fun g => h g.1), dif_neg h]
    simp [FloatOps.sitofp]

end

end Cert.KernelIdeal.Ssm

end
-- ==== Proof.HostC.lean ====
module

public import proofs.«01_k».proof.Proof.HostB

@[expose] public section

set_option maxRecDepth 65536

noncomputable section

namespace Cert.KernelIdeal.Ssm

open Idealize.ShloMosaic
open Cert.KernelIdeal.Gen Cert.Ssm
open ComplexConjugate

/-! ## The call's operands out of the parameters -/

variable {m : (ℓ : Loc nD τ sig) → Buf (Elt Ideal) ℓ} {c : Dev nD} {x : Par} (hx : Reads m c x)
include hx

set_option maxHeartbeats 1000000

theorem pow_X2 (g p : Fin 64) :
    (X2 m c (Proc.devRef .tc main_v42) : S64x64.Idx → EReal) (ix2 g p) = (((x.lam g p ^ 0).re : ℝ) : EReal)
    ∧ (X2 m c (Proc.devRef .tc main_v43) : S64x64.Idx → EReal) (ix2 g p) = (((x.lam g p ^ 0).im : ℝ) : EReal)
    ∧ (X2 m c (Proc.devRef .tc main_v46) : S64x64.Idx → EReal) (ix2 g p) = (((x.lam g p ^ 1).re : ℝ) : EReal)
    ∧ (X2 m c (Proc.devRef .tc main_v49) : S64x64.Idx → EReal) (ix2 g p) = (((x.lam g p ^ 1).im : ℝ) : EReal)
    ∧ (X2 m c (Proc.devRef .tc main_v52) : S64x64.Idx → EReal) (ix2 g p) = (((x.lam g p ^ 2).re : ℝ) : EReal)
    ∧ (X2 m c (Proc.devRef .tc main_v55) : S64x64.Idx → EReal) (ix2 g p) = (((x.lam g p ^ 2).im : ℝ) : EReal)
    ∧ (X2 m c (Proc.devRef .tc main_v58) : S64x64.Idx → EReal) (ix2 g p) = (((x.lam g p ^ 3).re : ℝ) : EReal)
    ∧ (X2 m c (Proc.devRef .tc main_v61) : S64x64.Idx → EReal) (ix2 g p) = (((x.lam g p ^ 3).im : ℝ) : EReal)
    ∧ (X2 m c (Proc.devRef .tc main_v64) : S64x64.Idx → EReal) (ix2 g p) = (((x.lam g p ^ 4).re : ℝ) : EReal)
    ∧ (X2 m c (Proc.devRef .tc main_v67) : S64x64.Idx → EReal) (ix2 g p) = (((x.lam g p ^ 4).im : ℝ) : EReal)
    ∧ (X2 m c (Proc.devRef .tc main_v70) : S64x64.Idx → EReal) (ix2 g p) = (((x.lam g p ^ 5).re : ℝ) : EReal)
    ∧ (X2 m c (Proc.devRef .tc main_v73) : S64x64.Idx → EReal) (ix2 g p) = (((x.lam g p ^ 5).im : ℝ) : EReal)
    ∧ (X2 m c (Proc.devRef .tc main_v76) : S64x64.Idx → EReal) (ix2 g p) = (((x.lam g p ^ 6).re : ℝ) : EReal)
    ∧ (X2 m c (Proc.devRef .tc main_v79) : S64x64.Idx → EReal) (ix2 g p) = (((x.lam g p ^ 6).im : ℝ) : EReal)
    ∧ (X2 m c (Proc.devRef .tc main_v82) : S64x64.Idx → EReal) (ix2 g p) = (((x.lam g p ^ 7).re : ℝ) : EReal)
    ∧ (X2 m c (Proc.devRef .tc main_v85) : S64x64.Idx → EReal) (ix2 g p) = (((x.lam g p ^ 7).im : ℝ) : EReal)
    ∧ (X2 m c (Proc.devRef .tc main_v88) : S64x64.Idx → EReal) (ix2 g p) = (((x.lam g p ^ 8).re : ℝ) : EReal)
    ∧ (X2 m c (Proc.devRef .tc main_v91) : S64x64.Idx → EReal) (ix2 g p) = (((x.lam g p ^ 8).im : ℝ) : EReal) := by
  have h := pow_reads (X1 m c) (ix2 g p)
  simp only [(lam_X1 hx g p).1, (lam_X1 hx g p).2, (one_X1 hx g p).1, (one_X1 hx g p).2, pw_coe] at h
  exact h

theorem stack_X3 (t : Fin 8) (g p : Fin 64) :
    (X3 m c (Proc.devRef .tc main_v101) : S8x64x1x64.Idx → EReal) (ix4 t g 0 p) = (((x.lam g p ^ t.val).re : ℝ) : EReal)
    ∧ (X3 m c (Proc.devRef .tc main_v111) : S8x64x1x64.Idx → EReal) (ix4 t g 0 p) = (((x.lam g p ^ t.val).im : ℝ) : EReal) := by
  obtain ⟨a0, b0, a1, b1, a2, b2, a3, b3, a4, b4, a5, b5, a6, b6, a7, b7, _, _⟩ := pow_X2 hx g p
  obtain ⟨h1, h2⟩ := stack_reads (X2 m c) t g p
  refine ⟨h1.trans ?_, h2.trans ?_⟩
  · fin_cases t
    exacts [a0, a1, a2, a3, a4, a5, a6, a7]
  · fin_cases t
    exacts [b0, b1, b2, b3, b4, b5, b6, b7]

omit hx in
theorem keep_X3 : X3 m c (Proc.devRef .tc main_v36) = X1 m c (Proc.devRef .tc main_v36) ∧ X3 m c (Proc.devRef .tc main_v41) = X1 m c (Proc.devRef .tc main_v41)
    ∧ X3 m c (Proc.devRef .tc main_v88) = X2 m c (Proc.devRef .tc main_v88) ∧ X3 m c (Proc.devRef .tc main_v91) = X2 m c (Proc.devRef .tc main_v91) := by
  unfold X3
  refine ⟨?_, ?_, ?_, ?_⟩
  · after_reads_simp; unfold X2; after_reads_simp
  · after_reads_simp; unfold X2; after_reads_simp
  · after_reads_simp
  · after_reads_simp

omit hx in
theorem args_X3 : X3 m c (Proc.devRef .tc main_arg2) = m (c, Proc.devRef .tc main_arg2) ∧ X3 m c (Proc.devRef .tc main_arg8) = m (c, Proc.devRef .tc main_arg8)
    ∧ X3 m c (Proc.devRef .tc main_arg9) = m (c, Proc.devRef .tc main_arg9) := by
  unfold X3 X2 X1
  refine ⟨?_, ?_, ?_⟩ <;> after_reads_simp

theorem wc_val (j : Fin 8) (k : Fin 1024) (q : Fin 128) :
    rd ((V m c main_v133 : S8x1024x128.Idx → EReal) (ix3 j k q)) =
      ((if q.val / 64 < 1 then (x.lam ⟨j.val * 8 + k.val % 128 / 16, by omega⟩ ⟨q.val % 64, by omega⟩ ^ (k.val / 128) * x.bb ⟨j.val * 8 + k.val % 128 / 16, by omega⟩ ⟨q.val % 64, by omega⟩ ⟨k.val % 128 % 16, by omega⟩).re else (x.lam ⟨j.val * 8 + k.val % 128 / 16, by omega⟩ ⟨q.val % 64, by omega⟩ ^ (k.val / 128) * x.bb ⟨j.val * 8 + k.val % 128 / 16, by omega⟩ ⟨q.val % 64, by omega⟩ ⟨k.val % 128 % 16, by omega⟩).im : ℝ) : EReal) := by
  rw [V_eq]
  exact wc_reads (X3 m c) (fun t g p => x.lam g p ^ t.val) x.bb (fun t g p => (stack_X3 hx t g p).1) (fun t g p => (stack_X3 hx t g p).2)
    (fun g h p => (congrFun keep_X3.1 _).trans (bb_X1 hx g h p).1) (fun g h p => (congrFun keep_X3.2.1 _).trans (bb_X1 hx g h p).2) j k q

theorem ct_val (j : Fin 8) (k : Fin 128) (q : Fin 1024) :
    rd ((V m c main_v154 : S8x128x1024.Idx → EReal) (ix3 j k q)) =
      (((if q.val / 512 < 1 then x.cRe ⟨j.val * 8 + k.val / 16, by omega⟩ ⟨k.val % 16, by omega⟩ ⟨q.val % 64, by omega⟩ else -x.cIm ⟨j.val * 8 + k.val / 16, by omega⟩ ⟨k.val % 16, by omega⟩ ⟨q.val % 64, by omega⟩) * if k.val / 16 = q.val / 64 % 8 then 1 else 0 : ℝ) : EReal) := by
  rw [V_eq]
  exact ct_reads (X3 m c) x.cRe x.cIm (fun g h p => (congrFun args_X3.2.1 _).trans (hx.cRe g h p)) (fun g h p => (congrFun args_X3.2.2 _).trans (hx.cIm g h p)) j k q

theorem lam_val (j : Fin 8) (q : Fin 1024) :
    rd ((V m c main_v152 : S8x1x1024.Idx → EReal) (ix3 j 0 q)) = ((part (x.lam ⟨8 * j.val + q.val % 512 / 64, by omega⟩ ⟨q.val % 64, by omega⟩ ^ 8) q.val : ℝ) : EReal) := by
  rw [V_eq]
  refine (lam_reads (X3 m c) (fun g p => x.lam g p ^ 8) (fun g p => ?_) (fun g p => ?_) j q).trans (congrArg _ ?_)
  · obtain ⟨_, _, _, _, _, _, _, _, _, _, _, _, _, _, _, _, h, _⟩ := pow_X2 hx g p
    exact (congrFun keep_X3.2.2.1 _).trans h
  · obtain ⟨_, _, _, _, _, _, _, _, _, _, _, _, _, _, _, _, _, h⟩ := pow_X2 hx g p
    exact (congrFun keep_X3.2.2.2 _).trans h
  · have hq := q.isLt
    by_cases h : q.val < 512
    · rw [dif_pos h, part, if_pos h]
      simp only [show j.val * 8 + q.val / 64 = 8 * j.val + q.val % 512 / 64 by omega]
    · rw [dif_neg h, part, if_neg h]
      simp only [show j.val * 8 + (q.val - 512) / 64 = 8 * j.val + q.val % 512 / 64 by omega, show (q.val - 512) % 64 = q.val % 64 by omega]

theorem dy_val (r : Fin 4224) (k : Fin 1024) :
    rd ((V m c main_v153 : S4224x1024.Idx → EReal) (ix2 r k)) = ((x.gy r.val k : ℝ) : EReal) := by
  rw [V_eq]
  refine (dy_reads (X3 m c) x.dy (m (c, Proc.devRef .tc main_arg2)) args_X3.1 hx.dy r k).trans (congrArg _ ?_)
  unfold Par.gy
  by_cases h : 112 ≤ r.val
  · rw [dif_pos h, dif_pos ⟨h, r.isLt⟩]
  · rw [dif_neg h, dif_neg (fun g => h g.1)]

end Cert.KernelIdeal.Ssm

end
-- ==== Proof.RunA.lean ====
module

public import proofs.«01_k».proof.Proof.Spec

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 4000000 in
/-- The body at a sweep's first tile: it starts the carried state and takes one step. -/
theorem runA (c : Dev nD) (i : grid0.Coords) (arg2 : Memref sig .tc .vmem S384x128 .f32) (harg2 : arg2.IsWhole) (arg3 : Memref sig .tc .vmem S8x128 .f32) (harg3 : arg3.IsWhole) (arg4 : Memref sig .tc .vmem S384x1024 .f32) (harg4 : arg4.IsWhole) (arg5 : Memref sig .tc .vmem S8x1024 .f32) (harg5 : arg5.IsWhole) (arg6 : Memref sig .tc .vmem S384x128 .f32) (harg6 : arg6.IsWhole) (arg7 : Memref sig .tc .vmem S1x1024x128 .f32) (harg7 : arg7.IsWhole) (arg8 : Memref sig .tc .vmem S1x128x1024 .bf16) (harg8 : arg8.IsWhole) (arg9 : Memref sig .tc .vmem S1x1x1024 .f32) (harg9 : arg9.IsWhole) (arg10 : Memref sig .tc .vmem S1x128 .f32) (harg10 : arg10.IsWhole) (arg11 : Memref sig .tc .vmem S384x128 .bf16) (harg11 : arg11.IsWhole) (arg12 : Memref sig .tc .vmem S1x1024x128 .f32) (harg12 : arg12.IsWhole) (arg13 : Memref sig .tc .vmem S1x128x1024 .f32) (harg13 : arg13.IsWhole) (arg14 : Memref sig .tc .vmem S1x1x1024 .f32) (harg14 : arg14.IsWhole) (arg15 : Memref sig .tc .vmem S1x128 .f32) (harg15 : arg15.IsWhole) (arg16 : Memref sig .tc .vmem S384x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S1024x1024 .bf16) (harg19 : arg19.IsWhole) (arg20 : Memref sig .tc .vmem S1024x1024 .f32) (harg20 : arg20.IsWhole) (hc0 : cond0 i) (hc1 : ¬cond1 i)
    (b : Blk F) (x12 : Vec F S1x1024x128 .f32) (E : Set ℕ) (K : PUnit → sProp 𝕄) :
    iprop(owns (c : Thread nD τ) arg2 fullShare b.u ∗ owns (c : Thread nD τ) arg3 fullShare b.up ∗ owns (c : Thread nD τ) arg4 fullShare b.xs ∗ owns (c : Thread nD τ) arg5 fullShare b.xp ∗ owns (c : Thread nD τ) arg6 fullShare b.dy ∗ owns (c : Thread nD τ) arg7 fullShare b.wc ∗ owns (c : Thread nD τ) arg8 fullShare b.ct ∗ owns (c : Thread nD τ) arg9 fullShare b.lam ∗ owns (c : Thread nD τ) arg10 fullShare b.d ∗ owns (c : Thread nD τ) arg12 fullShare x12 ∗ (∃ d, owns (c : Thread nD τ) arg11 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare b.u ∗ owns (c : Thread nD τ) arg3 fullShare b.up ∗ owns (c : Thread nD τ) arg4 fullShare b.xs ∗ owns (c : Thread nD τ) arg5 fullShare b.xp ∗ owns (c : Thread nD τ) arg6 fullShare b.dy ∗ owns (c : Thread nD τ) arg7 fullShare b.wc ∗ owns (c : Thread nD τ) arg8 fullShare b.ct ∗ owns (c : Thread nD τ) arg9 fullShare b.lam ∗ owns (c : Thread nD τ) arg10 fullShare b.d ∗ owns (c : Thread nD τ) arg17 fullShare (step i b (start b.wc)).carry ∗ owns (c : Thread nD τ) arg18 fullShare (step i b (start b.wc)).head ∗ owns (c : Thread nD τ) arg19 fullShare (step i b (start b.wc)).w ∗ owns (c : Thread nD τ) arg20 fullShare (step i b (start b.wc)).dw ∗ owns (c : Thread nD τ) arg13 fullShare (step i b (start b.wc)).dc ∗ owns (c : Thread nD τ) arg14 fullShare (step i b (start b.wc)).dl ∗ owns (c : Thread nD τ) arg15 fullShare (step i b (start b.wc)).dd ∗ owns (c : Thread nD τ) arg12 fullShare x12 ∗ owns (c : Thread nD τ) arg11 fullShare (duOut i b (start b.wc)) ∗ (∃ d, owns (c : Thread nD τ) arg16 fullShare d)) -∗ K ⟨⟩))
      ⊢ wp frame (wpE (defs₀ (F := F)) Variants.none c none) E (cc0_ssm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ssm_bwd_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]; unfold cc0_ssm_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%d11, %f11, -, H11⟩, ⟨%d16, %f16, -, H16⟩, ⟨%d17, %f17, -, H17⟩, ⟨%d18, %f18, -, H18⟩, ⟨%d19, %f19, -, H19⟩, ⟨%d20, %f20, -, H20⟩, ⟨%d13, %f13, -, H13⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12
  have e2 : View.readAt (Elt F) arg2.view (Rect.unit ![0, 0] ![384, 128] inb_S384x128_S384x128_0_0).toLoadRect (harg2.unread (b.u)) = b.u := (View.readAt_full _ _ _).trans (harg2.read_unread _)
  have e3 : View.readAt (Elt F) arg3.view (Rect.unit ![0, 0] ![8, 128] inb_S8x128_S8x128_0_0).toLoadRect (harg3.unread (b.up)) = b.up := (View.readAt_full _ _ _).trans (harg3.read_unread _)
  have e4 : View.readAt (Elt F) arg4.view (Rect.unit ![0, 0] ![384, 1024] inb_S384x1024_S384x1024_0_0).toLoadRect (harg4.unread (b.xs)) = b.xs := (View.readAt_full _ _ _).trans (harg4.read_unread _)
  have e5 : View.readAt (Elt F) arg5.view (Rect.unit ![0, 0] ![8, 1024] inb_S8x1024_S8x1024_0_0).toLoadRect (harg5.unread (b.xp)) = b.xp := (View.readAt_full _ _ _).trans (harg5.read_unread _)
  have e6 : View.readAt (Elt F) arg6.view (Rect.unit ![0, 0] ![384, 128] inb_S384x128_S384x128_0_0).toLoadRect (harg6.unread (b.dy)) = b.dy := (View.readAt_full _ _ _).trans (harg6.read_unread _)
  have e7 : View.readAt (Elt F) arg7.view (Rect.unit ![0, 0, 0] ![1, 1024, 128] inb_S1x1024x128_S1x1024x128_0_0_0).toLoadRect (harg7.unread (b.wc)) = b.wc := (View.readAt_full _ _ _).trans (harg7.read_unread _)
  have e8 : View.readAt (Elt F) arg8.view (Rect.unit ![0, 0, 0] ![1, 128, 1024] inb_S1x128x1024_S1x128x1024_0_0_0).toLoadRect (harg8.unread (b.ct)) = b.ct := (View.readAt_full _ _ _).trans (harg8.read_unread _)
  have e10 : View.readAt (Elt F) arg10.view (Rect.unit ![0, 0] ![1, 128] inb_S1x128_S1x128_0_0).toLoadRect (harg10.unread (b.d)) = b.d := (View.readAt_full _ _ _).trans (harg10.read_unread _)
  have e9a : View.readAt (Elt F) arg9.view (Rect.unit ![0, 0, 0] ![1, 1, 512] inb_S1x1x1024_S1x1x512_0_0_0).toLoadRect (harg9.unread (b.lam)) = window (b.lam) ![0, 0, 0] ![1, 1, 512] inb_S1x1x1024_S1x1x512_0_0_0 := (readAt_window _ _ _).trans (by rw [harg9.read_unread])
  have e9b : View.readAt (Elt F) arg9.view (Rect.unit ![0, 0, 512] ![1, 1, 512] inb_S1x1x1024_S1x1x512_0_0_512).toLoadRect (harg9.unread (b.lam)) = window (b.lam) ![0, 0, 512] ![1, 1, 512] inb_S1x1x1024_S1x1x512_0_0_512 := (readAt_window _ _ _).trans (by rw [harg9.read_unread])
  have ec18 : ∀ (x : Vec F S8x1024 .f32), arg18.view.readCov [⟨Rect.unit ![0, 0] ![8, 1024] inb_S8x1024_S8x1024_0_0, x⟩] (Rect.unit ![0, 0] ![8, 1024] inb_S8x1024_S8x1024_0_0).toLoadRect = x := fun x => (View.readAt_full _ _ _).trans (View.read_writes_full _ _ _ _ [])
  have ec19 : ∀ (x : Vec F S1024x1024 .bf16), arg19.view.readCov [⟨Rect.unit ![0, 0] ![1024, 1024] inb_S1024x1024_S1024x1024_0_0, x⟩] (Rect.unit ![0, 0] ![1024, 1024] inb_S1024x1024_S1024x1024_0_0).toLoadRect = x := fun x => (View.readAt_full _ _ _).trans (View.read_writes_full _ _ _ _ [])
  have ec20 : ∀ (x : Vec F S1024x1024 .f32), arg20.view.readCov [⟨Rect.unit ![0, 0] ![1024, 1024] inb_S1024x1024_S1024x1024_0_0, x⟩] (Rect.unit ![0, 0] ![1024, 1024] inb_S1024x1024_S1024x1024_0_0).toLoadRect = x := fun x => (View.readAt_full _ _ _).trans (View.read_writes_full _ _ _ _ [])
  have ec13 : ∀ (x : Vec F S1x128x1024 .f32), arg13.view.readCov [⟨Rect.unit ![0, 0, 0] ![1, 128, 1024] inb_S1x128x1024_S1x128x1024_0_0_0, x⟩] (Rect.unit ![0, 0, 0] ![1, 128, 1024] inb_S1x128x1024_S1x128x1024_0_0_0).toLoadRect = x := fun x => (View.readAt_full _ _ _).trans (View.read_writes_full _ _ _ _ [])
  have ec14 : ∀ (x : Vec F S1x1x1024 .f32), arg14.view.readCov [⟨Rect.unit ![0, 0, 0] ![1, 1, 1024] inb_S1x1x1024_S1x1x1024_0_0_0, x⟩] (Rect.unit ![0, 0, 0] ![1, 1, 1024] inb_S1x1x1024_S1x1x1024_0_0_0).toLoadRect = x := fun x => (View.readAt_full _ _ _).trans (View.read_writes_full _ _ _ _ [])
  have ec15 : ∀ (x : Vec F S1x128 .f32), arg15.view.readCov [⟨Rect.unit ![0, 0] ![1, 128] inb_S1x128_S1x128_0_0, x⟩] (Rect.unit ![0, 0] ![1, 128] inb_S1x128_S1x128_0_0).toLoadRect = x := fun x => (View.readAt_full _ _ _).trans (View.read_writes_full _ _ _ _ [])
  have ec17a : ∀ (x : Vec F S8x1024 .f32), arg17.view.readCov [⟨Rect.unit ![0, 0] ![8, 1024] inb_S8x1024_S8x1024_0_0, x⟩] (Rect.unit ![0, 0] ![8, 512] inb_S8x1024_S8x512_0_0).toLoadRect = window x ![0, 0] ![8, 512] inb_S8x1024_S8x512_0_0 := fun x => (readCov_window _ _ _).trans (by rw [show View.read (Elt F) arg17.view (arg17.view.writes (Elt F) arg17.view.junk [⟨Rect.unit ![0, 0] ![8, 1024] inb_S8x1024_S8x1024_0_0, x⟩]) = x from View.read_writes_full _ _ _ _ []])
  have ec17b : ∀ (x : Vec F S8x1024 .f32), arg17.view.readCov [⟨Rect.unit ![0, 0] ![8, 1024] inb_S8x1024_S8x1024_0_0, x⟩] (Rect.unit ![0, 512] ![8, 512] inb_S8x1024_S8x512_0_512).toLoadRect = window x ![0, 512] ![8, 512] inb_S8x1024_S8x512_0_512 := fun x => (readCov_window _ _ _).trans (by rw [show View.read (Elt F) arg17.view (arg17.view.writes (Elt F) arg17.view.junk [⟨Rect.unit ![0, 0] ![8, 1024] inb_S8x1024_S8x1024_0_0, x⟩]) = x from View.read_writes_full _ _ _ _ []])
  have es1 : ∀ (lr : FVec F S8x512 .f32) (li : Vec F S1x1x512 .f32) (ii : Vec F S8x512 .f32 × Vec F S8x512 .f32) (a : Vec F S384x1024 .f32), (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii (Scf.trips (0#32) (Scalar.addi 0#32 48#32) 1#32)).1 = (scanSt lr li ii a k0_t1_loop.trips).1 := fun lr li ii a => by
    have h := (st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii k0_t1_loop.trips le_rfl).1
    rw [show arg16.view.read (Elt F) (arg16.view.writes (Elt F) arg16.view.junk [⟨Rect.unit ![0, 0] ![384, 1024] inb_S384x1024_S384x1024_0_0, a⟩]) = a from View.read_writes_full _ _ _ _ []] at h
    exact h
  have es2 : ∀ (lr : FVec F S8x512 .f32) (li : Vec F S1x1x512 .f32) (ii : Vec F S8x512 .f32 × Vec F S8x512 .f32) (a : Vec F S384x1024 .f32), arg16.view.readCov ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii (Scf.trips (0#32) (Scalar.addi 0#32 48#32) 1#32)).2 ++ [⟨Rect.unit ![0, 0] ![384, 1024] inb_S384x1024_S384x1024_0_0, a⟩]) (Rect.unit ![0, 0] ![384, 1024] inb_S384x1024_S384x1024_0_0).toLoadRect = (scanSt lr li ii a k0_t1_loop.trips).2 := fun lr li ii a => by
    have h := (st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii k0_t1_loop.trips le_rfl).2
    rw [show arg16.view.read (Elt F) (arg16.view.writes (Elt F) arg16.view.junk [⟨Rect.unit ![0, 0] ![384, 1024] inb_S384x1024_S384x1024_0_0, a⟩]) = a from View.read_writes_full _ _ _ _ [], ← View.writes_append] at h
    exact (View.readAt_full _ _ _).trans h
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H17]
  · iexists _; isplitr; swap; · iexact H17
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H18]
  · iexists _; isplitr; swap; · iexact H18
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H19]
  · iexists _; isplitr; swap; · iexact H19
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H20]
  · iexists _; isplitr; swap; · iexact H20
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H13]
  · iexists _; isplitr; swap; · iexact H13
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H14]
  · iexists _; isplitr; swap; · iexact H14
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H15]
  · iexists _; isplitr; swap; · iexact H15
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  isplitl [H12]
  · iexists _; isplitr; swap; · iexact H12
    ipureintro; exact harg12.read_unread _
  isplitl [H11]
  · iexists _; isplitr; swap; · iexact H11
    ipureintro; refine (View.read_writes_full _ _ _ _ _).trans ?_
    sl_unfold_run_names
    try simp only [e2, e3, e4, e5, e6, e7, e8, e10, e9a, e9b, ec18, ec19, ec20, ec13, ec14, ec15, ec17a, ec17b, es1, es2]
    dsimp only [duOut, step, scanned, tileWord, gathered, start, spread] <;> first | with_reducible rfl | rfl
  iexists _, _; isplitr; swap; · iexact H16
  ipureintro; rfl

end Cert.KernelIdeal.Ssm

end
-- ==== Proof.RunB.lean ====
module

public import proofs.«01_k».proof.Proof.Spec

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 4000000 in
/-- The body at a tile between: one step, the gathered gradient's buffer left as found. -/
theorem runB (c : Dev nD) (i : grid0.Coords) (arg2 : Memref sig .tc .vmem S384x128 .f32) (harg2 : arg2.IsWhole) (arg3 : Memref sig .tc .vmem S8x128 .f32) (harg3 : arg3.IsWhole) (arg4 : Memref sig .tc .vmem S384x1024 .f32) (harg4 : arg4.IsWhole) (arg5 : Memref sig .tc .vmem S8x1024 .f32) (harg5 : arg5.IsWhole) (arg6 : Memref sig .tc .vmem S384x128 .f32) (harg6 : arg6.IsWhole) (arg7 : Memref sig .tc .vmem S1x1024x128 .f32) (harg7 : arg7.IsWhole) (arg8 : Memref sig .tc .vmem S1x128x1024 .bf16) (harg8 : arg8.IsWhole) (arg9 : Memref sig .tc .vmem S1x1x1024 .f32) (harg9 : arg9.IsWhole) (arg10 : Memref sig .tc .vmem S1x128 .f32) (harg10 : arg10.IsWhole) (arg11 : Memref sig .tc .vmem S384x128 .bf16) (harg11 : arg11.IsWhole) (arg12 : Memref sig .tc .vmem S1x1024x128 .f32) (harg12 : arg12.IsWhole) (arg13 : Memref sig .tc .vmem S1x128x1024 .f32) (harg13 : arg13.IsWhole) (arg14 : Memref sig .tc .vmem S1x1x1024 .f32) (harg14 : arg14.IsWhole) (arg15 : Memref sig .tc .vmem S1x128 .f32) (harg15 : arg15.IsWhole) (arg16 : Memref sig .tc .vmem S384x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S1024x1024 .bf16) (harg19 : arg19.IsWhole) (arg20 : Memref sig .tc .vmem S1024x1024 .f32) (harg20 : arg20.IsWhole) (hc0 : ¬cond0 i) (hc1 : ¬cond1 i)
    (b : Blk F) (s : St F) (x12 : Vec F S1x1024x128 .f32) (E : Set ℕ) (K : PUnit → sProp 𝕄) :
    iprop(owns (c : Thread nD τ) arg2 fullShare b.u ∗ owns (c : Thread nD τ) arg3 fullShare b.up ∗ owns (c : Thread nD τ) arg4 fullShare b.xs ∗ owns (c : Thread nD τ) arg5 fullShare b.xp ∗ owns (c : Thread nD τ) arg6 fullShare b.dy ∗ owns (c : Thread nD τ) arg7 fullShare b.wc ∗ owns (c : Thread nD τ) arg8 fullShare b.ct ∗ owns (c : Thread nD τ) arg9 fullShare b.lam ∗ owns (c : Thread nD τ) arg10 fullShare b.d ∗ owns (c : Thread nD τ) arg17 fullShare s.carry ∗ owns (c : Thread nD τ) arg18 fullShare s.head ∗ owns (c : Thread nD τ) arg19 fullShare s.w ∗ owns (c : Thread nD τ) arg20 fullShare s.dw ∗ owns (c : Thread nD τ) arg13 fullShare s.dc ∗ owns (c : Thread nD τ) arg14 fullShare s.dl ∗ owns (c : Thread nD τ) arg15 fullShare s.dd ∗ owns (c : Thread nD τ) arg12 fullShare x12 ∗ (∃ d, owns (c : Thread nD τ) arg11 fullShare d) ∗ (∃ d, owns (c : Thread nD τ) arg16 fullShare d) ∗ (iprop(owns (c : Thread nD τ) arg2 fullShare b.u ∗ owns (c : Thread nD τ) arg3 fullShare b.up ∗ owns (c : Thread nD τ) arg4 fullShare b.xs ∗ owns (c : Thread nD τ) arg5 fullShare b.xp ∗ owns (c : Thread nD τ) arg6 fullShare b.dy ∗ owns (c : Thread nD τ) arg7 fullShare b.wc ∗ owns (c : Thread nD τ) arg8 fullShare b.ct ∗ owns (c : Thread nD τ) arg9 fullShare b.lam ∗ owns (c : Thread nD τ) arg10 fullShare b.d ∗ owns (c : Thread nD τ) arg17 fullShare (step i b s).carry ∗ owns (c : Thread nD τ) arg18 fullShare (step i b s).head ∗ owns (c : Thread nD τ) arg19 fullShare (step i b s).w ∗ owns (c : Thread nD τ) arg20 fullShare (step i b s).dw ∗ owns (c : Thread nD τ) arg13 fullShare (step i b s).dc ∗ owns (c : Thread nD τ) arg14 fullShare (step i b s).dl ∗ owns (c : Thread nD τ) arg15 fullShare (step i b s).dd ∗ owns (c : Thread nD τ) arg12 fullShare x12 ∗ owns (c : Thread nD τ) arg11 fullShare (duOut i b s) ∗ (∃ d, owns (c : Thread nD τ) arg16 fullShare d)) -∗ K ⟨⟩))
      ⊢ wp frame (wpE (defs₀ (F := F)) Variants.none c none) E (cc0_ssm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ssm_bwd_eq_skeleton, k0_part8_eq_skeleton, k0_part9_eq_skeleton, k0_part10_eq_skeleton]; unfold cc0_ssm_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f17, %hf17, H17⟩, ⟨%f18, %hf18, H18⟩, ⟨%f19, %hf19, H19⟩, ⟨%f20, %hf20, H20⟩, ⟨%f13, %hf13, H13⟩, ⟨%f14, %hf14, H14⟩, ⟨%f15, %hf15, H15⟩, ⟨%f12, %hf12, H12⟩, ⟨%d11, %f11, -, H11⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg17.eq_unread hf17; obtain rfl := harg18.eq_unread hf18; obtain rfl := harg19.eq_unread hf19; obtain rfl := harg20.eq_unread hf20; obtain rfl := harg13.eq_unread hf13; obtain rfl := harg14.eq_unread hf14; obtain rfl := harg15.eq_unread hf15; obtain rfl := harg12.eq_unread hf12
  have e2 : View.readAt (Elt F) arg2.view (Rect.unit ![0, 0] ![384, 128] inb_S384x128_S384x128_0_0).toLoadRect (harg2.unread (b.u)) = b.u := (View.readAt_full _ _ _).trans (harg2.read_unread _)
  have e3 : View.readAt (Elt F) arg3.view (Rect.unit ![0, 0] ![8, 128] inb_S8x128_S8x128_0_0).toLoadRect (harg3.unread (b.up)) = b.up := (View.readAt_full _ _ _).trans (harg3.read_unread _)
  have e4 : View.readAt (Elt F) arg4.view (Rect.unit ![0, 0] ![384, 1024] inb_S384x1024_S384x1024_0_0).toLoadRect (harg4.unread (b.xs)) = b.xs := (View.readAt_full _ _ _).trans (harg4.read_unread _)
  have e5 : View.readAt (Elt F) arg5.view (Rect.unit ![0, 0] ![8, 1024] inb_S8x1024_S8x1024_0_0).toLoadRect (harg5.unread (b.xp)) = b.xp := (View.readAt_full _ _ _).trans (harg5.read_unread _)
  have e6 : View.readAt (Elt F) arg6.view (Rect.unit ![0, 0] ![384, 128] inb_S384x128_S384x128_0_0).toLoadRect (harg6.unread (b.dy)) = b.dy := (View.readAt_full _ _ _).trans (harg6.read_unread _)
  have e7 : View.readAt (Elt F) arg7.view (Rect.unit ![0, 0, 0] ![1, 1024, 128] inb_S1x1024x128_S1x1024x128_0_0_0).toLoadRect (harg7.unread (b.wc)) = b.wc := (View.readAt_full _ _ _).trans (harg7.read_unread _)
  have e8 : View.readAt (Elt F) arg8.view (Rect.unit ![0, 0, 0] ![1, 128, 1024] inb_S1x128x1024_S1x128x1024_0_0_0).toLoadRect (harg8.unread (b.ct)) = b.ct := (View.readAt_full _ _ _).trans (harg8.read_unread _)
  have e10 : View.readAt (Elt F) arg10.view (Rect.unit ![0, 0] ![1, 128] inb_S1x128_S1x128_0_0).toLoadRect (harg10.unread (b.d)) = b.d := (View.readAt_full _ _ _).trans (harg10.read_unread _)
  have e18 : View.readAt (Elt F) arg18.view (Rect.unit ![0, 0] ![8, 1024] inb_S8x1024_S8x1024_0_0).toLoadRect (harg18.unread (s.head)) = s.head := (View.readAt_full _ _ _).trans (harg18.read_unread _)
  have e19 : View.readAt (Elt F) arg19.view (Rect.unit ![0, 0] ![1024, 1024] inb_S1024x1024_S1024x1024_0_0).toLoadRect (harg19.unread (s.w)) = s.w := (View.readAt_full _ _ _).trans (harg19.read_unread _)
  have e20 : View.readAt (Elt F) arg20.view (Rect.unit ![0, 0] ![1024, 1024] inb_S1024x1024_S1024x1024_0_0).toLoadRect (harg20.unread (s.dw)) = s.dw := (View.readAt_full _ _ _).trans (harg20.read_unread _)
  have e13 : View.readAt (Elt F) arg13.view (Rect.unit ![0, 0, 0] ![1, 128, 1024] inb_S1x128x1024_S1x128x1024_0_0_0).toLoadRect (harg13.unread (s.dc)) = s.dc := (View.readAt_full _ _ _).trans (harg13.read_unread _)
  have e14 : View.readAt (Elt F) arg14.view (Rect.unit ![0, 0, 0] ![1, 1, 1024] inb_S1x1x1024_S1x1x1024_0_0_0).toLoadRect (harg14.unread (s.dl)) = s.dl := (View.readAt_full _ _ _).trans (harg14.read_unread _)
  have e15 : View.readAt (Elt F) arg15.view (Rect.unit ![0, 0] ![1, 128] inb_S1x128_S1x128_0_0).toLoadRect (harg15.unread (s.dd)) = s.dd := (View.readAt_full _ _ _).trans (harg15.read_unread _)
  have e9a : View.readAt (Elt F) arg9.view (Rect.unit ![0, 0, 0] ![1, 1, 512] inb_S1x1x1024_S1x1x512_0_0_0).toLoadRect (harg9.unread (b.lam)) = window (b.lam) ![0, 0, 0] ![1, 1, 512] inb_S1x1x1024_S1x1x512_0_0_0 := (readAt_window _ _ _).trans (by rw [harg9.read_unread])
  have e9b : View.readAt (Elt F) arg9.view (Rect.unit ![0, 0, 512] ![1, 1, 512] inb_S1x1x1024_S1x1x512_0_0_512).toLoadRect (harg9.unread (b.lam)) = window (b.lam) ![0, 0, 512] ![1, 1, 512] inb_S1x1x1024_S1x1x512_0_0_512 := (readAt_window _ _ _).trans (by rw [harg9.read_unread])
  have e17a : View.readAt (Elt F) arg17.view (Rect.unit ![0, 0] ![8, 512] inb_S8x1024_S8x512_0_0).toLoadRect (harg17.unread (s.carry)) = window (s.carry) ![0, 0] ![8, 512] inb_S8x1024_S8x512_0_0 := (readAt_window _ _ _).trans (by rw [harg17.read_unread])
  have e17b : View.readAt (Elt F) arg17.view (Rect.unit ![0, 512] ![8, 512] inb_S8x1024_S8x512_0_512).toLoadRect (harg17.unread (s.carry)) = window (s.carry) ![0, 512] ![8, 512] inb_S8x1024_S8x512_0_512 := (readAt_window _ _ _).trans (by rw [harg17.read_unread])
  have es1 : ∀ (lr : FVec F S8x512 .f32) (li : Vec F S1x1x512 .f32) (ii : Vec F S8x512 .f32 × Vec F S8x512 .f32) (a : Vec F S384x1024 .f32), (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii (Scf.trips (0#32) (Scalar.addi 0#32 48#32) 1#32)).1 = (scanSt lr li ii a k0_t1_loop.trips).1 := fun lr li ii a => by
    have h := (st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii k0_t1_loop.trips le_rfl).1
    rw [show arg16.view.read (Elt F) (arg16.view.writes (Elt F) arg16.view.junk [⟨Rect.unit ![0, 0] ![384, 1024] inb_S384x1024_S384x1024_0_0, a⟩]) = a from View.read_writes_full _ _ _ _ []] at h
    exact h
  have es2 : ∀ (lr : FVec F S8x512 .f32) (li : Vec F S1x1x512 .f32) (ii : Vec F S8x512 .f32 × Vec F S8x512 .f32) (a : Vec F S384x1024 .f32), arg16.view.readCov ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii (Scf.trips (0#32) (Scalar.addi 0#32 48#32) 1#32)).2 ++ [⟨Rect.unit ![0, 0] ![384, 1024] inb_S384x1024_S384x1024_0_0, a⟩]) (Rect.unit ![0, 0] ![384, 1024] inb_S384x1024_S384x1024_0_0).toLoadRect = (scanSt lr li ii a k0_t1_loop.trips).2 := fun lr li ii a => by
    have h := (st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii k0_t1_loop.trips le_rfl).2
    rw [show arg16.view.read (Elt F) (arg16.view.writes (Elt F) arg16.view.junk [⟨Rect.unit ![0, 0] ![384, 1024] inb_S384x1024_S384x1024_0_0, a⟩]) = a from View.read_writes_full _ _ _ _ [], ← View.writes_append] at h
    exact (View.readAt_full _ _ _).trans h
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H17]
  · iexists _; isplitr; swap; · iexact H17
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  isplitl [H18]
  · iexists _; isplitr; swap; · iexact H18
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  isplitl [H19]
  · iexists _; isplitr; swap; · iexact H19
    ipureintro; exact harg19.read_unread _
  isplitl [H20]
  · iexists _; isplitr; swap; · iexact H20
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  isplitl [H13]
  · iexists _; isplitr; swap; · iexact H13
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  isplitl [H14]
  · iexists _; isplitr; swap; · iexact H14
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  isplitl [H15]
  · iexists _; isplitr; swap; · iexact H15
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  isplitl [H12]
  · iexists _; isplitr; swap; · iexact H12
    ipureintro; exact harg12.read_unread _
  isplitl [H11]
  · iexists _; isplitr; swap; · iexact H11
    ipureintro; refine (View.read_writes_full _ _ _ _ _).trans ?_
    sl_unfold_run_names
    try simp only [e2, e3, e4, e5, e6, e7, e8, e10, e18, e19, e20, e13, e14, e15, e9a, e9b, e17a, e17b, es1, es2]
    dsimp only [duOut, step, scanned, tileWord, gathered, start, spread] <;> first | with_reducible rfl | rfl
  iexists _, _; isplitr; swap; · iexact H16
  ipureintro; rfl

end Cert.KernelIdeal.Ssm

end
-- ==== Proof.RunC.lean ====
module

public import proofs.«01_k».proof.Proof.Spec

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 4000000 in
/-- The body at a sweep's last tile: one step, and the gathered gradient written. -/
theorem runC (c : Dev nD) (i : grid0.Coords) (arg2 : Memref sig .tc .vmem S384x128 .f32) (harg2 : arg2.IsWhole) (arg3 : Memref sig .tc .vmem S8x128 .f32) (harg3 : arg3.IsWhole) (arg4 : Memref sig .tc .vmem S384x1024 .f32) (harg4 : arg4.IsWhole) (arg5 : Memref sig .tc .vmem S8x1024 .f32) (harg5 : arg5.IsWhole) (arg6 : Memref sig .tc .vmem S384x128 .f32) (harg6 : arg6.IsWhole) (arg7 : Memref sig .tc .vmem S1x1024x128 .f32) (harg7 : arg7.IsWhole) (arg8 : Memref sig .tc .vmem S1x128x1024 .bf16) (harg8 : arg8.IsWhole) (arg9 : Memref sig .tc .vmem S1x1x1024 .f32) (harg9 : arg9.IsWhole) (arg10 : Memref sig .tc .vmem S1x128 .f32) (harg10 : arg10.IsWhole) (arg11 : Memref sig .tc .vmem S384x128 .bf16) (harg11 : arg11.IsWhole) (arg12 : Memref sig .tc .vmem S1x1024x128 .f32) (harg12 : arg12.IsWhole) (arg13 : Memref sig .tc .vmem S1x128x1024 .f32) (harg13 : arg13.IsWhole) (arg14 : Memref sig .tc .vmem S1x1x1024 .f32) (harg14 : arg14.IsWhole) (arg15 : Memref sig .tc .vmem S1x128 .f32) (harg15 : arg15.IsWhole) (arg16 : Memref sig .tc .vmem S384x1024 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S1024x1024 .bf16) (harg19 : arg19.IsWhole) (arg20 : Memref sig .tc .vmem S1024x1024 .f32) (harg20 : arg20.IsWhole) (hc0 : ¬cond0 i) (hc1 : cond1 i)
    (b : Blk F) (s : St F) (E : Set ℕ) (K : PUnit → sProp 𝕄) :
    iprop(owns (c : Thread nD τ) arg2 fullShare b.u ∗ owns (c : Thread nD τ) arg3 fullShare b.up ∗ owns (c : Thread nD τ) arg4 fullShare b.xs ∗ owns (c : Thread nD τ) arg5 fullShare b.xp ∗ owns (c : Thread nD τ) arg6 fullShare b.dy ∗ owns (c : Thread nD τ) arg7 fullShare b.wc ∗ owns (c : Thread nD τ) arg8 fullShare b.ct ∗ owns (c : Thread nD τ) arg9 fullShare b.lam ∗ owns (c : Thread nD τ) arg10 fullShare b.d ∗ owns (c : Thread nD τ) arg17 fullShare s.carry ∗ owns (c : Thread nD τ) arg18 fullShare s.head ∗ owns (c : Thread nD τ) arg19 fullShare s.w ∗ owns (c : Thread nD τ) arg20 fullShare s.dw ∗ owns (c : Thread nD τ) arg13 fullShare s.dc ∗ owns (c : Thread nD τ) arg14 fullShare s.dl ∗ owns (c : Thread nD τ) arg15 fullShare s.dd ∗ (∃ d, owns (c : Thread nD τ) arg11 fullShare d) ∗ (∃ d, owns (c : Thread nD τ) arg12 fullShare d) ∗ (∃ d, owns (c : Thread nD τ) arg16 fullShare d) ∗ (iprop(owns (c : Thread nD τ) arg2 fullShare b.u ∗ owns (c : Thread nD τ) arg3 fullShare b.up ∗ owns (c : Thread nD τ) arg4 fullShare b.xs ∗ owns (c : Thread nD τ) arg5 fullShare b.xp ∗ owns (c : Thread nD τ) arg6 fullShare b.dy ∗ owns (c : Thread nD τ) arg7 fullShare b.wc ∗ owns (c : Thread nD τ) arg8 fullShare b.ct ∗ owns (c : Thread nD τ) arg9 fullShare b.lam ∗ owns (c : Thread nD τ) arg10 fullShare b.d ∗ owns (c : Thread nD τ) arg17 fullShare (step i b s).carry ∗ owns (c : Thread nD τ) arg18 fullShare (step i b s).head ∗ owns (c : Thread nD τ) arg19 fullShare (step i b s).w ∗ owns (c : Thread nD τ) arg20 fullShare (step i b s).dw ∗ owns (c : Thread nD τ) arg13 fullShare (step i b s).dc ∗ owns (c : Thread nD τ) arg14 fullShare (step i b s).dl ∗ owns (c : Thread nD τ) arg15 fullShare (step i b s).dd ∗ owns (c : Thread nD τ) arg12 fullShare (gathered (step i b s).dw) ∗ owns (c : Thread nD τ) arg11 fullShare (duOut i b s) ∗ (∃ d, owns (c : Thread nD τ) arg16 fullShare d)) -∗ K ⟨⟩))
      ⊢ wp frame (wpE (defs₀ (F := F)) Variants.none c none) E (cc0_ssm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ssm_bwd_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]; unfold cc0_ssm_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f17, %hf17, H17⟩, ⟨%f18, %hf18, H18⟩, ⟨%f19, %hf19, H19⟩, ⟨%f20, %hf20, H20⟩, ⟨%f13, %hf13, H13⟩, ⟨%f14, %hf14, H14⟩, ⟨%f15, %hf15, H15⟩, ⟨%d11, %f11, -, H11⟩, ⟨%d12, %f12, -, H12⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg17.eq_unread hf17; obtain rfl := harg18.eq_unread hf18; obtain rfl := harg19.eq_unread hf19; obtain rfl := harg20.eq_unread hf20; obtain rfl := harg13.eq_unread hf13; obtain rfl := harg14.eq_unread hf14; obtain rfl := harg15.eq_unread hf15
  have e2 : View.readAt (Elt F) arg2.view (Rect.unit ![0, 0] ![384, 128] inb_S384x128_S384x128_0_0).toLoadRect (harg2.unread (b.u)) = b.u := (View.readAt_full _ _ _).trans (harg2.read_unread _)
  have e3 : View.readAt (Elt F) arg3.view (Rect.unit ![0, 0] ![8, 128] inb_S8x128_S8x128_0_0).toLoadRect (harg3.unread (b.up)) = b.up := (View.readAt_full _ _ _).trans (harg3.read_unread _)
  have e4 : View.readAt (Elt F) arg4.view (Rect.unit ![0, 0] ![384, 1024] inb_S384x1024_S384x1024_0_0).toLoadRect (harg4.unread (b.xs)) = b.xs := (View.readAt_full _ _ _).trans (harg4.read_unread _)
  have e5 : View.readAt (Elt F) arg5.view (Rect.unit ![0, 0] ![8, 1024] inb_S8x1024_S8x1024_0_0).toLoadRect (harg5.unread (b.xp)) = b.xp := (View.readAt_full _ _ _).trans (harg5.read_unread _)
  have e6 : View.readAt (Elt F) arg6.view (Rect.unit ![0, 0] ![384, 128] inb_S384x128_S384x128_0_0).toLoadRect (harg6.unread (b.dy)) = b.dy := (View.readAt_full _ _ _).trans (harg6.read_unread _)
  have e7 : View.readAt (Elt F) arg7.view (Rect.unit ![0, 0, 0] ![1, 1024, 128] inb_S1x1024x128_S1x1024x128_0_0_0).toLoadRect (harg7.unread (b.wc)) = b.wc := (View.readAt_full _ _ _).trans (harg7.read_unread _)
  have e8 : View.readAt (Elt F) arg8.view (Rect.unit ![0, 0, 0] ![1, 128, 1024] inb_S1x128x1024_S1x128x1024_0_0_0).toLoadRect (harg8.unread (b.ct)) = b.ct := (View.readAt_full _ _ _).trans (harg8.read_unread _)
  have e10 : View.readAt (Elt F) arg10.view (Rect.unit ![0, 0] ![1, 128] inb_S1x128_S1x128_0_0).toLoadRect (harg10.unread (b.d)) = b.d := (View.readAt_full _ _ _).trans (harg10.read_unread _)
  have e18 : View.readAt (Elt F) arg18.view (Rect.unit ![0, 0] ![8, 1024] inb_S8x1024_S8x1024_0_0).toLoadRect (harg18.unread (s.head)) = s.head := (View.readAt_full _ _ _).trans (harg18.read_unread _)
  have e19 : View.readAt (Elt F) arg19.view (Rect.unit ![0, 0] ![1024, 1024] inb_S1024x1024_S1024x1024_0_0).toLoadRect (harg19.unread (s.w)) = s.w := (View.readAt_full _ _ _).trans (harg19.read_unread _)
  have e20 : View.readAt (Elt F) arg20.view (Rect.unit ![0, 0] ![1024, 1024] inb_S1024x1024_S1024x1024_0_0).toLoadRect (harg20.unread (s.dw)) = s.dw := (View.readAt_full _ _ _).trans (harg20.read_unread _)
  have e13 : View.readAt (Elt F) arg13.view (Rect.unit ![0, 0, 0] ![1, 128, 1024] inb_S1x128x1024_S1x128x1024_0_0_0).toLoadRect (harg13.unread (s.dc)) = s.dc := (View.readAt_full _ _ _).trans (harg13.read_unread _)
  have e14 : View.readAt (Elt F) arg14.view (Rect.unit ![0, 0, 0] ![1, 1, 1024] inb_S1x1x1024_S1x1x1024_0_0_0).toLoadRect (harg14.unread (s.dl)) = s.dl := (View.readAt_full _ _ _).trans (harg14.read_unread _)
  have e15 : View.readAt (Elt F) arg15.view (Rect.unit ![0, 0] ![1, 128] inb_S1x128_S1x128_0_0).toLoadRect (harg15.unread (s.dd)) = s.dd := (View.readAt_full _ _ _).trans (harg15.read_unread _)
  have e9a : View.readAt (Elt F) arg9.view (Rect.unit ![0, 0, 0] ![1, 1, 512] inb_S1x1x1024_S1x1x512_0_0_0).toLoadRect (harg9.unread (b.lam)) = window (b.lam) ![0, 0, 0] ![1, 1, 512] inb_S1x1x1024_S1x1x512_0_0_0 := (readAt_window _ _ _).trans (by rw [harg9.read_unread])
  have e9b : View.readAt (Elt F) arg9.view (Rect.unit ![0, 0, 512] ![1, 1, 512] inb_S1x1x1024_S1x1x512_0_0_512).toLoadRect (harg9.unread (b.lam)) = window (b.lam) ![0, 0, 512] ![1, 1, 512] inb_S1x1x1024_S1x1x512_0_0_512 := (readAt_window _ _ _).trans (by rw [harg9.read_unread])
  have e17a : View.readAt (Elt F) arg17.view (Rect.unit ![0, 0] ![8, 512] inb_S8x1024_S8x512_0_0).toLoadRect (harg17.unread (s.carry)) = window (s.carry) ![0, 0] ![8, 512] inb_S8x1024_S8x512_0_0 := (readAt_window _ _ _).trans (by rw [harg17.read_unread])
  have e17b : View.readAt (Elt F) arg17.view (Rect.unit ![0, 512] ![8, 512] inb_S8x1024_S8x512_0_512).toLoadRect (harg17.unread (s.carry)) = window (s.carry) ![0, 512] ![8, 512] inb_S8x1024_S8x512_0_512 := (readAt_window _ _ _).trans (by rw [harg17.read_unread])
  have ec20 : ∀ (x : Vec F S1024x1024 .f32), arg20.view.readCov [⟨Rect.unit ![0, 0] ![1024, 1024] inb_S1024x1024_S1024x1024_0_0, x⟩] (Rect.unit ![0, 0] ![1024, 1024] inb_S1024x1024_S1024x1024_0_0).toLoadRect = x := fun x => (View.readAt_full _ _ _).trans (View.read_writes_full _ _ _ _ [])
  have es1 : ∀ (lr : FVec F S8x512 .f32) (li : Vec F S1x1x512 .f32) (ii : Vec F S8x512 .f32 × Vec F S8x512 .f32) (a : Vec F S384x1024 .f32), (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii (Scf.trips (0#32) (Scalar.addi 0#32 48#32) 1#32)).1 = (scanSt lr li ii a k0_t1_loop.trips).1 := fun lr li ii a => by
    have h := (st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii k0_t1_loop.trips le_rfl).1
    rw [show arg16.view.read (Elt F) (arg16.view.writes (Elt F) arg16.view.junk [⟨Rect.unit ![0, 0] ![384, 1024] inb_S384x1024_S384x1024_0_0, a⟩]) = a from View.read_writes_full _ _ _ _ []] at h
    exact h
  have es2 : ∀ (lr : FVec F S8x512 .f32) (li : Vec F S1x1x512 .f32) (ii : Vec F S8x512 .f32 × Vec F S8x512 .f32) (a : Vec F S384x1024 .f32), arg16.view.readCov ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii (Scf.trips (0#32) (Scalar.addi 0#32 48#32) 1#32)).2 ++ [⟨Rect.unit ![0, 0] ![384, 1024] inb_S384x1024_S384x1024_0_0, a⟩]) (Rect.unit ![0, 0] ![384, 1024] inb_S384x1024_S384x1024_0_0).toLoadRect = (scanSt lr li ii a k0_t1_loop.trips).2 := fun lr li ii a => by
    have h := (st_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Scalar.subi 10#32 (BitVec.ofNat 32 (i 1).val)) lr li (arg16.view.writes (Elt F) arg16.view.junk [⟨Rect.unit ![0, 0] ![384, 1024] inb_S384x1024_S384x1024_0_0, a⟩]) ii k0_t1_loop.trips le_rfl).2
    rw [show arg16.view.read (Elt F) (arg16.view.writes (Elt F) arg16.view.junk [⟨Rect.unit ![0, 0] ![384, 1024] inb_S384x1024_S384x1024_0_0, a⟩]) = a from View.read_writes_full _ _ _ _ [], ← View.writes_append] at h
    exact (View.readAt_full _ _ _).trans h
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H17]
  · iexists _; isplitr; swap; · iexact H17
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H18]
  · iexists _; isplitr; swap; · iexact H18
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H19]
  · iexists _; isplitr; swap; · iexact H19
    ipureintro; exact harg19.read_unread _
  isplitl [H20]
  · iexists _; isplitr; swap; · iexact H20
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H13]
  · iexists _; isplitr; swap; · iexact H13
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H14]
  · iexists _; isplitr; swap; · iexact H14
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H15]
  · iexists _; isplitr; swap; · iexact H15
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H12]
  · iexists _; isplitr; swap; · iexact H12
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  isplitl [H11]
  · iexists _; isplitr; swap; · iexact H11
    ipureintro; refine (View.read_writes_full _ _ _ _ _).trans ?_
    sl_unfold_run_names
    try simp only [e2, e3, e4, e5, e6, e7, e8, e10, e18, e19, e20, e13, e14, e15, e9a, e9b, e17a, e17b, ec20, es1, es2]
    dsimp only [duOut, step, scanned, tileWord, gathered, start, spread] <;> first | with_reducible rfl | rfl
  iexists _, _; isplitr; swap; · iexact H16
  ipureintro; rfl

end Cert.KernelIdeal.Ssm

end
-- ==== Proof.Points.lean ====
module

public import proofs.«01_k».proof.Proof.Spec
public import proofs.«01_k».proof.Proof.RunA
public import proofs.«01_k».proof.Proof.RunB
public import proofs.«01_k».proof.Proof.RunC

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points of a sweep -/

theorem N_eq (t : Fin cfg0.N) : t.val < 88 := lt_of_lt_of_eq t.isLt N_0

/-- The second coordinate of the `t`-th point. -/
theorem coord1 (t : Fin cfg0.N) : (grid0.coords t 1).val = t.val % 11 := by
  have e : (grid0.coords t 1).val = t.val / 1 % 11 := Pipeline.Grid.coords_val t 1 (by decide) rfl
  rw [e, Nat.div_one]

/-- The first coordinate of the `t`-th point. -/
theorem coord0 (t : Fin cfg0.N) : (grid0.coords t 0).val = t.val / 11 := by
  have e : (grid0.coords t 0).val = t.val / 11 % 8 := Pipeline.Grid.coords_val t 0 (by decide) rfl
  have := N_eq t
  rw [e]; omega

theorem cond0_iff (t : Fin cfg0.N) : cond0 (grid0.coords t) ↔ t.val % 11 = 0 := by
  have e1 := coord1 t
  have hN := N_eq t
  simp only [cond0, e1]
  word_cmp

theorem cond1_iff (t : Fin cfg0.N) : cond1 (grid0.coords t) ↔ t.val % 11 = 10 := by
  have e1 := coord1 t
  have hN := N_eq t
  simp only [cond1, k0_cond2, e1]
  word_cmp

abbrev ms0 (t : Fin cfg0.N) : Memref sig .tc .vmem S384x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S384x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S384x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1024x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x128 .f32 := win0_13.stage (cfg0.slots t 13)
abbrev hs13 (t : Fin cfg0.N) : (ms13 t).IsWhole := hstage0_13 ((cfg0.slots t 13).cast nbuf0_13)
abbrev sc0 : Memref sig .tc .vmem S384x1024 .f32 := Memref.whole cc0_scratch0
abbrev sc1 : Memref sig .tc .vmem S8x1024 .f32 := Memref.whole cc0_scratch1
abbrev sc2 : Memref sig .tc .vmem S8x1024 .f32 := Memref.whole cc0_scratch2
abbrev sc3 : Memref sig .tc .vmem S1024x1024 .bf16 := Memref.whole cc0_scratch3
abbrev sc4 : Memref sig .tc .vmem S1024x1024 .f32 := Memref.whole cc0_scratch4

/-- The invariant a region starts from and ends with, its scratch as memrefs owned at some contents. -/
theorem PhiA_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

variable (m : (ℓ : Loc nD τ sig) → Buf (Elt F) ℓ) (ρ : Dev nD → PrngReg)

/-- The blocks handed to the `t`-th point. -/
def blk (c : Dev nD) (t : Fin cfg0.N) : Blk F where
  u := iblk m c 0 t
  up := iblk m c 1 t
  xs := iblk m c 2 t
  xp := iblk m c 3 t
  dy := iblk m c 4 t
  wc := iblk m c 5 t
  ct := iblk m c 6 t
  lam := iblk m c 7 t
  d := iblk m c 8 t

theorem blk_u (c : Dev nD) (t : Fin cfg0.N) : (blk m c t).u = iblk m c 0 t := by dsimp only [blk]
theorem blk_up (c : Dev nD) (t : Fin cfg0.N) : (blk m c t).up = iblk m c 1 t := by dsimp only [blk]
theorem blk_xs (c : Dev nD) (t : Fin cfg0.N) : (blk m c t).xs = iblk m c 2 t := by dsimp only [blk]
theorem blk_xp (c : Dev nD) (t : Fin cfg0.N) : (blk m c t).xp = iblk m c 3 t := by dsimp only [blk]
theorem blk_dy (c : Dev nD) (t : Fin cfg0.N) : (blk m c t).dy = iblk m c 4 t := by dsimp only [blk]
theorem blk_wc (c : Dev nD) (t : Fin cfg0.N) : (blk m c t).wc = iblk m c 5 t := by dsimp only [blk]
theorem blk_ct (c : Dev nD) (t : Fin cfg0.N) : (blk m c t).ct = iblk m c 6 t := by dsimp only [blk]
theorem blk_lam (c : Dev nD) (t : Fin cfg0.N) : (blk m c t).lam = iblk m c 7 t := by dsimp only [blk]
theorem blk_d (c : Dev nD) (t : Fin cfg0.N) : (blk m c t).d = iblk m c 8 t := by dsimp only [blk]

/-- What is carried after the point at position `n`. -/
def stPast (c : Dev nD) : (n : ℕ) → n < cfg0.N → St F
  | 0, h => step (grid0.coords ⟨0, h⟩) (blk m c ⟨0, h⟩) (start (blk m c ⟨0, h⟩).wc)
  | n + 1, h => step (grid0.coords ⟨n + 1, h⟩) (blk m c ⟨n + 1, h⟩)
      (if (n + 1) % 11 = 0 then start (blk m c ⟨n + 1, h⟩).wc else stPast c n (Nat.lt_of_succ_lt h))

/-- What is carried after the `t`-th point. -/
def stAfter (c : Dev nD) (t : Fin cfg0.N) : St F := stPast m c t.val t.isLt

/-- What the `t`-th point starts from: a sweep's start at its first tile, else what the point before left. -/
def stIn (c : Dev nD) (t : Fin cfg0.N) : St F :=
  if t.val % 11 = 0 then start (blk m c t).wc else stPast m c (t.val - 1) (Nat.lt_of_le_of_lt (Nat.sub_le _ _) t.isLt)

theorem stIn_first (c : Dev nD) (t : Fin cfg0.N) (h : t.val % 11 = 0) : stIn m c t = start (blk m c t).wc := if_pos h
theorem stIn_next (c : Dev nD) (t : Fin cfg0.N) (h : ¬t.val % 11 = 0) :
    stIn m c t = stPast m c (t.val - 1) (Nat.lt_of_le_of_lt (Nat.sub_le _ _) t.isLt) := if_neg h

theorem stAfter_eq (c : Dev nD) (t : Fin cfg0.N) : stAfter m c t = step (grid0.coords t) (blk m c t) (stIn m c t) := by
  obtain ⟨n, h⟩ := t
  cases n with
  | zero => rfl
  | succ n => rfl

/-- The region's invariant before position `n`. -/
def PhiS (c : Dev nD) : (n : ℕ) → n ≤ cfg0.N → sProp 𝕄
  | 0, _ => Pipeline.ΦA spec0 c
  | n + 1, hn => iprop(((∃ d, owns (c : Thread nD τ) sc0 fullShare d) ∗ owns (c : Thread nD τ) sc1 fullShare (stPast m c n hn).carry ∗ owns (c : Thread nD τ) sc2 fullShare (stPast m c n hn).head ∗ owns (c : Thread nD τ) sc3 fullShare (stPast m c n hn).w ∗ owns (c : Thread nD τ) sc4 fullShare (stPast m c n hn).dw) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(((∃ d, owns (c : Thread nD τ) sc0 fullShare d) ∗ owns (c : Thread nD τ) sc1 fullShare (stPast m c n hn).carry ∗ owns (c : Thread nD τ) sc2 fullShare (stPast m c n hn).head ∗ owns (c : Thread nD τ) sc3 fullShare (stPast m c n hn).w ∗ owns (c : Thread nD τ) sc4 fullShare (stPast m c n hn).dw) ∗ (∃ r, prngReg c r)) := rfl

theorem PhiS_pos (c : Dev nD) (n : ℕ) (h : n ≤ cfg0.N) (hz : n ≠ 0) :
    PhiS m c n h = iprop(((∃ d, owns (c : Thread nD τ) sc0 fullShare d) ∗ owns (c : Thread nD τ) sc1 fullShare (stPast m c (n - 1) (by omega)).carry ∗ owns (c : Thread nD τ) sc2 fullShare (stPast m c (n - 1) (by omega)).head ∗ owns (c : Thread nD τ) sc3 fullShare (stPast m c (n - 1) (by omega)).w ∗ owns (c : Thread nD τ) sc4 fullShare (stPast m c (n - 1) (by omega)).dw) ∗ (∃ r, prngReg c r)) := by
  cases n with
  | zero => exact absurd rfl hz
  | succ n => rfl

/-- Whatever the position, the invariant gives the scratch back at some contents. -/
theorem PhiS_out (c : Dev nD) (n : ℕ) (h : n ≤ cfg0.N) : PhiS m c n h ⊢ Pipeline.ΦA spec0 c := by
  cases n with
  | zero => exact .rfl
  | succ n =>
    rw [PhiS_succ, PhiA_eq]
    iintro ⟨⟨H0, H1, H2, H3, H4⟩, Hg⟩
    isplitl [H0 H1 H2 H3 H4]
    · isplitl [H0]; · iexact H0
      isplitl [H1]; · iexists _; iexact H1
      isplitl [H2]; · iexists _; iexact H2
      isplitl [H3]; · iexists _; iexact H3
      iexists _; iexact H4
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => duOut (grid0.coords t) (blk m c t) (stIn m c t)
    | ⟨10, _⟩ => gathered (stAfter m c t).dw
    | ⟨11, _⟩ => (stAfter m c t).dc
    | ⟨12, _⟩ => (stAfter m c t).dl
    | ⟨13, _⟩ => (stAfter m c t).dd
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = (blk m c t).u := by dsimp only [dats]; rw [blk_u]
theorem after_1 (c : Dev nD) (t : Fin cfg0.N) : (dats m 0 c).after 1 t = (blk m c t).up := by dsimp only [dats]; rw [blk_up]
theorem after_2 (c : Dev nD) (t : Fin cfg0.N) : (dats m 0 c).after 2 t = (blk m c t).xs := by dsimp only [dats]; rw [blk_xs]
theorem after_3 (c : Dev nD) (t : Fin cfg0.N) : (dats m 0 c).after 3 t = (blk m c t).xp := by dsimp only [dats]; rw [blk_xp]
theorem after_4 (c : Dev nD) (t : Fin cfg0.N) : (dats m 0 c).after 4 t = (blk m c t).dy := by dsimp only [dats]; rw [blk_dy]
theorem after_5 (c : Dev nD) (t : Fin cfg0.N) : (dats m 0 c).after 5 t = (blk m c t).wc := by dsimp only [dats]; rw [blk_wc]
theorem after_6 (c : Dev nD) (t : Fin cfg0.N) : (dats m 0 c).after 6 t = (blk m c t).ct := by dsimp only [dats]; rw [blk_ct]
theorem after_7 (c : Dev nD) (t : Fin cfg0.N) : (dats m 0 c).after 7 t = (blk m c t).lam := by dsimp only [dats]; rw [blk_lam]
theorem after_8 (c : Dev nD) (t : Fin cfg0.N) : (dats m 0 c).after 8 t = (blk m c t).d := by dsimp only [dats]; rw [blk_d]
theorem after_9 (c : Dev nD) (t : Fin cfg0.N) : (dats m 0 c).after 9 t = duOut (grid0.coords t) (blk m c t) (stIn m c t) := by dsimp only [dats]
theorem after_10 (c : Dev nD) (t : Fin cfg0.N) : (dats m 0 c).after 10 t = gathered (stAfter m c t).dw := by dsimp only [dats]
theorem after_11 (c : Dev nD) (t : Fin cfg0.N) : (dats m 0 c).after 11 t = (stAfter m c t).dc := by dsimp only [dats]
theorem after_12 (c : Dev nD) (t : Fin cfg0.N) : (dats m 0 c).after 12 t = (stAfter m c t).dl := by dsimp only [dats]
theorem after_13 (c : Dev nD) (t : Fin cfg0.N) : (dats m 0 c).after 13 t = (stAfter m c t).dd := by dsimp only [dats]
theorem before_0 (c : Dev nD) (t : Fin cfg0.N) (d) : (dats m 0 c).before 0 t d = (blk m c t).u :=
  (before0_0_of m (dats m 0 c) (A_eq m c 0) (fun t => (after_0 m c t).trans (blk_u m c t)) t d).trans (blk_u m c t).symm
theorem before_1 (c : Dev nD) (t : Fin cfg0.N) (d) : (dats m 0 c).before 1 t d = (blk m c t).up :=
  (before0_1_of m (dats m 0 c) (A_eq m c 1) (fun t => (after_1 m c t).trans (blk_up m c t)) t d).trans (blk_up m c t).symm
theorem before_2 (c : Dev nD) (t : Fin cfg0.N) (d) : (dats m 0 c).before 2 t d = (blk m c t).xs :=
  (before0_2_of m (dats m 0 c) (A_eq m c 2) (fun t => (after_2 m c t).trans (blk_xs m c t)) t d).trans (blk_xs m c t).symm
theorem before_3 (c : Dev nD) (t : Fin cfg0.N) (d) : (dats m 0 c).before 3 t d = (blk m c t).xp :=
  (before0_3_of m (dats m 0 c) (A_eq m c 3) (fun t => (after_3 m c t).trans (blk_xp m c t)) t d).trans (blk_xp m c t).symm
theorem before_4 (c : Dev nD) (t : Fin cfg0.N) (d) : (dats m 0 c).before 4 t d = (blk m c t).dy :=
  (before0_4_of m (dats m 0 c) (A_eq m c 4) (fun t => (after_4 m c t).trans (blk_dy m c t)) t d).trans (blk_dy m c t).symm
theorem before_5 (c : Dev nD) (t : Fin cfg0.N) (d) : (dats m 0 c).before 5 t d = (blk m c t).wc :=
  (before0_5_of m (dats m 0 c) (A_eq m c 5) (fun t => (after_5 m c t).trans (blk_wc m c t)) t d).trans (blk_wc m c t).symm
theorem before_6 (c : Dev nD) (t : Fin cfg0.N) (d) : (dats m 0 c).before 6 t d = (blk m c t).ct :=
  (before0_6_of m (dats m 0 c) (A_eq m c 6) (fun t => (after_6 m c t).trans (blk_ct m c t)) t d).trans (blk_ct m c t).symm
theorem before_7 (c : Dev nD) (t : Fin cfg0.N) (d) : (dats m 0 c).before 7 t d = (blk m c t).lam :=
  (before0_7_of m (dats m 0 c) (A_eq m c 7) (fun t => (after_7 m c t).trans (blk_lam m c t)) t d).trans (blk_lam m c t).symm
theorem before_8 (c : Dev nD) (t : Fin cfg0.N) (d) : (dats m 0 c).before 8 t d = (blk m c t).d :=
  (before0_8_of m (dats m 0 c) (A_eq m c 8) (fun t => (after_8 m c t).trans (blk_d m c t)) t d).trans (blk_d m c t).symm

/-- At a point that is not a sweep's first, an accumulator's buffer holds what the point before left. -/
theorem not_flush {w : Fin cfg0.W} (hf : ∀ t : Fin cfg0.N, (cfg0.win w).flush t = true ↔ t.val % 11 = 10) (t : Fin cfg0.N) (h : ¬t.val % 11 = 10) :
    (cfg0.win w).flush t = false := by
  rw [← Bool.not_eq_true, hf t]; exact h
theorem before_11 (c : Dev nD) (t : Fin cfg0.N) (h : ¬t.val % 11 = 0) (d) :
    (dats m 0 c).before 11 t d = (stIn m c t).dc := by
  have hz : t.val ≠ 0 := fun e => h (by rw [e])
  rw [(dats m 0 c).before_out_kept 11 rfl t hz (not_flush flush0_11 _ (by dsimp only; omega)) (fun _ => rfl) (fun _ _ => rfl) d, after_11, stIn_next m c t h]
  rfl
theorem before_12 (c : Dev nD) (t : Fin cfg0.N) (h : ¬t.val % 11 = 0) (d) :
    (dats m 0 c).before 12 t d = (stIn m c t).dl := by
  have hz : t.val ≠ 0 := fun e => h (by rw [e])
  rw [(dats m 0 c).before_out_kept 12 rfl t hz (not_flush flush0_12 _ (by dsimp only; omega)) (fun _ => rfl) (fun _ _ => rfl) d, after_12, stIn_next m c t h]
  rfl
theorem before_13 (c : Dev nD) (t : Fin cfg0.N) (h : ¬t.val % 11 = 0) (d) :
    (dats m 0 c).before 13 t d = (stIn m c t).dd := by
  have hz : t.val ≠ 0 := fun e => h (by rw [e])
  rw [(dats m 0 c).before_out_kept 13 rfl t hz (not_flush flush0_13 _ (by dsimp only; omega)) (fun _ => rfl) (fun _ _ => rfl) d, after_13, stIn_next m c t h]
  rfl

theorem live_0 (c : Dev nD) (t : Fin cfg0.N) : (dats m 0 c).leavesExact 0 t = owns (c : Thread nD τ) (ms0 t) fullShare ((dats m 0 c).after 0 t) := rfl
theorem live_1 (c : Dev nD) (t : Fin cfg0.N) : (dats m 0 c).leavesExact 1 t = owns (c : Thread nD τ) (ms1 t) fullShare ((dats m 0 c).after 1 t) := rfl
theorem live_2 (c : Dev nD) (t : Fin cfg0.N) : (dats m 0 c).leavesExact 2 t = owns (c : Thread nD τ) (ms2 t) fullShare ((dats m 0 c).after 2 t) := rfl
theorem live_3 (c : Dev nD) (t : Fin cfg0.N) : (dats m 0 c).leavesExact 3 t = owns (c : Thread nD τ) (ms3 t) fullShare ((dats m 0 c).after 3 t) := rfl
theorem live_4 (c : Dev nD) (t : Fin cfg0.N) : (dats m 0 c).leavesExact 4 t = owns (c : Thread nD τ) (ms4 t) fullShare ((dats m 0 c).after 4 t) := rfl
theorem live_5 (c : Dev nD) (t : Fin cfg0.N) : (dats m 0 c).leavesExact 5 t = owns (c : Thread nD τ) (ms5 t) fullShare ((dats m 0 c).after 5 t) := rfl
theorem live_6 (c : Dev nD) (t : Fin cfg0.N) : (dats m 0 c).leavesExact 6 t = owns (c : Thread nD τ) (ms6 t) fullShare ((dats m 0 c).after 6 t) := rfl
theorem live_7 (c : Dev nD) (t : Fin cfg0.N) : (dats m 0 c).leavesExact 7 t = owns (c : Thread nD τ) (ms7 t) fullShare ((dats m 0 c).after 7 t) := rfl
theorem live_8 (c : Dev nD) (t : Fin cfg0.N) : (dats m 0 c).leavesExact 8 t = owns (c : Thread nD τ) (ms8 t) fullShare ((dats m 0 c).after 8 t) := rfl
theorem live_9 (c : Dev nD) (t : Fin cfg0.N) : (dats m 0 c).leavesExact 9 t = owns (c : Thread nD τ) (ms9 t) fullShare ((dats m 0 c).after 9 t) := rfl
theorem live_11 (c : Dev nD) (t : Fin cfg0.N) : (dats m 0 c).leavesExact 11 t = owns (c : Thread nD τ) (ms11 t) fullShare ((dats m 0 c).after 11 t) := rfl
theorem live_12 (c : Dev nD) (t : Fin cfg0.N) : (dats m 0 c).leavesExact 12 t = owns (c : Thread nD τ) (ms12 t) fullShare ((dats m 0 c).after 12 t) := rfl
theorem live_13 (c : Dev nD) (t : Fin cfg0.N) : (dats m 0 c).leavesExact 13 t = owns (c : Thread nD τ) (ms13 t) fullShare ((dats m 0 c).after 13 t) := rfl

theorem idle_10 (t : Fin cfg0.N) (h : ¬t.val % 11 = 10) : cfg0.idle 10 (grid0.coords t) = true := by
  show (!(k0_cond2 (grid0.coords t) == 1#1)) = true
  rw [Bool.not_eq_true', beq_eq_false_iff_ne]
  exact fun e => h ((cond1_iff t).mp e)

theorem busy_10 (t : Fin cfg0.N) (h : t.val % 11 = 10) : cfg0.idle 10 (grid0.coords t) = false := by
  show (!(k0_cond2 (grid0.coords t) == 1#1)) = false
  rw [Bool.not_eq_false', beq_iff_eq]
  exact (cond1_iff t).mpr h

theorem leaves_10_idle (c : Dev nD) (t : Fin cfg0.N) (h : ¬t.val % 11 = 10) :
    (dats m 0 c).leavesExact 10 t = iprop(∃ d, owns (c : Thread nD τ) (ms10 t) fullShare ((dats m 0 c).before 10 t d)) :=
  (dats m 0 c).leavesExact_idle 10 t (idle_10 t h) (not_flush flush0_10 t h)

theorem leaves_10_last (c : Dev nD) (t : Fin cfg0.N) (h : t.val % 11 = 10) :
    (dats m 0 c).leavesExact 10 t = owns (c : Thread nD τ) (ms10 t) fullShare ((dats m 0 c).after 10 t) := by
  unfold Dat.leavesExact; rw [busy_10 t h]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

set_option maxHeartbeats 4000000 in
theorem sound_A (c : Dev nD) (t : Fin cfg0.N) (h0 : t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [live_0 m c t, after_0, live_1 m c t, after_1, live_2 m c t, after_2, live_3 m c t, after_3, live_4 m c t, after_4, live_5 m c t, after_5, live_6 m c t, after_6, live_7 m c t, after_7, live_8 m c t, after_8, live_9 m c t, after_9, live_11 m c t, after_11, live_12 m c t, after_12, live_13 m c t, after_13, leaves_10_idle m c t h1]
  rw [show stPast m c t.val t.isLt = stAfter m c t from rfl, stAfter_eq, stIn_first m c t h0]
  rw [PhiS_castSucc m c t]
  refine (sep_mono_left (PhiS_out m c _ _)).trans ?_
  rw [PhiA_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) ((cond0_iff t).mpr h0) (fun h => h1 ((cond1_iff t).mp h)) (blk m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H9]; · iexists _; iexact H9
  isplitl [HS0]; · iexact HS0
  isplitl [HS1]; · iexact HS1
  isplitl [HS2]; · iexact HS2
  isplitl [HS3]; · iexact HS3
  isplitl [HS4]; · iexact HS4
  isplitl [H11]; · iexists _; iexact H11
  isplitl [H12]; · iexists _; iexact H12
  isplitl [H13]; · iexists _; iexact H13
  iintro ⟨H0, H1, H2, H3, H4, H5, H6, H7, H8, HS1, HS2, HS3, HS4, H11, H12, H13, H10, H9, HS0⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  iexact H13

set_option maxHeartbeats 4000000 in
theorem sound_B (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_11 m c t h0, before_12 m c t h0, before_13 m c t h0]
  rw [show (dats m 0 c).owesAt () t.succ = (dats m 0 c).owesAt () t.castSucc from rfl]
  rw [show (dats m 0 c).Φ t.succ = PhiS m c (t.val + 1) t.isLt from rfl, PhiS_succ]
  rw [live_0 m c t, after_0, live_1 m c t, after_1, live_2 m c t, after_2, live_3 m c t, after_3, live_4 m c t, after_4, live_5 m c t, after_5, live_6 m c t, after_6, live_7 m c t, after_7, live_8 m c t, after_8, live_9 m c t, after_9, live_11 m c t, after_11, live_12 m c t, after_12, live_13 m c t, after_13, leaves_10_idle m c t h1]
  rw [show stPast m c t.val t.isLt = stAfter m c t from rfl, stAfter_eq]
  rw [PhiS_castSucc m c t, PhiS_pos m c _ _ (fun e => h0 (by rw [e])), ← stIn_next m c t h0]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) (fun h => h0 ((cond0_iff t).mp h)) (fun h => h1 ((cond1_iff t).mp h)) (blk m c t) (stIn m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS1]; · iexact HS1
  isplitl [HS2]; · iexact HS2
  isplitl [HS3]; · iexact HS3
  isplitl [HS4]; · iexact HS4
  isplitl [H11]; · iexact H11
  isplitl [H12]; · iexact H12
  isplitl [H13]; · iexact H13
  isplitl [H10]; · iexact H10
  isplitl [H9]; · iexists _; iexact H9
  isplitl [HS0]; · iexact HS0
  iintro ⟨H0, H1, H2, H3, H4, H5, H6, H7, H8, HS1, HS2, HS3, HS4, H11, H12, H13, H10, H9, HS0⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  iexact H13

set_option maxHeartbeats 4000000 in
theorem sound_C (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_11 m c t h0, before_12 m c t h0, before_13 m c t h0]
  rw [show (dats m 0 c).owesAt () t.succ = (dats m 0 c).owesAt () t.castSucc from rfl]
  rw [show (dats m 0 c).Φ t.succ = PhiS m c (t.val + 1) t.isLt from rfl, PhiS_succ]
  rw [live_0 m c t, after_0, live_1 m c t, after_1, live_2 m c t, after_2, live_3 m c t, after_3, live_4 m c t, after_4, live_5 m c t, after_5, live_6 m c t, after_6, live_7 m c t, after_7, live_8 m c t, after_8, live_9 m c t, after_9, live_11 m c t, after_11, live_12 m c t, after_12, live_13 m c t, after_13, leaves_10_last m c t h1, after_10]
  rw [show stPast m c t.val t.isLt = stAfter m c t from rfl, stAfter_eq]
  rw [PhiS_castSucc m c t, PhiS_pos m c _ _ (fun e => h0 (by rw [e])), ← stIn_next m c t h0]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) (fun h => h0 ((cond0_iff t).mp h)) ((cond1_iff t).mpr h1) (blk m c t) (stIn m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS1]; · iexact HS1
  isplitl [HS2]; · iexact HS2
  isplitl [HS3]; · iexact HS3
  isplitl [HS4]; · iexact HS4
  isplitl [H11]; · iexact H11
  isplitl [H12]; · iexact H12
  isplitl [H13]; · iexact H13
  isplitl [H9]; · iexists _; iexact H9
  isplitl [H10]; · iexists _; iexact H10
  isplitl [HS0]; · iexact HS0
  iintro ⟨H0, H1, H2, H3, H4, H5, H6, H7, H8, HS1, HS2, HS3, HS4, H11, H12, H13, H10, H9, HS0⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact sound_A m c t h0 (by omega)
  · by_cases h1 : t.val % 11 = 10
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

set_option backward.isDefEq.respectTransparency.types false in
/-- Every execution ends, each array at what the points wrote, every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Ssm

end
-- ==== Proof.Blocks.lean ====
module

public import proofs.«01_k».proof.Proof.Points
public import Idealize.ShloMosaic.Lib.Pipeline.ValueKit.Point

@[expose] public section

set_option maxRecDepth 16384

noncomputable section

namespace Cert.KernelIdeal.Ssm

open Idealize.ShloMosaic
open Cert.KernelIdeal.Gen
open Idealize.ShloMosaic.VecWindow (window put)
/-! ## The blocks of a point, read off the arrays the region finds -/

theorem idx0 : ∀ t : Fin cfg0.N, win0_0.index t 0 = 10 - t.val % 11 ∧ win0_0.index t 1 = 12 + t.val / 11 := by decide +kernel
theorem idx4 : ∀ t : Fin cfg0.N, win0_4.index t 0 = 10 - t.val % 11 ∧ win0_4.index t 1 = t.val / 11 := by decide +kernel
theorem idx5 : ∀ t : Fin cfg0.N, win0_5.index t 0 = t.val / 11 ∧ win0_5.index t 1 = 0 ∧ win0_5.index t 2 = 0 := by decide +kernel
theorem idx6 : ∀ t : Fin cfg0.N, win0_6.index t 0 = t.val / 11 ∧ win0_6.index t 1 = 0 ∧ win0_6.index t 2 = 0 := by decide +kernel
theorem idx7 : ∀ t : Fin cfg0.N, win0_7.index t 0 = t.val / 11 ∧ win0_7.index t 1 = 0 ∧ win0_7.index t 2 = 0 := by decide +kernel
theorem idx8 : ∀ t : Fin cfg0.N, win0_8.index t 0 = 0 ∧ win0_8.index t 1 = t.val / 11 := by decide +kernel

theorem idx9 : ∀ t : Fin cfg0.N, win0_9.index t 0 = 10 - t.val % 11 ∧ win0_9.index t 1 = t.val / 11 := by decide +kernel
theorem idx13 : ∀ t : Fin cfg0.N, win0_13.index t 0 = 0 ∧ win0_13.index t 1 = t.val / 11 := by decide +kernel

theorem slab_lt (t : Fin cfg0.N) : t.val / 11 < 8 := by have := N_eq t; omega

variable (m : (ℓ : Loc nD τ sig) → Buf (Elt Ideal) ℓ) (c : Dev nD)

theorem u_at (t : Fin cfg0.N) (r : Fin 384) (k : Fin 128) :
    (blk m c t).u (ix2 r k) = (V m c main_arg0 : S4224x2560.Idx → EReal) (ix2 ⟨384 * (10 - t.val % 11) + r.val, by omega⟩ ⟨128 * (12 + t.val / 11) + k.val, by have := slab_lt t; omega⟩) := by
  rw [blk_u]
  blk_ext [iblk, idx0 t]

theorem dy_at (t : Fin cfg0.N) (r : Fin 384) (k : Fin 128) :
    (blk m c t).dy (ix2 r k) = (V m c main_v153 : S4224x1024.Idx → EReal) (ix2 ⟨384 * (10 - t.val % 11) + r.val, by omega⟩ ⟨128 * (t.val / 11) + k.val, by have := slab_lt t; omega⟩) := by
  rw [blk_dy]
  blk_ext [iblk, idx4 t]

theorem wc_at (t : Fin cfg0.N) (r : Fin 1024) (k : Fin 128) :
    (blk m c t).wc (ix3 0 r k) = (V m c main_v133 : S8x1024x128.Idx → EReal) (ix3 ⟨t.val / 11, slab_lt t⟩ r k) := by
  rw [blk_wc]
  blk_ext [iblk, idx5 t]

theorem ct_at (t : Fin cfg0.N) (r : Fin 128) (k : Fin 1024) :
    (blk m c t).ct (ix3 0 r k) = (V m c main_v154 : S8x128x1024.Idx → EReal) (ix3 ⟨t.val / 11, slab_lt t⟩ r k) := by
  rw [blk_ct]
  blk_ext [iblk, idx6 t]

theorem lam_at (t : Fin cfg0.N) (k : Fin 1024) :
    (blk m c t).lam (ix3 0 0 k) = (V m c main_v152 : S8x1x1024.Idx → EReal) (ix3 ⟨t.val / 11, slab_lt t⟩ 0 k) := by
  rw [blk_lam]
  blk_ext [iblk, idx7 t]

theorem d_at (t : Fin cfg0.N) (k : Fin 128) :
    (blk m c t).d (ix2 0 k) = (V m c main_arg10 : S1x1024.Idx → EReal) (ix2 0 ⟨128 * (t.val / 11) + k.val, by have := slab_lt t; omega⟩) := by
  rw [blk_d]
  blk_ext [iblk, idx8 t]

end Cert.KernelIdeal.Ssm

end
-- ==== Proof.Sweep.lean ====
module

public import proofs.«01_k».proof.Proof.Tile
public import proofs.«01_k».proof.Proof.HostC
public import proofs.«01_k».proof.Proof.Blocks

@[expose] public section

set_option maxRecDepth 16384

noncomputable section

namespace Cert.KernelIdeal.Ssm

open Idealize.ShloMosaic
open Cert.KernelIdeal.Gen Cert.Ssm
open Idealize.ShloMosaic.VecWindow (window put)
open ComplexConjugate

/-! ## A sweep over a slab's tiles, from the last rows to the first -/

/-- The slab of a point, and the first row of its tile. -/
def slab (t : Fin cfg0.N) : Fin 8 := ⟨t.val / 11, slab_lt t⟩
def base (t : Fin cfg0.N) : ℕ := 384 * (10 - t.val % 11)

variable {m : (ℓ : Loc nD τ sig) → Buf (Elt Ideal) ℓ} {c : Dev nD} {x : Par} (hx : Reads m c x)
include hx

theorem fits (t : Fin cfg0.N) : Fits x (slab t) (base t) (blk m c t) where
  dy := fun r k => (dy_at m c t r k).trans (dy_val hx _ _)
  ct := fun k q => (ct_at m c t k q).trans (ct_val hx _ k q)
  lam := fun q => (lam_at m c t q).trans (lam_val hx _ q)

theorem good_start (t : Fin cfg0.N) : Good x (slab t) 4224 (start (blk m c t).wc) where
  carry := fun r q => by
    have e : A8 x (slab t) (4224 + r.val) q.val = 0 := adj8_zero _ _ (x.src_zero _ _) _ (by omega)
    have z : k0_pay25 (F := Ideal) (ix2 r q) = (0 : EReal) := by pointwise [k0_pay25]
    rw [e]
    refine z.trans ?_
    simp [part]
  head := fun r k => by
    have e : ∀ q, A8 x (slab t) (4224 + r.val) q = 0 := fun q => adj8_zero _ _ (x.src_zero _ _) _ (by omega)
    have z : k0_pay26 (F := Ideal) (ix2 r k) = (0 : EReal) := by pointwise [k0_pay26]
    refine z.trans ?_
    simp [Pr, e, part]
  w := fun k q => by
    have hk := k.isLt
    have hq := q.isLt
    show spread (blk m c t).wc (ix2 k q) = _
    rw [spread_apply]
    unfold Wt
    by_cases h : k.val / 16 % 8 = q.val % 512 / 64
    · rw [if_pos h, if_pos h]
      refine ((wc_at m c t k _).trans (wc_val hx _ k _)).trans (congrArg _ ?_)
      have e1 : (⟨t.val / 11 * 8 + k.val % 128 / 16, by have := slab_lt t; omega⟩ : Fin 64) = chanG (slab t) k.val := Fin.ext (by show t.val / 11 * 8 + k.val % 128 / 16 = 8 * (t.val / 11) + k.val % 128 / 16; omega)
      have e2 : (⟨(q.val / 512 * 64 + q.val % 64) % 64, by omega⟩ : Fin 64) = sta q.val := Fin.ext (by show (q.val / 512 * 64 + q.val % 64) % 64 = q.val % 64; omega)
      have e3 : (⟨k.val % 128 % 16, by omega⟩ : Fin 16) = chanH k.val := Fin.ext (by show k.val % 128 % 16 = k.val % 16; omega)
      simp only [e1, e2, e3, part]
      by_cases g : q.val < 512
      · rw [if_pos g, if_pos (by omega)]
      · rw [if_neg g, if_neg (by omega)]
    · rw [if_neg h, if_neg h]
      rfl

/-- What every point finds. -/
theorem good_past : ∀ (n : ℕ) (h : n < cfg0.N), Good x (slab ⟨n, h⟩) (base ⟨n, h⟩) (stPast m c n h)
  | 0, h => by
    have g := good_start hx ⟨0, h⟩
    exact good_step (fits hx ⟨0, h⟩) g _
  | n + 1, h => by
    unfold stPast
    refine good_step (fits hx ⟨n + 1, h⟩) ?_ _
    by_cases e : (n + 1) % 11 = 0
    · rw [if_pos e]
      have g := good_start hx ⟨n + 1, h⟩
      have b : base ⟨n + 1, h⟩ + 384 = 4224 := by show 384 * (10 - (n + 1) % 11) + 384 = 4224; omega
      rw [b]; exact g
    · rw [if_neg e]
      have g := good_past n (Nat.lt_of_succ_lt h)
      have b : base ⟨n + 1, h⟩ + 384 = base ⟨n, Nat.lt_of_succ_lt h⟩ := by show 384 * (10 - (n + 1) % 11) + 384 = 384 * (10 - n % 11); omega
      have j : slab ⟨n + 1, h⟩ = slab ⟨n, Nat.lt_of_succ_lt h⟩ := Fin.ext (by show (n + 1) / 11 = n / 11; omega)
      rw [b, j]; exact g

theorem good_in (t : Fin cfg0.N) : Good x (slab t) (base t + 384) (stIn m c t) := by
  have hN := N_eq t
  by_cases e : t.val % 11 = 0
  · rw [stIn_first m c t e]
    have b : base t + 384 = 4224 := by show 384 * (10 - t.val % 11) + 384 = 4224; omega
    rw [b]; exact good_start hx t
  · rw [stIn_next m c t e]
    have g := good_past hx (t.val - 1) (Nat.lt_of_le_of_lt (Nat.sub_le _ _) t.isLt)
    have b : base t + 384 = base ⟨t.val - 1, Nat.lt_of_le_of_lt (Nat.sub_le _ _) t.isLt⟩ := by show 384 * (10 - t.val % 11) + 384 = 384 * (10 - (t.val - 1) % 11); omega
    have j : slab t = slab ⟨t.val - 1, Nat.lt_of_le_of_lt (Nat.sub_le _ _) t.isLt⟩ := Fin.ext (by show t.val / 11 = (t.val - 1) / 11; omega)
    rw [b, j]; exact g

/-- The input's gradient at a row and a column. -/
def duAt (m : (ℓ : Loc nD τ sig) → Buf (Elt Ideal) ℓ) (c : Dev nD) (x : Par) (T : ℕ) (k : Fin 1024) : EReal :=
  if 112 ≤ T then rd ((m (c, Proc.devRef .tc main_arg10) : S1x1024.Idx → EReal) (ix2 0 k)) * ((x.gy T k : ℝ) : EReal) + ((x.mix T ⟨k.val / 16, by omega⟩ ⟨k.val % 16, by omega⟩ : ℝ) : EReal) else 0

/-- The block of it a point writes. -/
theorem du_block (t : Fin cfg0.N) (r : Fin 384) (k : Fin 128) :
    duOut (grid0.coords t) (blk m c t) (stIn m c t) (ix2 r k) = duAt m c x (base t + r.val) ⟨128 * (slab t).val + k.val, by omega⟩ := by
  have hk := k.isLt
  have h := duOut_at (fits hx t) (good_in hx t) (grid0.coords t) (by rw [coord1]; rfl) r k
  rw [h, d_at]
  unfold duAt
  have e1 : chanG (slab t) k.val = ⟨(128 * (slab t).val + k.val) / 16, by omega⟩ := Fin.ext (by show 8 * (slab t).val + k.val % 128 / 16 = (128 * (slab t).val + k.val) / 16; omega)
  have e2 : chanH k.val = ⟨(128 * (slab t).val + k.val) % 16, by omega⟩ := Fin.ext (by show k.val % 16 = (128 * (slab t).val + k.val) % 16; omega)
  simp only [e1, e2]
  rw [V_main_arg10]
  rfl

/-- One row's share of the skip's gradient. -/
def ddAt (m : (ℓ : Loc nD τ sig) → Buf (Elt Ideal) ℓ) (c : Dev nD) (x : Par) (k : Fin 1024) (T : ℕ) : EReal :=
  if h : T < 4224 then ((x.gy T k : ℝ) : EReal) * rd ((m (c, Proc.devRef .tc main_arg0) : S4224x2560.Idx → EReal) (ix2 ⟨T, h⟩ ⟨1536 + k.val, by omega⟩)) else 0

theorem dd_step (t : Fin cfg0.N) (s : St Ideal) (k : Fin 128) (S : EReal) (hs : s.dd (ix2 0 k) = S) :
    (step (grid0.coords t) (blk m c t) s).dd (ix2 0 k) = (∑ r : Fin 384, ddAt m c x ⟨128 * (slab t).val + k.val, by omega⟩ (base t + r.val)) + S := by
  show k0_pay2 (blk m c t).u (k0_pay39 (blk m c t).dy) s.dd (ix2 0 k) = _
  rw [pay2_apply, hs, add_comm]
  refine congrArg (· + S) (Finset.sum_congr rfl fun r _ => ?_)
  have e39 : k0_pay39 (blk m c t).dy (ix2 r k) = (blk m c t).dy (ix2 r k) := by pointwise [k0_pay39]
  have hb : base t + r.val < 4224 := by show 384 * (10 - t.val % 11) + r.val < 4224; omega
  have eu : (blk m c t).u (ix2 r k) = rd ((m (c, Proc.devRef .tc main_arg0) : S4224x2560.Idx → EReal) (ix2 ⟨base t + r.val, hb⟩ ⟨1536 + (128 * (slab t).val + k.val), by have := (slab t).isLt; omega⟩)) := by
    have ei : (⟨128 * (12 + t.val / 11) + k.val, by have := slab_lt t; omega⟩ : Fin 2560) = ⟨1536 + (128 * (slab t).val + k.val), by have := (slab t).isLt; omega⟩ :=
      Fin.ext (by show 128 * (12 + t.val / 11) + k.val = 1536 + (128 * (t.val / 11) + k.val); omega)
    rw [u_at, ei]
    exact congrFun (V_main_arg0 m c) _
  rw [e39, (fits hx t).dy, ddAt, dif_pos hb, eu]

theorem sum_tile (f : ℕ → EReal) (b : ℕ) (h : b + 384 ≤ 4224) : (∑ r : Fin 384, f (b + r.val)) + ∑ T ∈ Finset.Ico (b + 384) 4224, f T = ∑ T ∈ Finset.Ico b 4224, f T := by
  rw [← Finset.sum_Ico_consecutive f (Nat.le_add_right b 384) h]
  congr 1
  rw [Finset.sum_Ico_eq_sum_range, Nat.add_sub_cancel_left, Finset.sum_range]

theorem dd_past : ∀ (n : ℕ) (h : n < cfg0.N) (k : Fin 128), (stPast m c n h).dd (ix2 0 k) = ∑ T ∈ Finset.Ico (base ⟨n, h⟩) 4224, ddAt m c x ⟨128 * (slab ⟨n, h⟩).val + k.val, by omega⟩ T := by
  have z : ∀ (t : Fin cfg0.N) (k : Fin 128), (start (blk m c t).wc).dd (ix2 0 k) = (0 : EReal) := fun t k => by
    show k0_pay37 (F := Ideal) (ix2 0 k) = (0 : EReal)
    pointwise [k0_pay37]
  intro n
  induction n with
  | zero =>
    intro h k
    refine (dd_step hx ⟨0, h⟩ _ k 0 (z _ k)).trans ?_
    rw [← sum_tile hx _ (base ⟨0, h⟩) (by show 384 * (10 - 0 % 11) + 384 ≤ 4224; omega)]
    rfl
  | succ n ih =>
    intro h k
    unfold stPast
    rw [← sum_tile hx _ (base ⟨n + 1, h⟩) (by show 384 * (10 - (n + 1) % 11) + 384 ≤ 4224; omega)]
    refine dd_step hx ⟨n + 1, h⟩ _ k _ ?_
    by_cases e : (n + 1) % 11 = 0
    · rw [if_pos e, z]
      have b : base ⟨n + 1, h⟩ + 384 = 4224 := by show 384 * (10 - (n + 1) % 11) + 384 = 4224; omega
      rw [b, Finset.Ico_self, Finset.sum_empty]
    · rw [if_neg e, ih]
      have b : base ⟨n + 1, h⟩ + 384 = base ⟨n, Nat.lt_of_succ_lt h⟩ := by show 384 * (10 - (n + 1) % 11) + 384 = 384 * (10 - n % 11); omega
      have j : slab ⟨n + 1, h⟩ = slab ⟨n, Nat.lt_of_succ_lt h⟩ := Fin.ext (by show (n + 1) / 11 = n / 11; omega)
      simp only [b, j]

/-- The skip's gradient a sweep ends with. -/
theorem dd_block (t : Fin cfg0.N) (ht : t.val % 11 = 10) (k : Fin 128) :
    (stAfter m c t).dd (ix2 0 k) = ∑ T ∈ Finset.range 4224, ddAt m c x ⟨128 * (slab t).val + k.val, by omega⟩ T := by
  refine (dd_past hx t.val t.isLt k).trans ?_
  have b : base ⟨t.val, t.isLt⟩ = 0 := by show 384 * (10 - t.val % 11) = 0; omega
  rw [b, Finset.range_eq_Ico]

end Cert.KernelIdeal.Ssm

end
-- ==== Proof.Out.lean ====
module

public import proofs.«01_k».proof.Proof.Sweep
public import Idealize.ShloMosaic.Lib.Pipeline.ValueKit

@[expose] public section

set_option maxRecDepth 16384

noncomputable section

namespace Cert.KernelIdeal.Ssm

open Idealize.ShloMosaic
open Cert.KernelIdeal.Gen Cert.Ssm

/-! ## The two result arrays -/

/-- The gradient of the mixed channels, -/
def duArr (m : (ℓ : Loc nD τ sig) → Buf (Elt Ideal) ℓ) (c : Dev nD) (x : Par) : S4224x1024.Idx → EReal := fun i => duAt m c x (i 0).val (i 1)
/-- and that of the skip's weights. -/
def ddArr (m : (ℓ : Loc nD τ sig) → Buf (Elt Ideal) ℓ) (c : Dev nD) (x : Par) : S1x1024.Idx → EReal := fun i => ∑ T ∈ Finset.range 4224, ddAt m c x (i 1) T

variable {m : (ℓ : Loc nD τ sig) → Buf (Elt Ideal) ℓ} {c : Dev nD} {x : Par} (hx : Reads m c x)
include hx

theorem du_array : (dats m 0 c).arrAt 9 cfg0.N = duArr m c x := by
  refine (dats m 0 c).arrAt_eq_of_covers 9 _ (by decide +kernel) fun t hf y => ?_
  have h := du_block hx t (y 0) (y 1)
  refine (congrArg (duOut (grid0.coords t) (blk m c t) (stIn m c t)) (eq_ix2 (n0 := 384) (n1 := 128) y)).trans (h.trans ?_)
  unfold duArr
  have e0 : (((win0_9.blk t).view.emb y : S4224x1024.Idx) 0).val = base t + (y 0).val := by
    have i0 := (idx9 t).1
    blk_simp
    unfold base
    omega
  have e1 : ((win0_9.blk t).view.emb y : S4224x1024.Idx) 1 = (⟨128 * (slab t).val + (y 1).val, by have hy : (y 1).val < 128 := (y 1).isLt; have := (slab t).isLt; omega⟩ : Fin 1024) := by
    have i1 := (idx9 t).2
    apply Fin.ext
    blk_simp
    show _ = 128 * (t.val / 11) + (y 1).val
    omega
  refine Eq.trans ?_ (congrArg₂ (duAt m c x) e0.symm e1.symm)
  rfl

theorem dd_array : (dats m 0 c).arrAt 13 cfg0.N = ddArr m c x := by
  refine (dats m 0 c).arrAt_eq_of_covers 13 _ (by decide +kernel) fun t hf y => ?_
  have ht : t.val % 11 = 10 := (flush0_13 t).mp hf
  have h := dd_block hx t ht (y 1)
  have y0 : (y 0) = (0 : Fin 1) := Subsingleton.elim (α := Fin 1) _ _
  refine (congrArg (stAfter m c t).dd ((eq_ix2 (n0 := 1) (n1 := 128) y).trans (congrArg (fun z => ix2 z (y 1)) y0))).trans (h.trans ?_)
  unfold ddArr
  have e1 : ((win0_13.blk t).view.emb y : S1x1024.Idx) 1 = (⟨128 * (slab t).val + (y 1).val, by have hy : (y 1).val < 128 := (y 1).isLt; have := (slab t).isLt; omega⟩ : Fin 1024) := by
    have i1 := (idx13 t).2
    apply Fin.ext
    blk_simp
    show _ = 128 * (t.val / 11) + (y 1).val
    omega
  exact congrArg (fun z => ∑ T ∈ Finset.range 4224, ddAt m c x z T) e1.symm

end Cert.KernelIdeal.Ssm

end
-- ==== Proof.Tame.lean ====
module

public import proofs.«01_k».proof.Proof.HostA
public import proofs.«01_k».proof.Proof.Gen.Pre_tame
public import Idealize.ShloMosaic.Lib.ReduceAll
public import Idealize.ShloMosaic.Lib.Pointwise

@[expose] public section

set_option maxRecDepth 16384

noncomputable section

namespace Cert.Pre_tame.Ssm

open Idealize.ShloMosaic
open Cert.Pre_tame.Gen Cert.Ssm

/-! ## What the precondition says of the arguments -/

theorem inf_word : Ideal.ofBits .f32 0x7F800000#32 = ⊤ := by
  simp [Ideal.ofBits, Ideal.ieee]

/-- An extended real whose magnitude is below infinity is a real number. -/
theorem real_of_lt {a : EReal} (h : max a (-a) < ⊤) : a = ((a.toReal : ℝ) : EReal) := by
  refine (EReal.coe_toReal ?_ ?_).symm
  · rintro rfl
    simp at h
  · rintro rfl
    simp at h

instance : Subsingleton S_.Idx := ⟨fun a b => funext fun k => k.elim0⟩

/-- Every element of an array whose test against infinity holds throughout is a real number. -/
theorem real_of_all {s : Shape} {axes : List (Fin s.rank)} (x : FVec Ideal s .f32) (hb : S_.BroadcastsInDim s (![] : Fin 0 → Fin s.rank)) (hr : s.ReducesTo axes S_)
    (e : Host.reduce IntOp.andi (cmpf .olt (Host.absf x) (broadcastInDim s ![] hb (constant S_ .f32 0x7F800000#32))) (constantI S_ 1 1#1) hr h_S_ ix0 = 1#1) (i : s.Idx) :
    (x i : EReal) = (((x i : EReal).toReal : ℝ) : EReal) := by
  have h := Host.reduce_andi_all _ _ hr h_S_ ix0 e i
  refine real_of_lt ?_
  have h' : Ideal.cmp .olt (max (x i : EReal) (-(x i : EReal))) (Ideal.ofBits .f32 0x7F800000#32) = 1#1 := h
  rw [inf_word] at h'
  by_contra hn
  simp [Ideal.cmp, hn] at h'

theorem of_fn (a0 : FVec Ideal S4224x2560 .f32) (a1 : FVec Ideal S4224x8192 .f32) (a2 : FVec Ideal S4112x1024 .f32) (a3 a4 : FVec Ideal S64x64 .f32) (a5 : FVec Ideal S64 .f32)
    (a6 a7 : FVec Ideal S64x64x16 .f32) (a8 a9 : FVec Ideal S64x16x64 .f32) (a10 : FVec Ideal S1x1024 .f32) (h : fn a0 a1 a2 a3 a4 a5 a6 a7 a8 a9 a10 = fun _ => 1#1) :
    (∀ i, (a2 i : EReal) = (((a2 i : EReal).toReal : ℝ) : EReal)) ∧ (∀ i, (a3 i : EReal) = (((a3 i : EReal).toReal : ℝ) : EReal))
      ∧ (∀ i, (a4 i : EReal) = (((a4 i : EReal).toReal : ℝ) : EReal)) ∧ (∀ i, (a5 i : EReal) = (((a5 i : EReal).toReal : ℝ) : EReal))
      ∧ (∀ i, (a6 i : EReal) = (((a6 i : EReal).toReal : ℝ) : EReal)) ∧ (∀ i, (a7 i : EReal) = (((a7 i : EReal).toReal : ℝ) : EReal))
      ∧ (∀ i, (a8 i : EReal) = (((a8 i : EReal).toReal : ℝ) : EReal)) ∧ (∀ i, (a9 i : EReal) = (((a9 i : EReal).toReal : ℝ) : EReal))
      ∧ ∀ i, (0 : EReal) < (a3 i : EReal) * (a3 i : EReal) + (a4 i : EReal) * (a4 i : EReal) := by
  have e := congrFun h ix0
  unfold fn fn_part1 fn_part2 at e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e1, e2⟩ := IntOp.andi_eq_one.mp e
  refine ⟨real_of_all a2 _ _ e1, real_of_all a3 _ _ e2, real_of_all a4 _ _ e3, real_of_all a5 _ _ e4, real_of_all a6 _ _ e5, real_of_all a7 _ _ e6, real_of_all a8 _ _ e7, real_of_all a9 _ _ e8, fun i => ?_⟩
  have h9 := Host.reduce_andi_all _ _ _ h_S_ ix0 e9 i
  have h' : Ideal.cmp .ogt ((a3 i : EReal) * (a3 i : EReal) + (a4 i : EReal) * (a4 i : EReal)) (Ideal.ofBits .f32 0x00000000#32) = 1#1 := h9
  have z : Ideal.ofBits .f32 0x00000000#32 = (0 : EReal) := by simp [Ideal.ofBits, Ideal.ieee]
  rw [z] at h'
  by_contra hn
  simp [Ideal.cmp, hn] at h'

open Cert.KernelIdeal.Ssm in
/-- Arguments the precondition admits are read by real parameters. -/
theorem exists_par (m : (ℓ : Loc KernelIdeal.nD KernelIdeal.τ KernelIdeal.sig) → Buf (Elt Ideal) ℓ) (c : Dev KernelIdeal.nD)
    (h : fn (F := Ideal) (m (c, Proc.devRef .tc KernelIdeal.main_arg0)) (m (c, Proc.devRef .tc KernelIdeal.main_arg1)) (m (c, Proc.devRef .tc KernelIdeal.main_arg2)) (m (c, Proc.devRef .tc KernelIdeal.main_arg3))
      (m (c, Proc.devRef .tc KernelIdeal.main_arg4)) (m (c, Proc.devRef .tc KernelIdeal.main_arg5)) (m (c, Proc.devRef .tc KernelIdeal.main_arg6)) (m (c, Proc.devRef .tc KernelIdeal.main_arg7))
      (m (c, Proc.devRef .tc KernelIdeal.main_arg8)) (m (c, Proc.devRef .tc KernelIdeal.main_arg9)) (m (c, Proc.devRef .tc KernelIdeal.main_arg10)) = fun _ => 1#1) : ∃ x : Par, Reads m c x := by
  obtain ⟨h2, h3, h4, h5, h6, h7, h8, h9, hd⟩ := of_fn _ _ _ _ _ _ _ _ _ _ _ h
  refine ⟨⟨fun r k => EReal.toReal ((m (c, Proc.devRef .tc KernelIdeal.main_arg2) : S4112x1024.Idx → EReal) (ix2 r k)), fun g p => EReal.toReal ((m (c, Proc.devRef .tc KernelIdeal.main_arg3) : S64x64.Idx → EReal) (ix2 g p)),
    fun g p => EReal.toReal ((m (c, Proc.devRef .tc KernelIdeal.main_arg4) : S64x64.Idx → EReal) (ix2 g p)), fun g => EReal.toReal ((m (c, Proc.devRef .tc KernelIdeal.main_arg5) : S64.Idx → EReal) (ix1 g)),
    fun g p h => EReal.toReal ((m (c, Proc.devRef .tc KernelIdeal.main_arg6) : S64x64x16.Idx → EReal) (ix3 g p h)), fun g p h => EReal.toReal ((m (c, Proc.devRef .tc KernelIdeal.main_arg7) : S64x64x16.Idx → EReal) (ix3 g p h)),
    fun g h p => EReal.toReal ((m (c, Proc.devRef .tc KernelIdeal.main_arg8) : S64x16x64.Idx → EReal) (ix3 g h p)), fun g h p => EReal.toReal ((m (c, Proc.devRef .tc KernelIdeal.main_arg9) : S64x16x64.Idx → EReal) (ix3 g h p))⟩,
    fun r k => h2 _, fun g p => h3 _, fun g p => h4 _, fun g => h5 _, fun g p h => h6 _, fun g p h => h7 _, fun g h p => h8 _, fun g h p => h9 _, fun g p => ?_⟩
  have h0 := hd (ix2 g p)
  rw [h3 (ix2 g p), h4 (ix2 g p), ← EReal.coe_mul, ← EReal.coe_mul, ← EReal.coe_add] at h0
  exact (EReal.coe_pos.mp h0).ne'

end Cert.Pre_tame.Ssm

end
-- ==== Proof.RefTrip.lean ====
module

public import proofs.«01_k».proof.Proof.Math
public import proofs.«01_k».proof.Proof.Gen.ReferenceIdeal.Run
public import Idealize.ShloMosaic.Lib.Pointwise

@[expose] public section

set_option maxRecDepth 16384

noncomputable section

namespace Cert.ReferenceIdeal.Ssm

open Idealize.ShloMosaic Idealize.ShloMosaic.TcCoe
open Cert.ReferenceIdeal.Gen Cert.ReferenceIdeal.Value Cert.Ssm

/-! ## One trip of the plain loop, read at an index -/

/-- Where a trip's row starts. -/
def at0 (t : IVec S_ 32) : Fin 3 → ℤ := fun k => (((![t, constantI S_ 32 0#32, constantI S_ 32 0#32] : Fin 3 → (⟨S_, .i32⟩ : BufTy).Contents (Elt Ideal))) k (Shape.Idx.first h_S_)).toInt

theorem at0_0 (t : IVec S_ 32) (n : ℕ) (hn : (t ix0).toInt = n) : at0 t 0 = n := by
  refine Eq.trans ?_ hn
  show (t (Shape.Idx.first h_S_)).toInt = _
  exact congrArg (fun z => (t z).toInt) (funext fun k => k.elim0)
theorem at0_1 (t : IVec S_ 32) : at0 t 1 = (0 : ℕ) := rfl
theorem at0_2 (t : IVec S_ 32) : at0 t 2 = (0 : ℕ) := rfl

/-- The row of the output's gradient that a trip takes. -/
def row (D : S4112x64x16.Idx → EReal) (t : IVec S_ 32) : S64x16.Idx → EReal :=
  shapeCast S64x16 (Host.dynamicSlice S1x64x16 (α := EReal) D (at0 t) sliceFits_S4112x64x16_S1x64x16) shapeCasts_S1x64x16_S64x16

theorem row_at (D : S4112x64x16.Idx → EReal) (t : IVec S_ 32) (n : Fin 4112) (hn : (t ix0).toInt = n.val) (g : Fin 64) (h : Fin 16) :
    row D t (ix2 g h) = D (ix3 n g h) := by
  unfold row
  pointwise []
  have c0 := Host.clampedStart_of_le (s := S4112x64x16) (t := S1x64x16) rfl (at0 t) 0 n.val (at0_0 t n.val hn) (by have := n.isLt; show n.val + 1 ≤ 4112; omega)
  have c1 := Host.clampedStart_of_le (s := S4112x64x16) (t := S1x64x16) rfl (at0 t) 1 0 (at0_1 t) (by decide)
  have c2 := Host.clampedStart_of_le (s := S4112x64x16) (t := S1x64x16) rfl (at0 t) 2 0 (at0_2 t) (by decide)
  refine congrArg D ?_
  simp only [c0, c1, c2, Nat.zero_add]

/-- The result with the trip's row put in. -/
def putRow (R : S4112x64x16.Idx → EReal) (u : S64x16.Idx → EReal) (t : IVec S_ 32) : S4112x64x16.Idx → EReal :=
  Host.dynamicUpdateSlice (α := EReal) R (broadcastInDim S1x64x16 ![1, 2] bcast_S64x16_S1x64x16_1_2 u) (at0 t) updateFits_S4112x64x16_S1x64x16

theorem putRow_at (R : S4112x64x16.Idx → EReal) (u : S64x16.Idx → EReal) (t : IVec S_ 32) (n : Fin 4112) (hn : (t ix0).toInt = n.val) (r : Fin 4112) (g : Fin 64) (h : Fin 16) :
    putRow R u t (ix3 r g h) = if r = n then u (ix2 g h) else R (ix3 r g h) := by
  have c0 := Host.clampedStart_of_le (s := S4112x64x16) (t := S1x64x16) rfl (at0 t) 0 n.val (at0_0 t n.val hn) (by have := n.isLt; show n.val + 1 ≤ 4112; omega)
  have c1 := Host.clampedStart_of_le (s := S4112x64x16) (t := S1x64x16) rfl (at0 t) 1 0 (at0_1 t) (by decide)
  have c2 := Host.clampedStart_of_le (s := S4112x64x16) (t := S1x64x16) rfl (at0 t) 2 0 (at0_2 t) (by decide)
  unfold putRow
  rw [Host.dynamicUpdateSlice_apply]
  by_cases hr : r = n
  · subst hr
    rw [if_pos rfl, dif_pos]
    · pointwise []
      simp only [c1, c2, Nat.sub_zero]
    · intro a
      match a with
      | ⟨0, _⟩ => show Host.clampedStart S4112x64x16 S1x64x16 rfl (at0 t) 0 ≤ r.val ∧ r.val < Host.clampedStart S4112x64x16 S1x64x16 rfl (at0 t) 0 + 1; omega
      | ⟨1, _⟩ => show Host.clampedStart S4112x64x16 S1x64x16 rfl (at0 t) 1 ≤ g.val ∧ g.val < Host.clampedStart S4112x64x16 S1x64x16 rfl (at0 t) 1 + 64; omega
      | ⟨2, _⟩ => show Host.clampedStart S4112x64x16 S1x64x16 rfl (at0 t) 2 ≤ h.val ∧ h.val < Host.clampedStart S4112x64x16 S1x64x16 rfl (at0 t) 2 + 16; omega
  · rw [if_neg hr, dif_neg]
    intro hall
    have h0 : Host.clampedStart S4112x64x16 S1x64x16 rfl (at0 t) 0 ≤ r.val ∧ r.val < Host.clampedStart S4112x64x16 S1x64x16 rfl (at0 t) 0 + 1 := hall 0
    exact hr (Fin.ext (by omega))

/-- Where the row meets the readout's weights, added to the state. -/
def into (s : S64x64.Idx → EReal) (d : S64x16.Idx → EReal) (w : S64x16x64.Idx → EReal) : S64x64.Idx → EReal :=
  addf (F := Ideal) (φ := .f32) s (Host.dotGeneral (F := Ideal) (φ₁ := .f32) (φ₂ := .f32) dot_S64x16_S64x16x64_S64x64_1_1_n_2_0_0 none d w)

theorem into_at (s : S64x64.Idx → EReal) (d : S64x16.Idx → EReal) (w : S64x16x64.Idx → EReal) (g p : Fin 64) :
    into s d w (ix2 g p) = s (ix2 g p) + ∑ h : Fin 16, d (ix2 g h) * w (ix3 g h p) := by
  unfold into
  pointwise []

/-- The state read back through the input weights. -/
def outOf (a b : S64x64.Idx → EReal) (wa wb : S64x64x16.Idx → EReal) : S64x16.Idx → EReal :=
  addf (F := Ideal) (φ := .f32) (Host.dotGeneral (F := Ideal) (φ₁ := .f32) (φ₂ := .f32) dot_S64x64_S64x64x16_S64x16_1_1_n_2_0_0 none a wa)
    (Host.dotGeneral (F := Ideal) (φ₁ := .f32) (φ₂ := .f32) dot_S64x64_S64x64x16_S64x16_1_1_n_2_0_0 none b wb)

theorem outOf_at (a b : S64x64.Idx → EReal) (wa wb : S64x64x16.Idx → EReal) (g : Fin 64) (h : Fin 16) :
    outOf a b wa wb (ix2 g h) = (∑ p : Fin 64, a (ix2 g p) * wa (ix3 g p h)) + ∑ p : Fin 64, b (ix2 g p) * wb (ix3 g p h) := by
  unfold outOf
  pointwise []

/-- A sum of two products. -/
def two (p q r s : S64x64.Idx → EReal) : S64x64.Idx → EReal :=
  addf (F := Ideal) (φ := .f32) (mulf (F := Ideal) (φ := .f32) p q) (mulf (F := Ideal) (φ := .f32) r s)

theorem two_at (p q r s : S64x64.Idx → EReal) (i : S64x64.Idx) : two p q r s i = p i * q i + r i * s i := rfl

def neg (s : Shape) (a : s.Idx → EReal) : s.Idx → EReal := Host.negf (F := Ideal) (φ := .f32) a
theorem neg_at (s : Shape) (a : s.Idx → EReal) (i : s.Idx) : neg s a i = -(a i) := rfl

variable (X : Valuation τ sig (Elt Ideal))

theorem row_eq : res_main_while0b_v60 X = row (X (Proc.devRef .tc main_v45_0)) (res_main_while0b_v59 X) := by
  unfold res_main_while0b_v60 row at0
  rfl
theorem im_eq : res_main_while0b_v63 X = into (X (Proc.devRef .tc main_v45_9)) (neg S64x16 (res_main_while0b_v60 X)) (X (Proc.devRef .tc main_v45_6)) := by
  unfold res_main_while0b_v63 into neg
  with_reducible rfl
theorem re_eq : res_main_while0b_v65 X = into (X (Proc.devRef .tc main_v45_8)) (res_main_while0b_v60 X) (X (Proc.devRef .tc main_v45_4)) := by
  unfold res_main_while0b_v65 into
  with_reducible rfl
theorem step8_eq : step_main_v45_8 X = two (X (Proc.devRef .tc main_v45_2)) (res_main_while0b_v63 X) (X (Proc.devRef .tc main_v45_1)) (res_main_while0b_v65 X) := by
  unfold step_main_v45_8 two
  rw [id_eq]
theorem step9_eq : step_main_v45_9 X = two (X (Proc.devRef .tc main_v45_1)) (res_main_while0b_v63 X) (X (Proc.devRef .tc main_v45_2)) (neg S64x64 (res_main_while0b_v65 X)) := by
  unfold step_main_v45_9 two neg
  rw [id_eq]
theorem step10_eq : step_main_v45_10 X = putRow (X (Proc.devRef .tc main_v45_10)) (outOf (res_main_while0b_v63 X) (res_main_while0b_v65 X) (X (Proc.devRef .tc main_v45_5)) (X (Proc.devRef .tc main_v45_3))) (res_main_while0b_v59 X) := by
  unfold step_main_v45_10 putRow outOf at0
  refine (id_eq _).trans ?_
  rfl

end Cert.ReferenceIdeal.Ssm

end
-- ==== Proof.RefLoop.lean ====
module

public import proofs.«01_k».proof.Proof.RefTrip
public import Idealize.ShloMosaic.Lib.StableHlo.RunRead
public import Idealize.ShloMosaic.Lib.Claim

@[expose] public section

set_option maxRecDepth 65536

noncomputable section

namespace Cert.ReferenceIdeal.Ssm

open Idealize.ShloMosaic Idealize.ShloMosaic.TcCoe
open Idealize.ShloMosaic.StableHlo
open Cert.ReferenceIdeal.Gen Cert.ReferenceIdeal.Value Cert.Ssm
open ComplexConjugate

/-! ## The plain loop computes the adjoint recurrence -/

/-- The arguments of the reference are the parameters. -/
structure Reads (m : (ℓ : Loc nD τ sig) → Buf (Elt Ideal) ℓ) (c : Dev nD) (x : Par) : Prop where
  dy : ∀ r k, (m (c, Proc.devRef .tc main_arg2) : S4112x1024.Idx → EReal) (ix2 r k) = ((x.dy r k : ℝ) : EReal)
  lamRe : ∀ g p, (m (c, Proc.devRef .tc main_arg3) : S64x64.Idx → EReal) (ix2 g p) = ((x.lamRe g p : ℝ) : EReal)
  lamIm : ∀ g p, (m (c, Proc.devRef .tc main_arg4) : S64x64.Idx → EReal) (ix2 g p) = ((x.lamIm g p : ℝ) : EReal)
  logStep : ∀ g, (m (c, Proc.devRef .tc main_arg5) : S64.Idx → EReal) (ix1 g) = ((x.logStep g : ℝ) : EReal)
  bRe : ∀ g p h, (m (c, Proc.devRef .tc main_arg6) : S64x64x16.Idx → EReal) (ix3 g p h) = ((x.bRe g p h : ℝ) : EReal)
  bIm : ∀ g p h, (m (c, Proc.devRef .tc main_arg7) : S64x64x16.Idx → EReal) (ix3 g p h) = ((x.bIm g p h : ℝ) : EReal)
  cRe : ∀ g h p, (m (c, Proc.devRef .tc main_arg8) : S64x16x64.Idx → EReal) (ix3 g h p) = ((x.cRe g h p : ℝ) : EReal)
  cIm : ∀ g h p, (m (c, Proc.devRef .tc main_arg9) : S64x16x64.Idx → EReal) (ix3 g h p) = ((x.cIm g h p : ℝ) : EReal)
  den : ∀ g p, x.den g p ≠ 0

/-- What the loop does not write. -/
structure Held (x : Par) (X : Valuation τ sig (Elt Ideal)) : Prop where
  d : ∀ n g h, (X (Proc.devRef .tc main_v45_0) : S4112x64x16.Idx → EReal) (ix3 n g h) = ((x.dy n ⟨16 * g.val + h.val, by omega⟩ : ℝ) : EReal)
  lr : ∀ g p, (X (Proc.devRef .tc main_v45_1) : S64x64.Idx → EReal) (ix2 g p) = (((x.lam g p).re : ℝ) : EReal)
  li : ∀ g p, (X (Proc.devRef .tc main_v45_2) : S64x64.Idx → EReal) (ix2 g p) = (((x.lam g p).im : ℝ) : EReal)
  br : ∀ g p h, (X (Proc.devRef .tc main_v45_3) : S64x64x16.Idx → EReal) (ix3 g p h) = (((x.bb g p h).re : ℝ) : EReal)
  cr : ∀ g h p, (X (Proc.devRef .tc main_v45_4) : S64x16x64.Idx → EReal) (ix3 g h p) = ((x.cRe g h p : ℝ) : EReal)
  bi : ∀ g p h, (X (Proc.devRef .tc main_v45_5) : S64x64x16.Idx → EReal) (ix3 g p h) = (((x.bb g p h).im : ℝ) : EReal)
  ci : ∀ g h p, (X (Proc.devRef .tc main_v45_6) : S64x16x64.Idx → EReal) (ix3 g h p) = ((x.cIm g h p : ℝ) : EReal)

/-- The adjoint of a row. -/
def adjAt (x : Par) (T : ℕ) (g p : Fin 64) : ℂ := adj (conj (x.lam g p)) (x.src g p) T

/-- What the loop has made after `k` trips. -/
structure Inv (x : Par) (k : ℕ) (X : Valuation τ sig (Elt Ideal)) : Prop where
  held : Held x X
  ctr : (X (Proc.devRef .tc main_v45_7) : IVec S_ 32) ix0 = BitVec.ofNat 32 k
  re : ∀ g p, (X (Proc.devRef .tc main_v45_8) : S64x64.Idx → EReal) (ix2 g p) = (((conj (x.lam g p) * adjAt x (4224 - k) g p).re : ℝ) : EReal)
  im : ∀ g p, (X (Proc.devRef .tc main_v45_9) : S64x64.Idx → EReal) (ix2 g p) = (((conj (x.lam g p) * adjAt x (4224 - k) g p).im : ℝ) : EReal)
  out : ∀ (r : Fin 4112) g h, 4112 - k ≤ r.val → (X (Proc.devRef .tc main_v45_10) : S4112x64x16.Idx → EReal) (ix3 r g h) = ((x.mix (112 + r.val) g h : ℝ) : EReal)

theorem row_word (k : ℕ) (hk : k < 4112) : ((4112#32 - BitVec.ofNat 32 k) - 1#32).toInt = ((4111 - k : ℕ) : ℤ) := by
  have e : (4112#32 - BitVec.ofNat 32 k) - 1#32 = BitVec.ofNat 32 (4111 - k) := by
    apply BitVec.eq_of_toNat_eq
    simp only [BitVec.toNat_sub, BitVec.toNat_ofNat]
    omega
  rw [e, BitVec.toInt_eq_toNat_of_lt (by simp only [BitVec.toNat_ofNat]; omega), BitVec.toNat_ofNat, Nat.mod_eq_of_lt (by omega)]

theorem adj_next (x : Par) (k : ℕ) (hk : k < 4112) (g p : Fin 64) :
    adjAt x (4224 - (k + 1)) g p = x.src g p (4224 - (k + 1)) + conj (x.lam g p) * adjAt x (4224 - k) g p := by
  have h := adj_step (conj (x.lam g p)) (x.src g p) (x.src_zero g p) (4224 - (k + 1))
  rw [show 4224 - (k + 1) + 1 = 4224 - k by omega] at h
  exact h

section
variable {x : Par} {k : ℕ} {X : Valuation τ sig (Elt Ideal)} (hk : k < 4112) (hi : Inv x k X)
include hk hi

theorem word_at : ((res_main_while0b_v59 X : IVec S_ 32) ix0).toInt = (⟨4111 - k, by omega⟩ : Fin 4112).val := by
  have e : (res_main_while0b_v59 X : IVec S_ 32) ix0 = (4112#32 - (X (Proc.devRef .tc main_v45_7) : IVec S_ 32) ix0) - 1#32 := rfl
  rw [e, hi.ctr]
  exact row_word k hk

theorem row_val (g : Fin 64) (h : Fin 16) : (res_main_while0b_v60 X : S64x16.Idx → EReal) (ix2 g h) = ((x.gy (4224 - (k + 1)) ⟨16 * g.val + h.val, by omega⟩ : ℝ) : EReal) := by
  refine (congrFun (row_eq X) _).trans ((row_at _ _ ⟨4111 - k, by omega⟩ (word_at hk hi) g h).trans ((hi.held.d _ g h).trans ?_))
  unfold Par.gy
  rw [dif_pos (by omega)]
  exact congrArg (fun z => ((x.dy z _ : ℝ) : EReal)) (Fin.ext (by show 4111 - k = 4224 - (k + 1) - 112; omega))

theorem re_val (g p : Fin 64) : (res_main_while0b_v65 X : S64x64.Idx → EReal) (ix2 g p) = (((adjAt x (4224 - (k + 1)) g p).re : ℝ) : EReal) := by
  refine (congrFun (re_eq X) _).trans ((into_at _ _ _ g p).trans ?_)
  simp only [hi.re g p, row_val hk hi, hi.held.cr, ← EReal.coe_mul, ← coe_sum, ← EReal.coe_add]
  rw [adj_next x k hk, Complex.add_re, add_comm]
  rfl

theorem im_val (g p : Fin 64) : (res_main_while0b_v63 X : S64x64.Idx → EReal) (ix2 g p) = (((adjAt x (4224 - (k + 1)) g p).im : ℝ) : EReal) := by
  refine (congrFun (im_eq X) _).trans ((into_at _ _ _ g p).trans ?_)
  simp only [neg_at, hi.im g p, row_val hk hi, hi.held.ci, ← EReal.coe_neg, ← EReal.coe_mul, ← coe_sum, ← EReal.coe_add]
  rw [adj_next x k hk, Complex.add_im, add_comm]
  simp only [Par.src, neg_mul, mul_neg]

theorem trip : Inv x (k + 1) (STEP X) where
  held := {
    d := by rw [STEP_main_v45_0]; exact hi.held.d
    lr := by rw [STEP_main_v45_1]; exact hi.held.lr
    li := by rw [STEP_main_v45_2]; exact hi.held.li
    br := by rw [STEP_main_v45_3]; exact hi.held.br
    cr := by rw [STEP_main_v45_4]; exact hi.held.cr
    bi := by rw [STEP_main_v45_5]; exact hi.held.bi
    ci := by rw [STEP_main_v45_6]; exact hi.held.ci }
  ctr := by
    rw [STEP_main_v45_7]
    refine (congrArg (fun z : BitVec 32 => z + 1#32) hi.ctr).trans ?_
    rw [BitVec.ofNat_add]
  re := fun g p => by
    rw [STEP_main_v45_8]
    refine (congrFun (step8_eq X) _).trans ((two_at _ _ _ _ _).trans ?_)
    simp only [hi.held.lr, hi.held.li, re_val hk hi, im_val hk hi, ← EReal.coe_mul, ← EReal.coe_add]
    refine congrArg _ ?_
    rw [Complex.mul_re, Complex.conj_re, Complex.conj_im]
    ring
  im := fun g p => by
    rw [STEP_main_v45_9]
    refine (congrFun (step9_eq X) _).trans ((two_at _ _ _ _ _).trans ?_)
    simp only [neg_at, hi.held.lr, hi.held.li, re_val hk hi, im_val hk hi, ← EReal.coe_neg, ← EReal.coe_mul, ← EReal.coe_add]
    refine congrArg _ ?_
    rw [Complex.mul_im, Complex.conj_re, Complex.conj_im]
    ring
  out := fun r g h hr => by
    rw [STEP_main_v45_10]
    refine (congrFun (step10_eq X) _).trans ((putRow_at _ _ _ ⟨4111 - k, by omega⟩ (word_at hk hi) r g h).trans ?_)
    by_cases e : r = ⟨4111 - k, by omega⟩
    · rw [if_pos e]
      refine (outOf_at _ _ _ _ g h).trans ?_
      simp only [hi.held.br, hi.held.bi, re_val hk hi, im_val hk hi, ← EReal.coe_mul, ← coe_sum, ← EReal.coe_add]
      refine congrArg _ ?_
      rw [add_comm, ← Finset.sum_add_distrib, show 112 + r.val = 4224 - (k + 1) by rw [e]; show 112 + (4111 - k) = _; omega]
      rfl
    · rw [if_neg e]
      refine hi.out r g h ?_
      have : r.val ≠ 4111 - k := fun q => e (Fin.ext q)
      omega
end

section
variable {m : (ℓ : Loc nD τ sig) → Buf (Elt Ideal) ℓ} {c : Dev nD} {x : Par} (hx : Reads m c x)
include hx

set_option maxHeartbeats 4000000

theorem held_entry : Held x (entryContents preI m c) where
  d := fun n g h => by
    simp only [entryContents, afterL_cons, afterL_nil]
    after_reads_simp
    simp only [id_eq, launchContents]
    pointwise []
    refine (hx.dy _ _).trans ?_
    exact congrArg (fun z => ((x.dy n z : ℝ) : EReal)) (Fin.ext (by show g.val * 16 + h.val = 16 * g.val + h.val; omega))
  lr := fun g p => by
    simp only [entryContents, afterL_cons, afterL_nil]
    after_reads_simp
    simp only [id_eq, launchContents]
    pointwise []
    simp only [hx.lamRe, hx.lamIm, hx.logStep, Ideal.exp_coe, ← EReal.coe_mul, Ideal.cos_coe, Ideal.sin_coe]
    rfl
  li := fun g p => by
    simp only [entryContents, afterL_cons, afterL_nil]
    after_reads_simp
    simp only [id_eq, launchContents]
    pointwise []
    simp only [hx.lamRe, hx.lamIm, hx.logStep, Ideal.exp_coe, ← EReal.coe_mul, Ideal.cos_coe, Ideal.sin_coe]
    rfl
  br := fun g p h => by
    have hd : x.lamRe g p * x.lamRe g p + x.lamIm g p * x.lamIm g p ≠ 0 := hx.den g p
    simp only [entryContents, afterL_cons, afterL_nil]
    after_reads_simp
    simp only [id_eq, launchContents]
    pointwise []
    simp only [hx.lamRe, hx.lamIm, hx.logStep, hx.bRe, hx.bIm, Ideal.exp_coe, ← EReal.coe_mul, Ideal.cos_coe, Ideal.sin_coe, ← EReal.coe_add, ← EReal.coe_one, ← EReal.coe_sub, Ideal.div_coe hd]
    rfl
  cr := fun g h p => by
    simp only [entryContents, afterL_cons, afterL_nil]
    after_reads_simp
    simp only [id_eq, launchContents]
    exact hx.cRe g h p
  bi := fun g p h => by
    have hd : x.lamRe g p * x.lamRe g p + x.lamIm g p * x.lamIm g p ≠ 0 := hx.den g p
    simp only [entryContents, afterL_cons, afterL_nil]
    after_reads_simp
    simp only [id_eq, launchContents]
    pointwise []
    simp only [hx.lamRe, hx.lamIm, hx.logStep, hx.bRe, hx.bIm, Ideal.exp_coe, ← EReal.coe_mul, Ideal.cos_coe, Ideal.sin_coe, ← EReal.coe_add, ← EReal.coe_one, ← EReal.coe_sub, Ideal.div_coe hd]
    rfl
  ci := fun g h p => by
    simp only [entryContents, afterL_cons, afterL_nil]
    after_reads_simp
    simp only [id_eq, launchContents]
    exact hx.cIm g h p

theorem inv_entry : Inv x 0 (entryContents preI m c) where
  held := held_entry hx
  ctr := by rw [ctr_entry]
  re := fun g p => by
    rw [adjAt, adj_zero _ _ (x.src_zero g p) (4224 - 0) (le_refl _), mul_zero]
    simp only [entryContents, afterL_cons, afterL_nil]
    after_reads_simp
    simp only [id_eq, launchContents]
    pointwise []
    simp
  im := fun g p => by
    rw [adjAt, adj_zero _ _ (x.src_zero g p) (4224 - 0) (le_refl _), mul_zero]
    simp only [entryContents, afterL_cons, afterL_nil]
    after_reads_simp
    simp only [id_eq, launchContents]
    pointwise []
    simp
  out := fun r g h hr => absurd r.isLt (by omega)

theorem inv_iter : ∀ k, k ≤ 4112 → Inv x k (STEP^[k] (entryContents preI m c))
  | 0, _ => inv_entry hx
  | k + 1, hk => by
    rw [Function.iterate_succ_apply']
    exact trip (by omega) (inv_iter k (by omega))
end

end Cert.ReferenceIdeal.Ssm

end
-- ==== Proof.RefOut.lean ====
module

public import proofs.«01_k».proof.Proof.RefLoop

@[expose] public section

set_option maxRecDepth 16384

noncomputable section

namespace Cert.ReferenceIdeal.Ssm

open Idealize.ShloMosaic Idealize.ShloMosaic.TcCoe
open Idealize.ShloMosaic.StableHlo
open Cert.ReferenceIdeal.Gen Cert.ReferenceIdeal.Value Cert.Ssm

/-! ## The reference's two results, read at an index -/

/-- The lines that end the first result. -/
def outDu (R : S4112x64x16.Idx → EReal) (d : S1x1024.Idx → EReal) (y : S4112x1024.Idx → EReal) : S4224x1024.Idx → EReal :=
  pad S4224x1024 (α := EReal) ![112, 0] ![0, 0] ![0, 0]
    (truncf (F := Ideal) (φ := .f32) .bf16 (addf (F := Ideal) (φ := .f32) (shapeCast S4112x1024 R shapeCasts_S4112x64x16_S4112x1024) (mulf (F := Ideal) (φ := .f32) (broadcastInDim S4112x1024 ![0, 1] bcast_S1x1024_S4112x1024_0_1 d) y)) bitsLt_bf16_f32)
    (sitofp (F := Ideal) .bf16 (constantI S_ 32 0#32)) pads_S4112x1024_S4224x1024_11200_000 h_S_

theorem outDu_at (R : S4112x64x16.Idx → EReal) (d : S1x1024.Idx → EReal) (y : S4112x1024.Idx → EReal) (T : Fin 4224) (k : Fin 1024) :
    outDu R d y (ix2 T k) = if h : 112 ≤ T.val then R (ix3 (⟨T.val - 112, by omega⟩ : Fin 4112) ⟨k.val / 16, by omega⟩ ⟨k.val % 16, by omega⟩) + d (ix2 0 k) * y (ix2 (⟨T.val - 112, by omega⟩ : Fin 4112) k) else 0 := by
  unfold outDu
  pointwise []
  by_cases h : 112 ≤ T.val
  · rw [dif_pos ⟨h, by omega⟩, dif_pos h]
  · rw [dif_neg (fun q => h q.1), dif_neg h]
    show ((((0#32 : BitVec 32).toInt : ℤ) : ℝ) : EReal) = 0
    simp

/-- The lines that end the second. -/
def outDd (y : S4112x1024.Idx → EReal) (P : S4224x2560.Idx → EReal) : S1x1024.Idx → EReal :=
  shapeCast S1x1024 (Host.reduceAdd (F := Ideal) (φ := .f32) (mulf (F := Ideal) (φ := .f32) y (extractStridedSlice S4112x1024 ![112, 1536] P slices_S4224x2560_S4112x1024_112_1536)) (constant S_ .f32 0x00000000#32) reducesTo_S4112x1024_S1024_d0 h_S_) shapeCasts_S1024_S1x1024

theorem outDd_at (y : S4112x1024.Idx → EReal) (P : S4224x2560.Idx → EReal) (k : Fin 1024) :
    outDd y P (ix2 0 k) = ∑ r : Fin 4112, y (ix2 r k) * P (ix2 (⟨112 + r.val, by omega⟩ : Fin 4224) ⟨1536 + k.val, by omega⟩) := by
  unfold outDd
  pointwise []

theorem du_eq (X : Valuation τ sig (Elt Ideal)) : out_main_v57 X = outDu (X (Proc.devRef .tc main_v45_10)) (X (Proc.devRef .tc main_arg10)) (X (Proc.devRef .tc main_arg2)) := by
  unfold out_main_v57 outDu
  rfl
theorem dd_eq (X : Valuation τ sig (Elt Ideal)) : out_main_v54 X = outDd (X (Proc.devRef .tc main_arg2)) (X (Proc.devRef .tc main_arg0)) := by
  unfold out_main_v54 outDd
  rfl

/-- A sum over all rows whose first rows are zero. -/
theorem sum_rows (f : ℕ → EReal) (hf : ∀ T < 112, f T = 0) : ∑ T ∈ Finset.range 4224, f T = ∑ r : Fin 4112, f (112 + r.val) := by
  rw [show 4224 = 112 + 4112 by rfl, Finset.sum_range_add, Finset.sum_eq_zero (fun T hT => hf T (Finset.mem_range.mp hT)), zero_add, Finset.sum_range]

variable {m : (ℓ : Loc nD τ sig) → Buf (Elt Ideal) ℓ} {c : Dev nD} {x : Par} (hx : Reads m c x)
include hx

theorem du_ref (T : Fin 4224) (k : Fin 1024) :
    (out_main_v57 (STEP^[4112] (entryContents preI m c)) : S4224x1024.Idx → EReal) (ix2 T k)
      = if 112 ≤ T.val then (id ((m (c, Proc.devRef .tc main_arg10) : S1x1024.Idx → EReal) (ix2 0 k)) : EReal) * ((x.gy T.val k : ℝ) : EReal) + ((x.mix T.val ⟨k.val / 16, by omega⟩ ⟨k.val % 16, by omega⟩ : ℝ) : EReal) else 0 := by
  have hi := inv_iter hx 4112 (le_refl _)
  refine (congrFun (du_eq _) _).trans ((outDu_at _ _ _ T k).trans ?_)
  by_cases h : 112 ≤ T.val
  · rw [dif_pos h, if_pos h]
    rw [hi.out _ _ _ (by omega)]
    have e2 := iter_main_arg2 m c 4112
    have e10 := iter_main_arg10 m c 4112
    rw [e2, e10, add_comm]
    have hg : x.gy T.val k = x.dy ⟨T.val - 112, by omega⟩ k := by
      unfold Par.gy
      rw [dif_pos ⟨h, T.isLt⟩]
    rw [hg, show 112 + (T.val - 112) = T.val by omega]
    exact congrArg (fun z : EReal => (id ((m (c, Proc.devRef .tc main_arg10) : S1x1024.Idx → EReal) (ix2 0 k)) : EReal) * z + _) (hx.dy _ k)
  · rw [dif_neg h, if_neg h]

theorem dd_ref (k : Fin 1024) :
    (out_main_v54 (STEP^[4112] (entryContents preI m c)) : S1x1024.Idx → EReal) (ix2 0 k)
      = ∑ T ∈ Finset.range 4224, if h : T < 4224 then ((x.gy T k : ℝ) : EReal) * (id ((m (c, Proc.devRef .tc main_arg0) : S4224x2560.Idx → EReal) (ix2 ⟨T, h⟩ ⟨1536 + k.val, by omega⟩)) : EReal) else 0 := by
  refine (congrFun (dd_eq _) _).trans ((outDd_at _ _ k).trans ?_)
  have e2 := iter_main_arg2 m c 4112
  have e0 := iter_main_arg0 m c 4112
  rw [e2, e0]
  refine Eq.trans ?_ (sum_rows _ fun T hT => ?_).symm
  · refine Finset.sum_congr rfl fun r _ => ?_
    have hr := r.isLt
    rw [dif_pos (by omega)]
    have hg : x.gy (112 + r.val) k = x.dy r k := by
      unfold Par.gy
      rw [dif_pos ⟨by omega, by omega⟩]
      exact congrArg (fun z => x.dy z k) (Fin.ext (by show 112 + r.val - 112 = r.val; omega))
    rw [hg]
    exact congrArg (fun z : EReal => z * (id ((m (c, Proc.devRef .tc main_arg0) : S4224x2560.Idx → EReal) (ix2 ⟨112 + r.val, by omega⟩ ⟨1536 + k.val, by omega⟩)) : EReal)) (hx.dy r k)
  · rw [dif_pos (by omega)]
    have hg : x.gy T k = 0 := by
      unfold Par.gy
      rw [dif_neg (by omega)]
    rw [hg]
    simp

end Cert.ReferenceIdeal.Ssm

end
-- ==== Proof.Value.lean ====
module

public import proofs.«01_k».proof.Defs
public import proofs.«01_k».proof.Proof.Out
public import proofs.«01_k».proof.Proof.Tame
public import proofs.«01_k».proof.Proof.RefOut
public import Idealize.ShloMosaic.Adequacy

@[expose] public section

set_option maxRecDepth 16384

noncomputable section

namespace Cert.Proof

open Idealize.ShloMosaic Idealize.SL Idealize.SL.Sem
open Cert.KernelIdeal.Gen Cert.KernelIdeal.Ssm
open Cert.KernelIdeal (cfgs)

/-- A core's part of the post of the kernel's run says its arguments are as launched. -/
theorem args_of {F : FTy → Type} [FloatOps F] (m : (ℓ : Loc KernelIdeal.nD KernelIdeal.τ KernelIdeal.sig) → Buf (Elt F) ℓ) {r}
    (h : Pipeline.FramePost cfgs (dats m) 0 (V m) r) (c : Dev KernelIdeal.nD) :
    r.2.mem ((c.tc : Thread KernelIdeal.nD KernelIdeal.τ).loc KernelIdeal.main_arg0) = m ((c.tc : Thread KernelIdeal.nD KernelIdeal.τ).loc KernelIdeal.main_arg0) ∧ r.2.mem ((c.tc : Thread KernelIdeal.nD KernelIdeal.τ).loc KernelIdeal.main_arg1) = m ((c.tc : Thread KernelIdeal.nD KernelIdeal.τ).loc KernelIdeal.main_arg1) ∧ r.2.mem ((c.tc : Thread KernelIdeal.nD KernelIdeal.τ).loc KernelIdeal.main_arg2) = m ((c.tc : Thread KernelIdeal.nD KernelIdeal.τ).loc KernelIdeal.main_arg2) ∧ r.2.mem ((c.tc : Thread KernelIdeal.nD KernelIdeal.τ).loc KernelIdeal.main_arg3) = m ((c.tc : Thread KernelIdeal.nD KernelIdeal.τ).loc KernelIdeal.main_arg3) ∧ r.2.mem ((c.tc : Thread KernelIdeal.nD KernelIdeal.τ).loc KernelIdeal.main_arg4) = m ((c.tc : Thread KernelIdeal.nD KernelIdeal.τ).loc KernelIdeal.main_arg4) ∧ r.2.mem ((c.tc : Thread KernelIdeal.nD KernelIdeal.τ).loc KernelIdeal.main_arg5) = m ((c.tc : Thread KernelIdeal.nD KernelIdeal.τ).loc KernelIdeal.main_arg5) ∧ r.2.mem ((c.tc : Thread KernelIdeal.nD KernelIdeal.τ).loc KernelIdeal.main_arg6) = m ((c.tc : Thread KernelIdeal.nD KernelIdeal.τ).loc KernelIdeal.main_arg6) ∧ r.2.mem ((c.tc : Thread KernelIdeal.nD KernelIdeal.τ).loc KernelIdeal.main_arg7) = m ((c.tc : Thread KernelIdeal.nD KernelIdeal.τ).loc KernelIdeal.main_arg7) ∧ r.2.mem ((c.tc : Thread KernelIdeal.nD KernelIdeal.τ).loc KernelIdeal.main_arg8) = m ((c.tc : Thread KernelIdeal.nD KernelIdeal.τ).loc KernelIdeal.main_arg8) ∧ r.2.mem ((c.tc : Thread KernelIdeal.nD KernelIdeal.τ).loc KernelIdeal.main_arg9) = m ((c.tc : Thread KernelIdeal.nD KernelIdeal.τ).loc KernelIdeal.main_arg9) ∧ r.2.mem ((c.tc : Thread KernelIdeal.nD KernelIdeal.τ).loc KernelIdeal.main_arg10) = m ((c.tc : Thread KernelIdeal.nD KernelIdeal.τ).loc KernelIdeal.main_arg10) :=
  have h := h c
  ⟨(h.1 1).trans (((dats m 0 c).arrAt_in 1 rfl _).trans ((A_eq m c 1).trans (V_main_arg0 m c))),
    (h.1 3).trans (((dats m 0 c).arrAt_in 3 rfl _).trans ((A_eq m c 3).trans (V_main_arg1 m c))),
    (h.2 KernelIdeal.main_arg2 (Pipeline.mem_restRefs_of KernelIdeal.main_arg2 (by decide) (by decide))).trans (V_main_arg2 m c),
    (h.2 KernelIdeal.main_arg3 (Pipeline.mem_restRefs_of KernelIdeal.main_arg3 (by decide) (by decide))).trans (V_main_arg3 m c),
    (h.2 KernelIdeal.main_arg4 (Pipeline.mem_restRefs_of KernelIdeal.main_arg4 (by decide) (by decide))).trans (V_main_arg4 m c),
    (h.2 KernelIdeal.main_arg5 (Pipeline.mem_restRefs_of KernelIdeal.main_arg5 (by decide) (by decide))).trans (V_main_arg5 m c),
    (h.2 KernelIdeal.main_arg6 (Pipeline.mem_restRefs_of KernelIdeal.main_arg6 (by decide) (by decide))).trans (V_main_arg6 m c),
    (h.2 KernelIdeal.main_arg7 (Pipeline.mem_restRefs_of KernelIdeal.main_arg7 (by decide) (by decide))).trans (V_main_arg7 m c),
    (h.2 KernelIdeal.main_arg8 (Pipeline.mem_restRefs_of KernelIdeal.main_arg8 (by decide) (by decide))).trans (V_main_arg8 m c),
    (h.2 KernelIdeal.main_arg9 (Pipeline.mem_restRefs_of KernelIdeal.main_arg9 (by decide) (by decide))).trans (V_main_arg9 m c),
    (h.1 8).trans (((dats m 0 c).arrAt_in 8 rfl _).trans ((A_eq m c 8).trans (V_main_arg10 m c)))⟩

/-- The reference's arguments are read by the parameters that read the kernel's. -/
theorem reads_ref {m : (ℓ : Loc KernelIdeal.nD KernelIdeal.τ KernelIdeal.sig) → Buf (Elt Ideal) ℓ} {m' : (ℓ : Loc ReferenceIdeal.nD ReferenceIdeal.τ ReferenceIdeal.sig) → Buf (Elt Ideal) ℓ}
    {c : Dev KernelIdeal.nD} {x : Cert.Ssm.Par} (hx : Reads m c x)
    (h2 : m' (c, Proc.devRef .tc ReferenceIdeal.main_arg2) = m (c, Proc.devRef .tc KernelIdeal.main_arg2)) (h3 : m' (c, Proc.devRef .tc ReferenceIdeal.main_arg3) = m (c, Proc.devRef .tc KernelIdeal.main_arg3))
    (h4 : m' (c, Proc.devRef .tc ReferenceIdeal.main_arg4) = m (c, Proc.devRef .tc KernelIdeal.main_arg4)) (h5 : m' (c, Proc.devRef .tc ReferenceIdeal.main_arg5) = m (c, Proc.devRef .tc KernelIdeal.main_arg5))
    (h6 : m' (c, Proc.devRef .tc ReferenceIdeal.main_arg6) = m (c, Proc.devRef .tc KernelIdeal.main_arg6)) (h7 : m' (c, Proc.devRef .tc ReferenceIdeal.main_arg7) = m (c, Proc.devRef .tc KernelIdeal.main_arg7))
    (h8 : m' (c, Proc.devRef .tc ReferenceIdeal.main_arg8) = m (c, Proc.devRef .tc KernelIdeal.main_arg8)) (h9 : m' (c, Proc.devRef .tc ReferenceIdeal.main_arg9) = m (c, Proc.devRef .tc KernelIdeal.main_arg9)) :
    ReferenceIdeal.Ssm.Reads m' c x where
  dy := fun r k => (congrFun h2 _).trans (hx.dy r k)
  lamRe := fun g p => (congrFun h3 _).trans (hx.lamRe g p)
  lamIm := fun g p => (congrFun h4 _).trans (hx.lamIm g p)
  logStep := fun g => (congrFun h5 _).trans (hx.logStep g)
  bRe := fun g p h => (congrFun h6 _).trans (hx.bRe g p h)
  bIm := fun g p h => (congrFun h7 _).trans (hx.bIm g p h)
  cRe := fun g h p => (congrFun h8 _).trans (hx.cRe g h p)
  cIm := fun g h p => (congrFun h9 _).trans (hx.cIm g h p)
  den := hx.den

/-- Both programs leave the same gradients. -/
theorem algebraic : Cert.algebraic_KernelIdeal_ReferenceIdeal_pre_tame := by
  intro m g m' g' hpre hargs
  have hex : ∀ c, ∃ x, Reads m c x := fun c => Cert.Pre_tame.Ssm.exists_par m c (hpre c)
  choose x hx using hex
  refine ⟨fun c => duArr m c (x c), fun c => ddArr m c (x c), ?_, ?_⟩
  · exact (θ_run KernelIdeal.defs _ _).mono (fun r h c => ⟨((h.1 c).1 9).trans (du_array (hx c)), ((h.1 c).1 13).trans (dd_array (hx c)), args_of m h.1 c⟩) (run_main m g)
  · refine (θ_run ReferenceIdeal.defs _ _).mono (fun r h c => ?_) (ReferenceIdeal.Value.run m' g')
    obtain ⟨a0, a1, a2, a3, a4, a5, a6, a7, a8, a9, a10⟩ := hargs c
    have hr := reads_ref (hx c) a2 a3 a4 a5 a6 a7 a8 a9
    refine ⟨(h c).1.trans ?_, (h c).2.1.trans ?_, (h c).2.2⟩
    · funext i
      refine (congrArg (ReferenceIdeal.Value.out_main_v57 _) (eq_ix2 (n0 := 4224) (n1 := 1024) i)).trans ((ReferenceIdeal.Ssm.du_ref hr (i 0) (i 1)).trans ?_)
      show _ = duAt m c (x c) (i 0).val (i 1)
      unfold duAt
      exact congrArg (fun z : EReal => if 112 ≤ (i 0).val then z * _ + _ else 0) (congrFun a10 _)
    · funext i
      have i0 : i 0 = (0 : Fin 1) := Subsingleton.elim (α := Fin 1) _ _
      refine (congrArg (ReferenceIdeal.Value.out_main_v54 _) ((eq_ix2 (n0 := 1) (n1 := 1024) i).trans (congrArg (fun z => ix2 z (i 1)) i0))).trans ((ReferenceIdeal.Ssm.dd_ref hr (i 1)).trans ?_)
      show _ = ∑ T ∈ Finset.range 4224, ddAt m c (x c) (i 1) T
      refine Finset.sum_congr rfl fun T hT => ?_
      have hT := Finset.mem_range.mp hT
      unfold ddAt
      rw [dif_pos hT, dif_pos hT]
      exact congrArg (fun z : EReal => _ * z) (congrFun a0 _)

end Cert.Proof

end
-- ==== Proof.Same.lean ====
module

public import proofs.«01_k».proof.Proof.Gen.Kernel
public import proofs.«01_k».proof.Proof.Gen.KernelIdeal

@[expose] public section

set_option maxRecDepth 16384
set_option Elab.async false

noncomputable section

namespace Cert.Proof

open Idealize.ShloMosaic Idealize.SL Idealize.SL.Sem

/-! ## The kernel and the idealized kernel are one text -/

variable {F : FTy → Type} [FloatOps F]

set_option maxHeartbeats 8000000 in
theorem bodies_eq : Kernel.defs₀ (F := F) = KernelIdeal.defs₀ (F := F) := by
  unfold Kernel.defs₀ KernelIdeal.defs₀
  congr 1
  funext l x
  match l, x with
  | 0, (t, s) => rfl

set_option maxHeartbeats 8000000 in
theorem defs_eq : Kernel.defs (F := F) = KernelIdeal.defs (F := F) := by
  unfold Kernel.defs KernelIdeal.defs
  congr 1
  exact bodies_eq

set_option maxHeartbeats 8000000 in
theorem main_eq : Kernel.main (F := F) = KernelIdeal.main (F := F) := rfl

end Cert.Proof

end
-- ==== Proof.DownDx.lean ====
module

public import proofs.«01_k».proof.Defs
public import proofs.«01_k».proof.Proof.Gen.Kernel2Ideal.Value
public import proofs.«01_k».proof.Proof.Gen.Reference2Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Mlp.DownDx

open Idealize.ShloMosaic Idealize.SL Idealize.SL.Sem
open Cert.Kernel2Ideal Cert.Kernel2Ideal.Gen

/-! ## The gradient that the MLP's second product sends back through the squared rectifier -/

/-- The rectifier. -/
def rect (z : S4224x8192.Idx → EReal) : S4224x8192.Idx → EReal := fun i => max (z i) 0

/-- The product with the weight, times twice the rectified entry. -/
def dz (z : S4224x8192.Idx → EReal) (w : S8192x2048.Idx → EReal) (d : S4224x2048.Idx → EReal) : S4224x8192.Idx → EReal := fun i =>
  (∑ k : Fin 2048, d (ix2 (i 0) k) * w (ix2 (i 1) k)) * (Ideal.ofBits .f32 0x40000000#32 * rect z i)

theorem pay_apply (a : Vec Ideal S1408x2048 .bf16) (b : Vec Ideal S1024x2048 .bf16) (r : Vec Ideal S1408x1024 .bf16) (p : Fin 1408) (q : Fin 1024) :
    k0_pay1 a b r (ix2 p q) = (∑ k : Fin 2048, a (ix2 p k) * b (ix2 q k)) * (Ideal.ofBits .f32 0x40000000#32 * r (ix2 p q)) := by
  pointwise [k0_pay1]

theorem idx0 : ∀ t : Fin cfg0.N, win0_0.index t 0 = t.val / 8 ∧ win0_0.index t 1 = 0 := by decide +kernel
theorem idx1 : ∀ t : Fin cfg0.N, win0_1.index t 0 = t.val % 8 ∧ win0_1.index t 1 = 0 := by decide +kernel
theorem idx2 : ∀ t : Fin cfg0.N, win0_2.index t 0 = t.val / 8 ∧ win0_2.index t 1 = t.val % 8 := by decide +kernel
theorem idx3 : ∀ t : Fin cfg0.N, win0_3.index t 0 = t.val / 8 ∧ win0_3.index t 1 = t.val % 8 := by decide +kernel

theorem lt_N (t : Fin cfg0.N) : t.val < 24 := lt_of_lt_of_eq t.isLt N_0

variable (m : (ℓ : Loc nD τ sig) → Buf (Elt Ideal) ℓ) (c : Dev nD)

theorem r_read (i : S4224x8192.Idx) : (V m c main_v2 : S4224x8192.Idx → EReal) i = rect (m ((c.tc : Thread nD τ).loc main_arg0)) i := by
  unfold V hostOps0
  after_reads_simp
  pointwise [rect]

theorem d_at (t : Fin cfg0.N) (r : Fin 1408) (k : Fin 2048) :
    (iblk m c 0 t : Vec Ideal S1408x2048 .bf16) (ix2 r k) = (V m c main_arg2 : S4224x2048.Idx → EReal) (ix2 ⟨1408 * (t.val / 8) + r.val, by have := lt_N t; omega⟩ k) := by
  blk_ext [iblk, idx0 t]

theorem w_at (t : Fin cfg0.N) (r : Fin 1024) (k : Fin 2048) :
    (iblk m c 1 t : Vec Ideal S1024x2048 .bf16) (ix2 r k) = (V m c main_arg1 : S8192x2048.Idx → EReal) (ix2 ⟨1024 * (t.val % 8) + r.val, by omega⟩ k) := by
  blk_ext [iblk, idx1 t]

theorem r_at (t : Fin cfg0.N) (r : Fin 1408) (k : Fin 1024) :
    (iblk m c 2 t : Vec Ideal S1408x1024 .bf16) (ix2 r k) = (V m c main_v2 : S4224x8192.Idx → EReal) (ix2 ⟨1408 * (t.val / 8) + r.val, by have := lt_N t; omega⟩ ⟨1024 * (t.val % 8) + k.val, by omega⟩) := by
  blk_ext [iblk, idx2 t]

theorem out_eq (a : Vec Ideal S1408x2048 .bf16) (b : Vec Ideal S1024x2048 .bf16) (r : Vec Ideal S1408x1024 .bf16) : out0_3 a b r = k0_pay1 a b r := by
  frame_out

theorem array : (dats m 0 c).arrAt 3 cfg0.N = dz (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have e := congrFun (after0_3 m c t) y
  have y0 : (y 0).val < 1408 := (y 0).isLt
  have y1 : (y 1).val < 1024 := (y 1).isLt
  have ht := lt_N t
  have hv := (congrArg (out0_3 (iblk m c 0 t) (iblk m c 1 t) (iblk m c 2 t)) (eq_ix2 (n0 := 1408) (n1 := 1024) y)).trans
    ((congrFun (out_eq (iblk m c 0 t) (iblk m c 1 t) (iblk m c 2 t)) _).trans (pay_apply _ _ _ (y 0) (y 1)))
  refine e.trans (hv.trans ?_)
  have e0 : ((win0_3.blk t).view.emb y : S4224x8192.Idx) 0 = (⟨1408 * (t.val / 8) + (y 0).val, by omega⟩ : Fin 4224) := by
    have i0 := (idx3 t).1
    apply Fin.ext
    show _ = 1408 * (t.val / 8) + (y 0).val
    blk_simp
    omega
  have e1 : ((win0_3.blk t).view.emb y : S4224x8192.Idx) 1 = (⟨1024 * (t.val % 8) + (y 1).val, by omega⟩ : Fin 8192) := by
    have i1 := (idx3 t).2
    apply Fin.ext
    show _ = 1024 * (t.val % 8) + (y 1).val
    blk_simp
    omega
  have ee : ((win0_3.blk t).view.emb y : S4224x8192.Idx) = ix2 (⟨1408 * (t.val / 8) + (y 0).val, by omega⟩ : Fin 4224) (⟨1024 * (t.val % 8) + (y 1).val, by omega⟩ : Fin 8192) :=
    (eq_ix2 (n0 := 4224) (n1 := 8192) _).trans (congrArg₂ ix2 e0 e1)
  refine Eq.trans ?_ (congrArg (dz (m ((c.tc : Thread nD τ).loc main_arg0)) (m ((c.tc : Thread nD τ).loc main_arg1)) (m ((c.tc : Thread nD τ).loc main_arg2))) ee).symm
  unfold dz
  refine congrArg₂ (· * ·) (Finset.sum_congr rfl fun k _ => congrArg₂ (· * ·) ?_ ?_) (congrArg (fun z : EReal => Ideal.ofBits .f32 0x40000000#32 * z) ?_)
  · exact (d_at m c t (y 0) k).trans (congrFun (V_main_arg2 m c) _)
  · exact (w_at m c t (y 1) k).trans (congrFun (V_main_arg1 m c) _)
  · exact (r_at m c t (y 0) (y 1)).trans (r_read m c _)

open Reference2Ideal.Read in
theorem ref_apply (z : S4224x8192.Idx → EReal) (w : S8192x2048.Idx → EReal) (d : S4224x2048.Idx → EReal) : val_main_v16 (F := Ideal) z w d = dz z w d := by
  funext i
  have hdot : val_main_v12 (F := Ideal) w d i = ∑ k : Fin 2048, d (ix2 (i 0) k) * w (ix2 (i 1) k) := by
    refine (val_main_v12_apply w d i).trans (Finset.sum_congr rfl fun k _ => congrArg₂ (· * ·) (congrArg d ?_) (congrArg w ?_))
    · exact eq_ix2 (n0 := 4224) (n1 := 2048) _
    · exact eq_ix2 (n0 := 8192) (n1 := 2048) _
  simp only [val_main_v16_apply, val_main_v15_apply, val_main_v14_apply, val_main_v13_apply, val_main_v7_apply, val_main_v6_apply, val_main_v3_apply, val_main_v2_apply, val_main_v1_apply, val_main_call0_v0_apply, val_main_call0_cst_apply, val_main_cst_apply, val_main_cst_1_apply, val_main_cst_2_apply, hdot]
  unfold dz rect
  generalize (∑ k : Fin 2048, d (ix2 (i 0) k) * w (ix2 (i 1) k)) = s
  generalize z i = a
  pointwise []
  by_cases ha : 0 < a
  · simp [ha]
  · simp [ha, max_eq_right (not_lt.mp ha)]

/-- Both programs leave the same gradient. -/
theorem algebraic : Cert.algebraic_Kernel2Ideal_Reference2Ideal := by
  intro m g m' g' _ hargs
  refine ⟨fun c => dz (m ((c.tc : Thread nD τ).loc main_arg0)) (m ((c.tc : Thread nD τ).loc main_arg1)) (m ((c.tc : Thread nD τ).loc main_arg2)), ?_, ?_⟩
  · exact (θ_run Kernel2Ideal.defs _ _).mono (fun r h c => ⟨(h c).1.trans (array m c), (h c).2⟩) (Value.run_blocks m g)
  · refine (θ_run Reference2Ideal.defs _ _).mono (fun r h c => ⟨(h c).1.trans ?_, (h c).2⟩) (Reference2Ideal.Value.run m' g')
    refine (Reference2Ideal.Read.val_main_v16_eq _ _ _).trans ((ref_apply _ _ _).trans ?_)
    obtain ⟨h0, h1, h2⟩ := hargs c
    exact congr (congrArg₂ dz h0 h1) h2

end Cert.Mlp.DownDx

end
-- ==== Proof.DownDw.lean ====
module

public import proofs.«01_k».proof.Defs
public import proofs.«01_k».proof.Proof.Gen.Kernel3Ideal.Value
public import proofs.«01_k».proof.Proof.Gen.Reference3Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Mlp.DownDw

open Idealize.ShloMosaic Idealize.SL Idealize.SL.Sem
open Cert.Kernel3Ideal Cert.Kernel3Ideal.Gen

/-! ## The gradient of the MLP's second weight -/

/-- The squared rectifier. -/
def act (z : S4224x8192.Idx → EReal) : S4224x8192.Idx → EReal := fun i => max (z i) 0 * max (z i) 0

/-- The sum over the rows. -/
def dw (z : S4224x8192.Idx → EReal) (d : S4224x2048.Idx → EReal) : S8192x2048.Idx → EReal := fun i =>
  ∑ t : Fin 4224, act z (ix2 t (i 0)) * d (ix2 t (i 1))

theorem pay_apply (a b : Vec Ideal S4224x1024 .bf16) (p q : Fin 1024) : k0_pay1 a b (ix2 p q) = ∑ t : Fin 4224, a (ix2 t p) * b (ix2 t q) := by
  pointwise [k0_pay1]

theorem idx0 : ∀ t : Fin cfg0.N, win0_0.index t 0 = 0 ∧ win0_0.index t 1 = t.val / 2 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = t.val % 2 := by decide +kernel

theorem lt_N (t : Fin cfg0.N) : t.val < 16 := lt_of_lt_of_eq t.isLt N_0

variable (m : (ℓ : Loc nD τ sig) → Buf (Elt Ideal) ℓ) (c : Dev nD)

theorem act_read (i : S4224x8192.Idx) : (V m c main_v3 : S4224x8192.Idx → EReal) i = act (m ((c.tc : Thread nD τ).loc main_arg0)) i := by
  unfold V hostOps0
  after_reads_simp
  pointwise [act]

theorem act_at (t : Fin cfg0.N) (r : Fin 4224) (k : Fin 1024) :
    (iblk m c 0 t : Vec Ideal S4224x1024 .bf16) (ix2 r k) = (V m c main_v3 : S4224x8192.Idx → EReal) (ix2 r ⟨1024 * (t.val / 2) + k.val, by have := lt_N t; omega⟩) := by
  blk_ext [iblk, idx0 t]

theorem d_at (t : Fin cfg0.N) (r : Fin 4224) (k : Fin 1024) :
    (iblk m c 1 t : Vec Ideal S4224x1024 .bf16) (ix2 r k) = (V m c main_arg1 : S4224x2048.Idx → EReal) (ix2 r ⟨1024 * (t.val % 2) + k.val, by omega⟩) := by
  blk_ext [iblk, idx1 t]

theorem out_eq (a b : Vec Ideal S4224x1024 .bf16) : out0_2 a b = k0_pay1 a b := by
  frame_out

theorem array : (dats m 0 c).arrAt 2 cfg0.N = dw (m ((c.tc : Thread nD τ).loc main_arg0)) (m ((c.tc : Thread nD τ).loc main_arg1)) := by
  refine (dats m 0 c).arrAt_eq_of_covers 2 _ (by decide +kernel) fun t hf y => ?_
  have e := congrFun (after0_2 m c t) y
  have y0 : (y 0).val < 1024 := (y 0).isLt
  have y1 : (y 1).val < 1024 := (y 1).isLt
  have ht := lt_N t
  have hv := (congrArg (out0_2 (iblk m c 0 t) (iblk m c 1 t)) (eq_ix2 (n0 := 1024) (n1 := 1024) y)).trans
    ((congrFun (out_eq (iblk m c 0 t) (iblk m c 1 t)) _).trans (pay_apply _ _ (y 0) (y 1)))
  refine e.trans (hv.trans ?_)
  have e0 : ((win0_2.blk t).view.emb y : S8192x2048.Idx) 0 = (⟨1024 * (t.val / 2) + (y 0).val, by omega⟩ : Fin 8192) := by
    have i0 := (idx2 t).1
    apply Fin.ext
    show _ = 1024 * (t.val / 2) + (y 0).val
    blk_simp
    omega
  have e1 : ((win0_2.blk t).view.emb y : S8192x2048.Idx) 1 = (⟨1024 * (t.val % 2) + (y 1).val, by omega⟩ : Fin 2048) := by
    have i1 := (idx2 t).2
    apply Fin.ext
    show _ = 1024 * (t.val % 2) + (y 1).val
    blk_simp
    omega
  show _ = dw _ _ ((win0_2.blk t).view.emb y)
  unfold dw
  refine Finset.sum_congr rfl fun k _ => ?_
  refine congrArg₂ (· * ·) ((act_at m c t k (y 0)).trans ((act_read m c _).trans ?_)) ((d_at m c t k (y 1)).trans ((congrFun (V_main_arg1 m c) _).trans ?_))
  · exact congrArg (fun z => act (m ((c.tc : Thread nD τ).loc main_arg0)) (ix2 k z)) e0.symm
  · exact congrArg (fun z => (m ((c.tc : Thread nD τ).loc main_arg1) : S4224x2048.Idx → EReal) (ix2 k z)) e1.symm

open Reference3Ideal.Read in
theorem ref_act (z : S4224x8192.Idx → EReal) (i : S4224x8192.Idx) : val_main_v5 (F := Ideal) z i = act z i := by
  simp only [val_main_v5_apply, val_main_v1_apply, val_main_call0_v0_apply, val_main_call0_cst_apply]
  pointwise [act]

open Reference3Ideal.Read in
theorem ref_apply (z : S4224x8192.Idx → EReal) (d : S4224x2048.Idx → EReal) : val_main_v16 (F := Ideal) z d = dw z d := by
  funext i
  rw [val_main_v16_apply, val_main_v11_apply]
  refine (val_main_v10_apply z d _).trans ?_
  unfold dw
  refine Finset.sum_congr rfl fun k _ => (mul_comm _ _).trans (congrArg₂ (· * ·) ((ref_act z _).trans (congrArg (act z) ?_)) (congrArg d ?_))
  · exact eq_ix2 (n0 := 4224) (n1 := 8192) _
  · exact eq_ix2 (n0 := 4224) (n1 := 2048) _

/-- Both programs leave the same gradient. -/
theorem algebraic : Cert.algebraic_Kernel3Ideal_Reference3Ideal := by
  intro m g m' g' _ hargs
  refine ⟨fun c => dw (m ((c.tc : Thread nD τ).loc main_arg0)) (m ((c.tc : Thread nD τ).loc main_arg1)), ?_, ?_⟩
  · exact (θ_run Kernel3Ideal.defs _ _).mono (fun r h c => ⟨(h c).1.trans (array m c), (h c).2⟩) (Value.run_blocks m g)
  · refine (θ_run Reference3Ideal.defs _ _).mono (fun r h c => ⟨(h c).1.trans ?_, (h c).2⟩) (Reference3Ideal.Value.run m' g')
    refine (Reference3Ideal.Read.val_main_v16_eq _ _).trans ((ref_apply _ _).trans ?_)
    exact congrArg₂ dw (hargs c).1 (hargs c).2

end Cert.Mlp.DownDw

end
-- ==== Proof.UpDw.lean ====
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ValueKit.Point

@[expose] public section

set_option maxRecDepth 16384

noncomputable section

namespace Cert.Mlp.UpDw

open Idealize.ShloMosaic Idealize.SL Idealize.SL.Sem
open Cert.Kernel4Ideal Cert.Kernel4Ideal.Gen

/-! ## The gradient of the MLP's first weight -/

/-- The sum over the rows, its columns in eight blocks. -/
def dw (h : S4224x2048.Idx → EReal) (d : S4224x8192.Idx → EReal) : S8x2048x1024.Idx → EReal := fun i =>
  ∑ t : Fin 4224, h (ix2 t (i 1)) * d (ix2 t ⟨1024 * (i 0).val + (i 2).val, by have h0 : (i 0).val < 8 := (i 0).isLt; have h2 : (i 2).val < 1024 := (i 2).isLt; omega⟩)

theorem pay_apply (a b : Vec Ideal S4224x1024 .bf16) (p q : Fin 1024) : k0_pay1 a b (ix3 0 p q) = ∑ t : Fin 4224, a (ix2 t p) * b (ix2 t q) := by
  pointwise [k0_pay1]

theorem idx0 : ∀ t : Fin cfg0.N, win0_0.index t 0 = 0 ∧ win0_0.index t 1 = t.val / 8 := by decide +kernel
theorem idx1 : ∀ t : Fin cfg0.N, win0_1.index t 0 = 0 ∧ win0_1.index t 1 = t.val % 8 := by decide +kernel
theorem idx2 : ∀ t : Fin cfg0.N, win0_2.index t 0 = t.val % 8 ∧ win0_2.index t 1 = t.val / 8 ∧ win0_2.index t 2 = 0 := by decide +kernel

theorem lt_N (t : Fin cfg0.N) : t.val < 16 := lt_of_lt_of_eq t.isLt N_0

variable (m : (ℓ : Loc nD τ sig) → Buf (Elt Ideal) ℓ) (c : Dev nD)

theorem h_at (t : Fin cfg0.N) (r : Fin 4224) (k : Fin 1024) :
    (iblk m c 0 t : Vec Ideal S4224x1024 .bf16) (ix2 r k) = (m ((c.tc : Thread nD τ).loc main_arg0) : S4224x2048.Idx → EReal) (ix2 r ⟨1024 * (t.val / 8) + k.val, by have := lt_N t; omega⟩) := by
  blk_ext [iblk, V, idx0 t]

theorem d_at (t : Fin cfg0.N) (r : Fin 4224) (k : Fin 1024) :
    (iblk m c 1 t : Vec Ideal S4224x1024 .bf16) (ix2 r k) = (m ((c.tc : Thread nD τ).loc main_arg1) : S4224x8192.Idx → EReal) (ix2 r ⟨1024 * (t.val % 8) + k.val, by omega⟩) := by
  blk_ext [iblk, V, idx1 t]

theorem out_eq (a b : Vec Ideal S4224x1024 .bf16) : out0_2 a b = k0_pay1 a b := by
  frame_out

theorem array : (dats m 0 c).arrAt 2 cfg0.N = dw (m ((c.tc : Thread nD τ).loc main_arg0)) (m ((c.tc : Thread nD τ).loc main_arg1)) := by
  refine (dats m 0 c).arrAt_eq_of_covers 2 _ (by decide +kernel) fun t hf y => ?_
  have e := congrFun (after0_2 m c t) y
  have y0 : (y 0) = (0 : Fin 1) := Subsingleton.elim (α := Fin 1) _ _
  have y1 : (y 1).val < 1024 := (y 1).isLt
  have y2 : (y 2).val < 1024 := (y 2).isLt
  have ht := lt_N t
  have hv := (congrArg (out0_2 (iblk m c 0 t) (iblk m c 1 t)) ((eq_ix3 (n0 := 1) (n1 := 1024) (n2 := 1024) y).trans (congrArg (fun z => ix3 z (y 1) (y 2)) y0))).trans
    ((congrFun (out_eq (iblk m c 0 t) (iblk m c 1 t)) _).trans (pay_apply _ _ (y 1) (y 2)))
  refine e.trans (hv.trans ?_)
  have e0 : (((win0_2.blk t).view.emb y : S8x2048x1024.Idx) 0).val = t.val % 8 := by
    have i0 := (idx2 t).1
    have hy0 : (y 0).val = 0 := congrArg Fin.val y0
    blk_simp
    omega
  have e1 : ((win0_2.blk t).view.emb y : S8x2048x1024.Idx) 1 = (⟨1024 * (t.val / 8) + (y 1).val, by omega⟩ : Fin 2048) := by
    have i1 := (idx2 t).2.1
    apply Fin.ext
    show _ = 1024 * (t.val / 8) + (y 1).val
    blk_simp
    omega
  have e2 : (((win0_2.blk t).view.emb y : S8x2048x1024.Idx) 2).val = (y 2).val := by
    have i2 := (idx2 t).2.2
    blk_simp
    omega
  show _ = dw _ _ ((win0_2.blk t).view.emb y)
  unfold dw
  refine Finset.sum_congr rfl fun k _ => ?_
  refine congrArg₂ (· * ·) ((h_at m c t k (y 1)).trans ?_) ((d_at m c t k (y 2)).trans ?_)
  · exact congrArg (fun z => (m ((c.tc : Thread nD τ).loc main_arg0) : S4224x2048.Idx → EReal) (ix2 k z)) e1.symm
  · exact congrArg (fun z => (m ((c.tc : Thread nD τ).loc main_arg1) : S4224x8192.Idx → EReal) (ix2 k z)) (Fin.ext (by show _ = 1024 * _ + _; rw [e0, e2]))

theorem ref_apply (h : S4224x2048.Idx → EReal) (d : S4224x8192.Idx → EReal) : Reference4Ideal.Read.val_main_v9 (F := Ideal) h d = dw h d := by
  funext i
  have i1 : (i 1).val < 2048 := (i 1).isLt
  have i2 : (i 2).val < 1024 := (i 2).isLt
  have i0 : (i 0).val < 8 := (i 0).isLt
  rw [Reference4Ideal.Read.val_main_v9_apply, Reference4Ideal.Read.val_main_v8_apply, Reference4Ideal.Read.val_main_v7_apply, Reference4Ideal.Read.val_main_v5_apply]
  refine (Reference4Ideal.Read.val_main_v4_apply h d _).trans ?_
  unfold dw
  refine Finset.sum_congr rfl fun k _ => (mul_comm _ _).trans (congrArg₂ (· * ·) (congrArg h ?_) (congrArg d ?_))
  · refine (eq_ix2 (n0 := 4224) (n1 := 2048) _).trans (congrArg (ix2 k) (Fin.ext ?_))
    show (((i 1).val * 8 + (i 0).val) * 1024 + (i 2).val) / 8192 = (i 1).val
    omega
  · refine (eq_ix2 (n0 := 4224) (n1 := 8192) _).trans (congrArg (ix2 k) (Fin.ext ?_))
    show (((i 1).val * 8 + (i 0).val) * 1024 + (i 2).val) % 8192 = 1024 * (i 0).val + (i 2).val
    omega

/-- Both programs leave the same gradient. -/
theorem algebraic : Cert.algebraic_Kernel4Ideal_Reference4Ideal := by
  intro m g m' g' _ hargs
  refine ⟨fun c => dw (m ((c.tc : Thread nD τ).loc main_arg0)) (m ((c.tc : Thread nD τ).loc main_arg1)), ?_, ?_⟩
  · exact (θ_run Kernel4Ideal.defs _ _).mono (fun r h c => ⟨(h c).1.trans (array m c), (h c).2⟩) (Value.run_blocks m g)
  · refine (θ_run Reference4Ideal.defs _ _).mono (fun r h c => ⟨(h c).1.trans ?_, (h c).2⟩) (Reference4Ideal.Value.run m' g')
    refine (Reference4Ideal.Read.val_main_v9_eq _ _).trans ((ref_apply _ _).trans ?_)
    exact congrArg₂ dw (hargs c).1 (hargs c).2

end Cert.Mlp.UpDw

end
-- ==== Proof.UpDx.lean ====
module

public import proofs.«01_k».proof.Defs
public import proofs.«01_k».proof.Proof.Gen.Kernel5Ideal.Value
public import proofs.«01_k».proof.Proof.Gen.Reference5Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Mlp.UpDx

open Idealize.ShloMosaic Idealize.SL Idealize.SL.Sem
open Cert.Kernel5Ideal Cert.Kernel5Ideal.Gen

/-! ## The gradient that the MLP's first product sends back to its input -/

theorem pay_apply (s : Vec Ideal S2112x1024 .f32) (a : Vec Ideal S2112x1024 .bf16) (b : Vec Ideal S1x1024x1024 .bf16) (p : Fin 2112) (q : Fin 1024) :
    k0_pay2 s a b (ix2 p q) = s (ix2 p q) + ∑ k : Fin 1024, a (ix2 p k) * b (ix3 0 q k) := by
  pointwise [k0_pay2]

theorem zero_apply (p : Fin 2112) (q : Fin 1024) : k0_pay1 (F := Ideal) (ix2 p q) = 0 := by
  pointwise [k0_pay1]

theorem first_eq (c : Dev nD) (t : Fin cfg0.N) (h0 : cond0_0 (grid0.coords t)) (h1 : ¬ cond0_1 (grid0.coords t)) (a : Vec Ideal S2112x1024 .bf16) (b : Vec Ideal S1x1024x1024 .bf16) :
    sout0_A_0 c (grid0.coords t) (ms0_0 t) (hs0_0 t) (ms0_1 t) (hs0_1 t) (ms0_2 t) (hs0_2 t) scM0_0 (Memref.isWhole_whole _) h0 h1 a b = k0_pay2 (k0_pay1 (F := Ideal)) a b := by
  frame_out

theorem step_eq (c : Dev nD) (t : Fin cfg0.N) (h0 : ¬ cond0_0 (grid0.coords t)) (h1 : ¬ cond0_1 (grid0.coords t)) (a : Vec Ideal S2112x1024 .bf16) (b : Vec Ideal S1x1024x1024 .bf16) (s : Vec Ideal S2112x1024 .f32) :
    sout0_B_0 c (grid0.coords t) (ms0_0 t) (hs0_0 t) (ms0_1 t) (hs0_1 t) (ms0_2 t) (hs0_2 t) scM0_0 (Memref.isWhole_whole _) h0 h1 a b s = k0_pay2 s a b := by
  frame_out
  exact congrArg (fun z => k0_pay2 z a b) ((Memref.isWhole_whole cc0_scratch0).read_unread s)

theorem last_eq (c : Dev nD) (t : Fin cfg0.N) (h0 : ¬ cond0_0 (grid0.coords t)) (h1 : cond0_1 (grid0.coords t)) (a : Vec Ideal S2112x1024 .bf16) (b : Vec Ideal S1x1024x1024 .bf16) (s : Vec Ideal S2112x1024 .f32) :
    out0_C_2 c (grid0.coords t) (ms0_0 t) (hs0_0 t) (ms0_1 t) (hs0_1 t) (ms0_2 t) (hs0_2 t) scM0_0 (Memref.isWhole_whole _) h0 h1 a b s = k0_pay2 s a b := by
  frame_out
  exact congrArg (fun z => k0_pay2 z a b) ((Memref.isWhole_whole cc0_scratch0).read_unread s)

theorem idx0 : ∀ t : Fin cfg0.N, win0_0.index t 0 = t.val / 16 ∧ win0_0.index t 1 = t.val % 8 := by decide +kernel
theorem idx1 : ∀ t : Fin cfg0.N, win0_1.index t 0 = t.val % 8 ∧ win0_1.index t 1 = t.val / 8 % 2 ∧ win0_1.index t 2 = 0 := by decide +kernel
theorem idx2 : ∀ t : Fin cfg0.N, win0_2.index t 0 = t.val / 16 ∧ win0_2.index t 1 = t.val / 8 % 2 := by decide +kernel

theorem lt_N (t : Fin cfg0.N) : t.val < 32 := lt_of_lt_of_eq t.isLt N_0

variable (m : (ℓ : Loc nD τ sig) → Buf (Elt Ideal) ℓ) (c : Dev nD)

theorem w_read (j : Fin 8) (r : Fin 2048) (k : Fin 1024) : (V m c main_v1 : S8x2048x1024.Idx → EReal) (ix3 j r k) = (m ((c.tc : Thread nD τ).loc main_arg1) : S2048x8192.Idx → EReal) (ix2 r ⟨j.val * 1024 + k.val, by omega⟩) := by
  unfold V hostOps0
  after_reads_simp
  pointwise []

theorem d_at (t : Fin cfg0.N) (r : Fin 2112) (k : Fin 1024) :
    (iblk m c 0 t : Vec Ideal S2112x1024 .bf16) (ix2 r k) = (V m c main_arg0 : S4224x8192.Idx → EReal) (ix2 ⟨2112 * (t.val / 16) + r.val, by have := lt_N t; omega⟩ ⟨t.val % 8 * 1024 + k.val, by omega⟩) := by
  blk_ext [iblk, idx0 t]

theorem w_at (t : Fin cfg0.N) (q k : Fin 1024) :
    (iblk m c 1 t : Vec Ideal S1x1024x1024 .bf16) (ix3 0 q k) = (V m c main_v1 : S8x2048x1024.Idx → EReal) (ix3 ⟨t.val % 8, by omega⟩ ⟨1024 * (t.val / 8 % 2) + q.val, by omega⟩ k) := by
  blk_ext [iblk, idx1 t]

/-- What point `n` adds to an entry of its block. -/
def term (d : S4224x8192.Idx → EReal) (w : S2048x8192.Idx → EReal) (n : ℕ) (y : S2112x1024.Idx) : EReal :=
  ∑ k : Fin 1024, d (ix2 ⟨2112 * (n / 16 % 2) + (y 0).val, by have h : (y 0).val < 2112 := (y 0).isLt; omega⟩ ⟨n % 8 * 1024 + k.val, by omega⟩)
    * w (ix2 ⟨1024 * (n / 8 % 2) + (y 1).val, by have h : (y 1).val < 1024 := (y 1).isLt; omega⟩ ⟨n % 8 * 1024 + k.val, by omega⟩)

theorem step_apply (t : Fin cfg0.N) (s : Vec Ideal S2112x1024 .f32) (y : S2112x1024.Idx) :
    k0_pay2 s (iblk m c 0 t) (iblk m c 1 t) y = s y + term (m ((c.tc : Thread nD τ).loc main_arg0)) (m ((c.tc : Thread nD τ).loc main_arg1)) t.val y := by
  have ht := lt_N t
  have e := eq_ix2 (n0 := 2112) (n1 := 1024) y
  refine ((congrArg (k0_pay2 s (iblk m c 0 t) (iblk m c 1 t)) e).trans (pay_apply s _ _ (y 0) (y 1))).trans (congrArg₂ (· + ·) (congrArg s e.symm) ?_)
  unfold term
  refine Finset.sum_congr rfl fun k _ => congrArg₂ (· * ·) ?_ ?_
  · refine (d_at m c t (y 0) k).trans ((congrFun (V_main_arg0 m c) _).trans ?_)
    refine congrArg (fun z => (m ((c.tc : Thread nD τ).loc main_arg0) : S4224x8192.Idx → EReal) (ix2 z _)) (Fin.ext ?_)
    show 2112 * (t.val / 16) + (y 0).val = 2112 * (t.val / 16 % 2) + (y 0).val
    omega
  · exact (w_at m c t (y 1) k).trans (w_read m c _ _ _)

/-- What the sum holds after a point, the last point's going out. -/
def held (n : ℕ) (h : n < cfg0.N) : S2112x1024.Idx → EReal := if n % 8 = 7 then (outsAt0 m c n h).1 else (outsAt0 m c n h).2

theorem held_first (t : Fin cfg0.N) (h : t.val % 8 = 0) (y : S2112x1024.Idx) :
    held m c t.val t.isLt y = 0 + term (m ((c.tc : Thread nD τ).loc main_arg0)) (m ((c.tc : Thread nD τ).loc main_arg1)) t.val y := by
  have h7 : ¬ t.val % 8 = 7 := by omega
  unfold held
  rw [if_neg h7, outsAt0_A m c t h h7]
  dsimp only
  rw [first_eq, step_apply]
  refine congrArg (fun z : EReal => z + _) ?_
  exact (congrArg (k0_pay1 (F := Ideal)) (eq_ix2 (n0 := 2112) (n1 := 1024) y)).trans (zero_apply _ _)

theorem held_step (t : Fin cfg0.N) (h : ¬ t.val % 8 = 0) (y : S2112x1024.Idx) :
    held m c t.val t.isLt y = held m c (t.val - 1) (Nat.lt_of_le_of_lt (Nat.sub_le _ _) t.isLt) y + term (m ((c.tc : Thread nD τ).loc main_arg0)) (m ((c.tc : Thread nD τ).loc main_arg1)) t.val y := by
  have h6 : ¬ (t.val - 1) % 8 = 7 := by omega
  have hp : held m c (t.val - 1) (Nat.lt_of_le_of_lt (Nat.sub_le _ _) t.isLt) = (outsAt0 m c (t.val - 1) (Nat.lt_of_le_of_lt (Nat.sub_le _ _) t.isLt)).2 := if_neg h6
  rw [hp]
  unfold held
  by_cases h7 : t.val % 8 = 7
  · rw [if_pos h7, outsAt0_C m c t h h7]
    dsimp only
    rw [last_eq, step_apply]
  · rw [if_neg h7, outsAt0_B m c t h h7]
    dsimp only
    rw [step_eq, step_apply]

theorem held_eq (t : Fin cfg0.N) (h : t.val % 8 = 7) (y : S2112x1024.Idx) :
    held m c t.val t.isLt y = 0 + ∑ j ∈ Finset.range 8, term (m ((c.tc : Thread nD τ).loc main_arg0)) (m ((c.tc : Thread nD τ).loc main_arg1)) (8 * (t.val / 8) + j) y := by
  have h0 := held_first m c
  have hs := held_step m c
  generalize held m c = f at h0 hs ⊢
  generalize term (m ((c.tc : Thread nD τ).loc main_arg0)) (m ((c.tc : Thread nD τ).loc main_arg1)) = g at h0 hs ⊢
  exact Pipeline.eq_sum_of_reset_step_apply_of_mod f 8 (fun _ => (0 : EReal)) g h0 hs t h y

/-- The product with the weight, summed over its columns. -/
def dx (d : S4224x8192.Idx → EReal) (w : S2048x8192.Idx → EReal) : S4224x2048.Idx → EReal := fun i =>
  ∑ k : Fin 8192, d (ix2 (i 0) k) * w (ix2 (i 1) k)

theorem array : (dats m 0 c).arrAt 2 cfg0.N = dx (m ((c.tc : Thread nD τ).loc main_arg0)) (m ((c.tc : Thread nD τ).loc main_arg1)) := by
  refine (dats m 0 c).arrAt_eq_of_covers 2 _ (by decide +kernel) fun t hf y => ?_
  have h7 : t.val % 8 = 7 := (flush0_2 t).mp hf
  have e := congrFun (after0_2 m c t) y
  have hh := held_eq m c t h7 y
  unfold held at hh
  rw [if_pos h7, zero_add] at hh
  have y0 : (y 0).val < 2112 := (y 0).isLt
  have y1 : (y 1).val < 1024 := (y 1).isLt
  have ht := lt_N t
  refine e.trans (hh.trans ?_)
  have e0 : ((win0_2.blk t).view.emb y : S4224x2048.Idx) 0 = (⟨2112 * (t.val / 16) + (y 0).val, by omega⟩ : Fin 4224) := by
    have i0 := (idx2 t).1
    apply Fin.ext
    show _ = 2112 * (t.val / 16) + (y 0).val
    blk_simp
    omega
  have e1 : ((win0_2.blk t).view.emb y : S4224x2048.Idx) 1 = (⟨1024 * (t.val / 8 % 2) + (y 1).val, by omega⟩ : Fin 2048) := by
    have i1 := (idx2 t).2
    apply Fin.ext
    show _ = 1024 * (t.val / 8 % 2) + (y 1).val
    blk_simp
    omega
  show _ = dx _ _ ((win0_2.blk t).view.emb y)
  unfold dx
  refine Eq.trans ?_ (Fin.sum_univ_tiles 8 1024 rfl _).symm
  rw [Finset.sum_range]
  refine Finset.sum_congr rfl fun j _ => ?_
  unfold term
  refine Finset.sum_congr rfl fun k _ => congrArg₂ (· * ·) ?_ ?_
  · refine congrArg (m ((c.tc : Thread nD τ).loc main_arg0) : S4224x8192.Idx → EReal) (congrArg₂ ix2 (Eq.trans (Fin.ext ?_) e0.symm) (Fin.ext ?_))
    · show 2112 * ((8 * (t.val / 8) + j.val) / 16 % 2) + (y 0).val = 2112 * (t.val / 16) + (y 0).val
      omega
    · show (8 * (t.val / 8) + j.val) % 8 * 1024 + k.val = j.val * 1024 + k.val
      omega
  · refine congrArg (m ((c.tc : Thread nD τ).loc main_arg1) : S2048x8192.Idx → EReal) (congrArg₂ ix2 (Eq.trans (Fin.ext ?_) e1.symm) (Fin.ext ?_))
    · show 1024 * ((8 * (t.val / 8) + j.val) / 8 % 2) + (y 1).val = 1024 * (t.val / 8 % 2) + (y 1).val
      omega
    · show (8 * (t.val / 8) + j.val) % 8 * 1024 + k.val = j.val * 1024 + k.val
      omega

open Reference5Ideal.Read in
theorem ref_apply (d : S4224x8192.Idx → EReal) (w : S2048x8192.Idx → EReal) : val_main_v6 (F := Ideal) d w = dx d w := by
  funext i
  refine (val_main_v6_apply d w i).trans ?_
  unfold dx
  refine Finset.sum_congr rfl fun k _ => congrArg₂ (· * ·) (congrArg d ?_) (congrArg w ?_)
  · exact eq_ix2 (n0 := 4224) (n1 := 8192) _
  · exact eq_ix2 (n0 := 2048) (n1 := 8192) _

/-- Both programs leave the same gradient. -/
theorem algebraic : Cert.algebraic_Kernel5Ideal_Reference5Ideal := by
  intro m g m' g' _ hargs
  refine ⟨fun c => dx (m ((c.tc : Thread nD τ).loc main_arg0)) (m ((c.tc : Thread nD τ).loc main_arg1)), ?_, ?_⟩
  · exact (θ_run Kernel5Ideal.defs _ _).mono (fun r h c => ⟨(h c).1.trans (array m c), (h c).2⟩) (Value.run_blocks m g)
  · refine (θ_run Reference5Ideal.defs _ _).mono (fun r h c => ⟨(h c).1.trans ?_, (h c).2⟩) (Reference5Ideal.Value.run m' g')
    refine (Reference5Ideal.Read.val_main_v6_eq _ _).trans ((ref_apply _ _).trans ?_)
    exact congrArg₂ dx (hargs c).1 (hargs c).2

end Cert.Mlp.UpDx

end
-- ==== Proof.UpFwd.lean ====
module

public import proofs.«01_k».proof.Defs
public import proofs.«01_k».proof.Proof.Gen.Kernel6Ideal.Value
public import proofs.«01_k».proof.Proof.Gen.Reference6Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Mlp.UpFwd

open Idealize.ShloMosaic Idealize.SL Idealize.SL.Sem
open Cert.Kernel6Ideal Cert.Kernel6Ideal.Gen

/-! ## The MLP's first product, rectified, and its square -/

/-- The rectified product with the weight. -/
def rectUp (h : S4224x2048.Idx → EReal) (w : S2048x8192.Idx → EReal) : S4224x8192.Idx → EReal := fun i =>
  max (∑ k : Fin 2048, h (ix2 (i 0) k) * w (ix2 k (i 1))) 0

/-- Its square. -/
def actUp (h : S4224x2048.Idx → EReal) (w : S2048x8192.Idx → EReal) : S4224x8192.Idx → EReal := fun i => rectUp h w i * rectUp h w i

theorem rect_apply (a : Vec Ideal S1408x2048 .bf16) (b : Vec Ideal S1x2048x1024 .bf16) (p : Fin 1408) (q : Fin 1024) :
    k0_pay2 a b (ix2 p q) = max (∑ k : Fin 2048, a (ix2 p k) * b (ix3 0 k q)) 0 := by
  pointwise [k0_pay2, k0_pay1]

theorem act_apply (a : Vec Ideal S1408x2048 .bf16) (b : Vec Ideal S1x2048x1024 .bf16) (y : S1408x1024.Idx) :
    k0_pay3 a b y = (k0_pay2 a b y : EReal) * (k0_pay2 a b y : EReal) := rfl

theorem idx0 : ∀ t : Fin cfg0.N, win0_0.index t 0 = t.val / 8 ∧ win0_0.index t 1 = 0 := by decide +kernel
theorem idx1 : ∀ t : Fin cfg0.N, win0_1.index t 0 = t.val % 8 ∧ win0_1.index t 1 = 0 ∧ win0_1.index t 2 = 0 := by decide +kernel
theorem idx2 : ∀ t : Fin cfg0.N, win0_2.index t 0 = t.val / 8 ∧ win0_2.index t 1 = t.val % 8 := by decide +kernel
theorem idx3 : ∀ t : Fin cfg0.N, win0_3.index t 0 = t.val / 8 ∧ win0_3.index t 1 = t.val % 8 := by decide +kernel

theorem lt_N (t : Fin cfg0.N) : t.val < 24 := lt_of_lt_of_eq t.isLt N_0

variable (m : (ℓ : Loc nD τ sig) → Buf (Elt Ideal) ℓ) (c : Dev nD)

theorem w_read (j : Fin 8) (r : Fin 2048) (k : Fin 1024) : (V m c main_v1 : S8x2048x1024.Idx → EReal) (ix3 j r k) = (m ((c.tc : Thread nD τ).loc main_arg1) : S2048x8192.Idx → EReal) (ix2 r ⟨j.val * 1024 + k.val, by omega⟩) := by
  unfold V hostOps0
  after_reads_simp
  pointwise []

theorem h_at (t : Fin cfg0.N) (r : Fin 1408) (k : Fin 2048) :
    (iblk m c 0 t : Vec Ideal S1408x2048 .bf16) (ix2 r k) = (V m c main_arg0 : S4224x2048.Idx → EReal) (ix2 ⟨1408 * (t.val / 8) + r.val, by have := lt_N t; omega⟩ k) := by
  blk_ext [iblk, idx0 t]

theorem w_at (t : Fin cfg0.N) (k : Fin 2048) (q : Fin 1024) :
    (iblk m c 1 t : Vec Ideal S1x2048x1024 .bf16) (ix3 0 k q) = (V m c main_v1 : S8x2048x1024.Idx → EReal) (ix3 ⟨t.val % 8, by omega⟩ k q) := by
  blk_ext [iblk, idx1 t]

theorem out2_eq (a : Vec Ideal S1408x2048 .bf16) (b : Vec Ideal S1x2048x1024 .bf16) : out0_2 a b = k0_pay2 a b := by
  frame_out

theorem out3_eq (a : Vec Ideal S1408x2048 .bf16) (b : Vec Ideal S1x2048x1024 .bf16) : out0_3 a b = k0_pay3 a b := by
  frame_out

/-- The place of a block's entry in the whole. -/
def place (t : Fin cfg0.N) (p : Fin 1408) (q : Fin 1024) : S4224x8192.Idx :=
  ix2 ⟨1408 * (t.val / 8) + p.val, by have := lt_N t; omega⟩ ⟨t.val % 8 * 1024 + q.val, by omega⟩

theorem block_rect (t : Fin cfg0.N) (p : Fin 1408) (q : Fin 1024) :
    k0_pay2 (iblk m c 0 t) (iblk m c 1 t) (ix2 p q) = rectUp (m ((c.tc : Thread nD τ).loc main_arg0)) (m ((c.tc : Thread nD τ).loc main_arg1)) (place t p q) := by
  refine (rect_apply _ _ p q).trans ?_
  unfold rectUp place
  refine congrArg (fun z : EReal => max z 0) (Finset.sum_congr rfl fun k _ => congrArg₂ (· * ·) ?_ ?_)
  · exact (h_at m c t p k).trans (congrFun (V_main_arg0 m c) _)
  · exact (w_at m c t k q).trans (w_read m c _ _ _)

theorem emb2 (t : Fin cfg0.N) (y : S1408x1024.Idx) : ((win0_2.blk t).view.emb y : S4224x8192.Idx) = place t (y 0) (y 1) := by
  refine (eq_ix2 (n0 := 4224) (n1 := 8192) _).trans (congrArg₂ ix2 (Fin.ext ?_) (Fin.ext ?_))
  · have i0 := (idx2 t).1
    show _ = 1408 * (t.val / 8) + (y 0).val
    blk_simp
    omega
  · have i1 := (idx2 t).2
    show _ = t.val % 8 * 1024 + (y 1).val
    blk_simp
    omega

theorem emb3 (t : Fin cfg0.N) (y : S1408x1024.Idx) : ((win0_3.blk t).view.emb y : S4224x8192.Idx) = place t (y 0) (y 1) := by
  refine (eq_ix2 (n0 := 4224) (n1 := 8192) _).trans (congrArg₂ ix2 (Fin.ext ?_) (Fin.ext ?_))
  · have i0 := (idx3 t).1
    show _ = 1408 * (t.val / 8) + (y 0).val
    blk_simp
    omega
  · have i1 := (idx3 t).2
    show _ = t.val % 8 * 1024 + (y 1).val
    blk_simp
    omega

theorem array2 : (dats m 0 c).arrAt 2 cfg0.N = rectUp (m ((c.tc : Thread nD τ).loc main_arg0)) (m ((c.tc : Thread nD τ).loc main_arg1)) := by
  refine (dats m 0 c).arrAt_eq_of_covers 2 _ (by decide +kernel) fun t hf y => ?_
  refine (congrFun (after0_2 m c t) y).trans ((congrFun (out2_eq (iblk m c 0 t) (iblk m c 1 t)) y).trans ?_)
  refine ((congrArg (k0_pay2 (iblk m c 0 t) (iblk m c 1 t)) (eq_ix2 (n0 := 1408) (n1 := 1024) y)).trans (block_rect m c t (y 0) (y 1))).trans ?_
  exact (congrArg (rectUp (m ((c.tc : Thread nD τ).loc main_arg0)) (m ((c.tc : Thread nD τ).loc main_arg1))) (emb2 t y)).symm

theorem array3 : (dats m 0 c).arrAt 3 cfg0.N = actUp (m ((c.tc : Thread nD τ).loc main_arg0)) (m ((c.tc : Thread nD τ).loc main_arg1)) := by
  refine (dats m 0 c).arrAt_eq_of_covers 3 _ (by decide +kernel) fun t hf y => ?_
  refine (congrFun (after0_3 m c t) y).trans ((congrFun (out3_eq (iblk m c 0 t) (iblk m c 1 t)) y).trans ((act_apply _ _ y).trans ?_))
  have e := (congrArg (k0_pay2 (iblk m c 0 t) (iblk m c 1 t)) (eq_ix2 (n0 := 1408) (n1 := 1024) y)).trans (block_rect m c t (y 0) (y 1))
  refine (congrArg₂ (fun a b : EReal => a * b) e e).trans ?_
  exact (congrArg (actUp (m ((c.tc : Thread nD τ).loc main_arg0)) (m ((c.tc : Thread nD τ).loc main_arg1))) (emb3 t y)).symm

open Reference6Ideal.Read in
theorem ref_rect (h : S4224x2048.Idx → EReal) (w : S2048x8192.Idx → EReal) (i : S4224x8192.Idx) : val_main_v3 (F := Ideal) h w i = rectUp h w i := by
  have hdot : val_main_v2 (F := Ideal) h w i = ∑ k : Fin 2048, h (ix2 (i 0) k) * w (ix2 k (i 1)) := by
    refine (val_main_v2_apply h w i).trans (Finset.sum_congr rfl fun k _ => congrArg₂ (· * ·) (congrArg h ?_) (congrArg w ?_))
    · exact eq_ix2 (n0 := 4224) (n1 := 2048) _
    · exact eq_ix2 (n0 := 2048) (n1 := 8192) _
  simp only [val_main_v3_apply, val_main_call0_v0_apply, val_main_call0_cst_apply, hdot]
  unfold rectUp
  generalize (∑ k : Fin 2048, h (ix2 (i 0) k) * w (ix2 k (i 1))) = s
  pointwise []

open Reference6Ideal.Read in
theorem ref_apply0 (h : S4224x2048.Idx → EReal) (w : S2048x8192.Idx → EReal) : val_main_v4 (F := Ideal) h w = rectUp h w := by
  funext i
  exact (val_main_v4_apply (F := Ideal) h w i).trans (ref_rect h w i)

open Reference6Ideal.Read in
theorem ref_apply1 (h : S4224x2048.Idx → EReal) (w : S2048x8192.Idx → EReal) : val_main_v6 (F := Ideal) h w = actUp h w := by
  funext i
  refine (val_main_v6_apply (F := Ideal) h w i).trans ((val_main_v5_apply (F := Ideal) h w i).trans ?_)
  exact congrArg₂ (fun a b : EReal => a * b) (ref_rect h w i) (ref_rect h w i)

/-- Both programs leave the same rectified product and the same square. -/
theorem algebraic : Cert.algebraic_Kernel6Ideal_Reference6Ideal := by
  intro m g m' g' _ hargs
  refine ⟨fun c => rectUp (m ((c.tc : Thread nD τ).loc main_arg0)) (m ((c.tc : Thread nD τ).loc main_arg1)), fun c => actUp (m ((c.tc : Thread nD τ).loc main_arg0)) (m ((c.tc : Thread nD τ).loc main_arg1)), ?_, ?_⟩
  · exact (θ_run Kernel6Ideal.defs _ _).mono (fun r h c => ⟨(h c).1.trans (array2 m c), (h c).2.1.trans (array3 m c), (h c).2.2⟩) (Value.run_blocks m g)
  · refine (θ_run Reference6Ideal.defs _ _).mono (fun r h c => ⟨(h c).1.trans ?_, (h c).2.1.trans ?_, (h c).2.2⟩) (Reference6Ideal.Value.run m' g')
    · refine (Reference6Ideal.Read.val_main_v4_eq _ _).trans ((ref_apply0 _ _).trans ?_)
      exact congrArg₂ rectUp (hargs c).1 (hargs c).2
    · refine (Reference6Ideal.Read.val_main_v6_eq _ _).trans ((ref_apply1 _ _).trans ?_)
      exact congrArg₂ actUp (hargs c).1 (hargs c).2

end Cert.Mlp.UpFwd

end
-- ==== Proof.DownFwd.lean ====
module

public import proofs.«01_k».proof.Defs
public import proofs.«01_k».proof.Proof.Gen.Kernel7Ideal.Value
public import proofs.«01_k».proof.Proof.Gen.Reference7Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Mlp.DownFwd

open Idealize.ShloMosaic Idealize.SL Idealize.SL.Sem
open Cert.Kernel7Ideal Cert.Kernel7Ideal.Gen

/-! ## The MLP's second product, added to the residual -/

/-- The squared rectifier. -/
def act (z : S4224x8192.Idx → EReal) : S4224x8192.Idx → EReal := fun i => max (z i) 0 * max (z i) 0

/-- The residual and the product with the weight. -/
def down (z : S4224x8192.Idx → EReal) (w : S8192x2048.Idx → EReal) (x : S4224x2048.Idx → EReal) : S4224x2048.Idx → EReal := fun i =>
  x i + ∑ k : Fin 8192, act z (ix2 (i 0) k) * w (ix2 k (i 1))

theorem pay_apply (s : Vec Ideal S1408x1024 .f32) (a : Vec Ideal S1408x1024 .bf16) (b : Vec Ideal S1024x1024 .bf16) (p : Fin 1408) (q : Fin 1024) :
    k0_pay2 s a b (ix2 p q) = s (ix2 p q) + ∑ k : Fin 1024, a (ix2 p k) * b (ix2 k q) := by
  pointwise [k0_pay2]

theorem zero_apply (p : Fin 1408) (q : Fin 1024) : k0_pay1 (F := Ideal) (ix2 p q) = 0 := by
  pointwise [k0_pay1]

theorem add_apply (s x : Vec Ideal S1408x1024 .f32) (y : S1408x1024.Idx) : k0_pay3 s x y = (s y : EReal) + (x y : EReal) := rfl

theorem first_eq (c : Dev nD) (t : Fin cfg0.N) (h0 : cond0_0 (grid0.coords t)) (h1 : ¬ cond0_1 (grid0.coords t)) (a : Vec Ideal S1408x1024 .bf16) (b : Vec Ideal S1024x1024 .bf16) (x : Vec Ideal S1408x1024 .f32) :
    sout0_A_0 c (grid0.coords t) (ms0_0 t) (hs0_0 t) (ms0_1 t) (hs0_1 t) (ms0_2 t) (hs0_2 t) (ms0_3 t) (hs0_3 t) scM0_0 (Memref.isWhole_whole _) h0 h1 a b x = k0_pay2 (k0_pay1 (F := Ideal)) a b := by
  frame_out

theorem step_eq (c : Dev nD) (t : Fin cfg0.N) (h0 : ¬ cond0_0 (grid0.coords t)) (h1 : ¬ cond0_1 (grid0.coords t)) (a : Vec Ideal S1408x1024 .bf16) (b : Vec Ideal S1024x1024 .bf16) (x : Vec Ideal S1408x1024 .f32) (s : Vec Ideal S1408x1024 .f32) :
    sout0_B_0 c (grid0.coords t) (ms0_0 t) (hs0_0 t) (ms0_1 t) (hs0_1 t) (ms0_2 t) (hs0_2 t) (ms0_3 t) (hs0_3 t) scM0_0 (Memref.isWhole_whole _) h0 h1 a b x s = k0_pay2 s a b := by
  frame_out
  exact congrArg (fun z => k0_pay2 z a b) ((Memref.isWhole_whole cc0_scratch0).read_unread s)

theorem last_eq (c : Dev nD) (t : Fin cfg0.N) (h0 : ¬ cond0_0 (grid0.coords t)) (h1 : cond0_1 (grid0.coords t)) (a : Vec Ideal S1408x1024 .bf16) (b : Vec Ideal S1024x1024 .bf16) (x : Vec Ideal S1408x1024 .f32) (s : Vec Ideal S1408x1024 .f32) :
    sout0_C_0 c (grid0.coords t) (ms0_0 t) (hs0_0 t) (ms0_1 t) (hs0_1 t) (ms0_2 t) (hs0_2 t) (ms0_3 t) (hs0_3 t) scM0_0 (Memref.isWhole_whole _) h0 h1 a b x s = k0_pay2 s a b := by
  frame_out
  exact congrArg (fun z => k0_pay2 z a b) ((Memref.isWhole_whole cc0_scratch0).read_unread s)

theorem out_eq (c : Dev nD) (t : Fin cfg0.N) (h0 : ¬ cond0_0 (grid0.coords t)) (h1 : cond0_1 (grid0.coords t)) (a : Vec Ideal S1408x1024 .bf16) (b : Vec Ideal S1024x1024 .bf16) (x : Vec Ideal S1408x1024 .f32) (s : Vec Ideal S1408x1024 .f32) :
    out0_C_3 c (grid0.coords t) (ms0_0 t) (hs0_0 t) (ms0_1 t) (hs0_1 t) (ms0_2 t) (hs0_2 t) (ms0_3 t) (hs0_3 t) scM0_0 (Memref.isWhole_whole _) h0 h1 a b x s = k0_pay3 (k0_pay2 s a b) x := by
  frame_out
  exact congrArg (fun z => k0_pay3 (k0_pay2 z a b) x) ((Memref.isWhole_whole cc0_scratch0).read_unread s)

theorem idx0 : ∀ t : Fin cfg0.N, win0_0.index t 0 = t.val / 16 ∧ win0_0.index t 1 = t.val % 8 := by decide +kernel
theorem idx1 : ∀ t : Fin cfg0.N, win0_1.index t 0 = t.val % 8 ∧ win0_1.index t 1 = t.val / 8 % 2 := by decide +kernel
theorem idx2 : ∀ t : Fin cfg0.N, win0_2.index t 0 = t.val / 16 ∧ win0_2.index t 1 = t.val / 8 % 2 := by decide +kernel
theorem idx3 : ∀ t : Fin cfg0.N, win0_3.index t 0 = t.val / 16 ∧ win0_3.index t 1 = t.val / 8 % 2 := by decide +kernel

theorem lt_N (t : Fin cfg0.N) : t.val < 48 := lt_of_lt_of_eq t.isLt N_0

variable (m : (ℓ : Loc nD τ sig) → Buf (Elt Ideal) ℓ) (c : Dev nD)

theorem act_read (i : S4224x8192.Idx) : (V m c main_v3 : S4224x8192.Idx → EReal) i = act (m ((c.tc : Thread nD τ).loc main_arg0)) i := by
  unfold V hostOps0
  after_reads_simp
  pointwise [act]

theorem act_at (t : Fin cfg0.N) (r : Fin 1408) (k : Fin 1024) :
    (iblk m c 0 t : Vec Ideal S1408x1024 .bf16) (ix2 r k) = (V m c main_v3 : S4224x8192.Idx → EReal) (ix2 ⟨1408 * (t.val / 16) + r.val, by have := lt_N t; omega⟩ ⟨t.val % 8 * 1024 + k.val, by omega⟩) := by
  blk_ext [iblk, idx0 t]

theorem w_at (t : Fin cfg0.N) (k q : Fin 1024) :
    (iblk m c 1 t : Vec Ideal S1024x1024 .bf16) (ix2 k q) = (V m c main_arg1 : S8192x2048.Idx → EReal) (ix2 ⟨t.val % 8 * 1024 + k.val, by omega⟩ ⟨1024 * (t.val / 8 % 2) + q.val, by omega⟩) := by
  blk_ext [iblk, idx1 t]

theorem x_at (t : Fin cfg0.N) (r : Fin 1408) (q : Fin 1024) :
    (iblk m c 2 t : Vec Ideal S1408x1024 .f32) (ix2 r q) = (V m c main_arg2 : S4224x2048.Idx → EReal) (ix2 ⟨1408 * (t.val / 16) + r.val, by have := lt_N t; omega⟩ ⟨1024 * (t.val / 8 % 2) + q.val, by omega⟩) := by
  blk_ext [iblk, idx2 t]

/-- What point `n` adds to an entry of its block. -/
def term (z : S4224x8192.Idx → EReal) (w : S8192x2048.Idx → EReal) (n : ℕ) (y : S1408x1024.Idx) : EReal :=
  ∑ k : Fin 1024, act z (ix2 ⟨1408 * (n / 16 % 3) + (y 0).val, by have h : (y 0).val < 1408 := (y 0).isLt; omega⟩ ⟨n % 8 * 1024 + k.val, by omega⟩)
    * w (ix2 ⟨n % 8 * 1024 + k.val, by omega⟩ ⟨1024 * (n / 8 % 2) + (y 1).val, by have h : (y 1).val < 1024 := (y 1).isLt; omega⟩)

theorem step_apply (t : Fin cfg0.N) (s : Vec Ideal S1408x1024 .f32) (y : S1408x1024.Idx) :
    k0_pay2 s (iblk m c 0 t) (iblk m c 1 t) y = s y + term (m ((c.tc : Thread nD τ).loc main_arg0)) (m ((c.tc : Thread nD τ).loc main_arg1)) t.val y := by
  have ht := lt_N t
  have e := eq_ix2 (n0 := 1408) (n1 := 1024) y
  refine ((congrArg (k0_pay2 s (iblk m c 0 t) (iblk m c 1 t)) e).trans (pay_apply s _ _ (y 0) (y 1))).trans (congrArg₂ (· + ·) (congrArg s e.symm) ?_)
  unfold term
  refine Finset.sum_congr rfl fun k _ => congrArg₂ (· * ·) ?_ ?_
  · refine (act_at m c t (y 0) k).trans ((act_read m c _).trans ?_)
    refine congrArg (fun z => act (m ((c.tc : Thread nD τ).loc main_arg0)) (ix2 z _)) (Fin.ext ?_)
    show 1408 * (t.val / 16) + (y 0).val = 1408 * (t.val / 16 % 3) + (y 0).val
    omega
  · exact (w_at m c t k (y 1)).trans (congrFun (V_main_arg1 m c) _)

/-- What the carried sum holds after a point. -/
def held (n : ℕ) (h : n < cfg0.N) : S1408x1024.Idx → EReal := (outsAt0 m c n h).2

theorem held_first (t : Fin cfg0.N) (h : t.val % 8 = 0) (y : S1408x1024.Idx) :
    held m c t.val t.isLt y = 0 + term (m ((c.tc : Thread nD τ).loc main_arg0)) (m ((c.tc : Thread nD τ).loc main_arg1)) t.val y := by
  have h7 : ¬ t.val % 8 = 7 := by omega
  unfold held
  rw [outsAt0_A m c t h h7]
  dsimp only
  rw [first_eq, step_apply]
  refine congrArg (fun z : EReal => z + _) ?_
  exact (congrArg (k0_pay1 (F := Ideal)) (eq_ix2 (n0 := 1408) (n1 := 1024) y)).trans (zero_apply _ _)

theorem held_step (t : Fin cfg0.N) (h : ¬ t.val % 8 = 0) (y : S1408x1024.Idx) :
    held m c t.val t.isLt y = held m c (t.val - 1) (Nat.lt_of_le_of_lt (Nat.sub_le _ _) t.isLt) y + term (m ((c.tc : Thread nD τ).loc main_arg0)) (m ((c.tc : Thread nD τ).loc main_arg1)) t.val y := by
  unfold held
  by_cases h7 : t.val % 8 = 7
  · rw [outsAt0_C m c t h h7]
    dsimp only
    rw [last_eq, step_apply]
  · rw [outsAt0_B m c t h h7]
    dsimp only
    rw [step_eq, step_apply]

theorem held_eq (t : Fin cfg0.N) (h : t.val % 8 = 7) (y : S1408x1024.Idx) :
    held m c t.val t.isLt y = 0 + ∑ j ∈ Finset.range 8, term (m ((c.tc : Thread nD τ).loc main_arg0)) (m ((c.tc : Thread nD τ).loc main_arg1)) (8 * (t.val / 8) + j) y := by
  have h0 := held_first m c
  have hs := held_step m c
  generalize held m c = f at h0 hs ⊢
  generalize term (m ((c.tc : Thread nD τ).loc main_arg0)) (m ((c.tc : Thread nD τ).loc main_arg1)) = g at h0 hs ⊢
  exact Pipeline.eq_sum_of_reset_step_apply_of_mod f 8 (fun _ => (0 : EReal)) g h0 hs t h y

/-- The block that goes out is the carried sum and the residual's block. -/
theorem out_apply (t : Fin cfg0.N) (h7 : t.val % 8 = 7) (y : S1408x1024.Idx) :
    (outsAt0 m c t.val t.isLt).1 y = held m c t.val t.isLt y + (iblk m c 2 t : Vec Ideal S1408x1024 .f32) y := by
  have h : ¬ t.val % 8 = 0 := by omega
  unfold held
  rw [outsAt0_C m c t h h7]
  dsimp only
  rw [last_eq, out_eq, add_apply]

theorem array : (dats m 0 c).arrAt 3 cfg0.N = down (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h7 : t.val % 8 = 7 := (flush0_3 t).mp hf
  have hh := held_eq m c t h7 y
  rw [zero_add] at hh
  have y0 : (y 0).val < 1408 := (y 0).isLt
  have y1 : (y 1).val < 1024 := (y 1).isLt
  have ht := lt_N t
  refine (congrFun (after0_3 m c t) y).trans ((out_apply m c t h7 y).trans ((add_comm _ _).trans ?_))
  have e0 : ((win0_3.blk t).view.emb y : S4224x2048.Idx) 0 = (⟨1408 * (t.val / 16) + (y 0).val, by omega⟩ : Fin 4224) := by
    have i0 := (idx3 t).1
    apply Fin.ext
    show _ = 1408 * (t.val / 16) + (y 0).val
    blk_simp
    omega
  have e1 : ((win0_3.blk t).view.emb y : S4224x2048.Idx) 1 = (⟨1024 * (t.val / 8 % 2) + (y 1).val, by omega⟩ : Fin 2048) := by
    have i1 := (idx3 t).2
    apply Fin.ext
    show _ = 1024 * (t.val / 8 % 2) + (y 1).val
    blk_simp
    omega
  show _ = down _ _ _ ((win0_3.blk t).view.emb y)
  unfold down
  refine congrArg₂ (fun a b : EReal => a + b) ?_ (hh.trans ?_)
  · refine (congrArg (iblk m c 2 t : Vec Ideal S1408x1024 .f32) (eq_ix2 (n0 := 1408) (n1 := 1024) y)).trans ((x_at m c t (y 0) (y 1)).trans ((congrFun (V_main_arg2 m c) _).trans ?_))
    exact congrArg (m ((c.tc : Thread nD τ).loc main_arg2) : S4224x2048.Idx → EReal) ((congrArg₂ ix2 e0.symm e1.symm).trans (eq_ix2 (n0 := 4224) (n1 := 2048) _).symm)
  refine Eq.trans ?_ (Fin.sum_univ_tiles 8 1024 rfl _).symm
  rw [Finset.sum_range]
  refine Finset.sum_congr rfl fun j _ => ?_
  unfold term
  refine Finset.sum_congr rfl fun k _ => congrArg₂ (· * ·) ?_ ?_
  · refine congrArg (act (m ((c.tc : Thread nD τ).loc main_arg0))) (congrArg₂ ix2 (Eq.trans (Fin.ext ?_) e0.symm) (Fin.ext ?_))
    · show 1408 * ((8 * (t.val / 8) + j.val) / 16 % 3) + (y 0).val = 1408 * (t.val / 16) + (y 0).val
      omega
    · show (8 * (t.val / 8) + j.val) % 8 * 1024 + k.val = j.val * 1024 + k.val
      omega
  · refine congrArg (m ((c.tc : Thread nD τ).loc main_arg1) : S8192x2048.Idx → EReal) (congrArg₂ ix2 (Fin.ext ?_) (Eq.trans (Fin.ext ?_) e1.symm))
    · show (8 * (t.val / 8) + j.val) % 8 * 1024 + k.val = j.val * 1024 + k.val
      omega
    · show 1024 * ((8 * (t.val / 8) + j.val) / 8 % 2) + (y 1).val = 1024 * (t.val / 8 % 2) + (y 1).val
      omega

open Reference7Ideal.Read in
theorem ref_act (z : S4224x8192.Idx → EReal) (i : S4224x8192.Idx) : val_main_v2 (F := Ideal) z i = act z i := by
  simp only [val_main_v2_apply, val_main_v1_apply, val_main_call0_v0_apply, val_main_call0_cst_apply]
  pointwise [act]

open Reference7Ideal.Read in
theorem ref_apply (z : S4224x8192.Idx → EReal) (w : S8192x2048.Idx → EReal) (x : S4224x2048.Idx → EReal) : val_main_v4 (F := Ideal) z w x = down z w x := by
  funext i
  refine (val_main_v4_apply (F := Ideal) z w x i).trans ?_
  unfold down
  refine congrArg (fun s : EReal => x i + s) ((val_main_v3_apply z w i).trans ?_)
  refine Finset.sum_congr rfl fun k _ => congrArg₂ (· * ·) ((ref_act z _).trans (congrArg (act z) ?_)) (congrArg w ?_)
  · exact eq_ix2 (n0 := 4224) (n1 := 8192) _
  · exact eq_ix2 (n0 := 8192) (n1 := 2048) _

/-- Both programs leave the same sum. -/
theorem algebraic : Cert.algebraic_Kernel7Ideal_Reference7Ideal := by
  intro m g m' g' _ hargs
  refine ⟨fun c => down (m ((c.tc : Thread nD τ).loc main_arg0)) (m ((c.tc : Thread nD τ).loc main_arg1)) (m ((c.tc : Thread nD τ).loc main_arg2)), ?_, ?_⟩
  · exact (θ_run Kernel7Ideal.defs _ _).mono (fun r h c => ⟨(h c).1.trans (array m c), (h c).2⟩) (Value.run_blocks m g)
  · refine (θ_run Reference7Ideal.defs _ _).mono (fun r h c => ⟨(h c).1.trans ?_, (h c).2⟩) (Reference7Ideal.Value.run m' g')
    refine (Reference7Ideal.Read.val_main_v4_eq _ _ _).trans ((ref_apply _ _ _).trans ?_)
    obtain ⟨h0, h1, h2⟩ := hargs c
    exact congr (congrArg₂ down h0 h1) h2

end Cert.Mlp.DownFwd

end
-- ==== Proof.InFwd.lean ====
module

public import proofs.«01_k».proof.Defs
public import proofs.«01_k».proof.Proof.Gen.Kernel8Ideal.Value
public import proofs.«01_k».proof.Proof.Gen.Reference8Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Proj.InFwd

open Idealize.ShloMosaic Idealize.SL Idealize.SL.Sem
open Cert.Kernel8Ideal Cert.Kernel8Ideal.Gen

/-! ## The input projection -/

/-- The product with the weight. -/
def proj (a : S4224x2048.Idx → EReal) (w : S2048x2560.Idx → EReal) : S4224x2560.Idx → EReal := fun i =>
  ∑ k : Fin 2048, a (ix2 (i 0) k) * w (ix2 k (i 1))

theorem pay_apply (a : Vec Ideal S1408x2048 .bf16) (b : Vec Ideal S1280x2048 .bf16) (p : Fin 1408) (q : Fin 1280) :
    k0_pay1 a b (ix2 p q) = ∑ k : Fin 2048, a (ix2 p k) * b (ix2 q k) := by
  pointwise [k0_pay1]

theorem idx0 : ∀ t : Fin cfg0.N, win0_0.index t 0 = t.val / 2 ∧ win0_0.index t 1 = 0 := by decide +kernel
theorem idx1 : ∀ t : Fin cfg0.N, win0_1.index t 0 = t.val % 2 ∧ win0_1.index t 1 = 0 := by decide +kernel
theorem idx2 : ∀ t : Fin cfg0.N, win0_2.index t 0 = t.val / 2 ∧ win0_2.index t 1 = t.val % 2 := by decide +kernel

theorem lt_N (t : Fin cfg0.N) : t.val < 6 := lt_of_lt_of_eq t.isLt N_0

variable (m : (ℓ : Loc nD τ sig) → Buf (Elt Ideal) ℓ) (c : Dev nD)

theorem w_read (r : Fin 2560) (k : Fin 2048) : (V m c main_v0 : S2560x2048.Idx → EReal) (ix2 r k) = (m ((c.tc : Thread nD τ).loc main_arg1) : S2048x2560.Idx → EReal) (ix2 k r) := by
  unfold V hostOps0
  after_reads_simp
  pointwise []

theorem a_at (t : Fin cfg0.N) (p : Fin 1408) (k : Fin 2048) :
    (iblk m c 0 t : Vec Ideal S1408x2048 .bf16) (ix2 p k) = (V m c main_arg0 : S4224x2048.Idx → EReal) (ix2 ⟨1408 * (t.val / 2) + p.val, by have := lt_N t; omega⟩ k) := by
  blk_ext [iblk, idx0 t]

theorem w_at (t : Fin cfg0.N) (q : Fin 1280) (k : Fin 2048) :
    (iblk m c 1 t : Vec Ideal S1280x2048 .bf16) (ix2 q k) = (V m c main_v0 : S2560x2048.Idx → EReal) (ix2 ⟨1280 * (t.val % 2) + q.val, by omega⟩ k) := by
  blk_ext [iblk, idx1 t]

theorem out_eq (a : Vec Ideal S1408x2048 .bf16) (b : Vec Ideal S1280x2048 .bf16) : out0_2 a b = k0_pay1 a b := by
  frame_out

/-- A block's entry is the whole's at the block's place. -/
theorem block (t : Fin cfg0.N) (p : Fin 1408) (q : Fin 1280) :
    out0_2 (iblk m c 0 t) (iblk m c 1 t) (ix2 p q) = proj (m ((c.tc : Thread nD τ).loc main_arg0)) (m ((c.tc : Thread nD τ).loc main_arg1)) (ix2 ⟨1408 * (t.val / 2) + p.val, by have := lt_N t; omega⟩ ⟨1280 * (t.val % 2) + q.val, by omega⟩) := by
  refine (congrFun (out_eq (iblk m c 0 t) (iblk m c 1 t)) _).trans ((pay_apply _ _ p q).trans ?_)
  unfold proj
  refine Finset.sum_congr rfl fun k _ => congrArg₂ (· * ·) ?_ ?_
  · exact (a_at m c t p k).trans (congrFun (V_main_arg0 m c) _)
  · exact (w_at m c t q k).trans (w_read m c _ _)

theorem array : (dats m 0 c).arrAt 2 cfg0.N = proj (m ((c.tc : Thread nD τ).loc main_arg0)) (m ((c.tc : Thread nD τ).loc main_arg1)) := by
  refine (dats m 0 c).arrAt_eq_of_covers 2 _ (by decide +kernel) fun t hf y => ?_
  refine (congrFun (after0_2 m c t) y).trans (((congrArg (out0_2 (iblk m c 0 t) (iblk m c 1 t)) (eq_ix2 (n0 := 1408) (n1 := 1280) y)).trans (block m c t (y 0) (y 1))).trans ?_)
  refine congrArg (proj (m ((c.tc : Thread nD τ).loc main_arg0)) (m ((c.tc : Thread nD τ).loc main_arg1))) ?_
  refine ((eq_ix2 (n0 := 4224) (n1 := 2560) ((win0_2.blk t).view.emb y)).trans (congrArg₂ ix2 (Fin.ext ?_) (Fin.ext ?_))).symm
  · have i0 := (idx2 t).1
    show _ = 1408 * (t.val / 2) + (y 0).val
    blk_simp
    omega
  · have i1 := (idx2 t).2
    show _ = 1280 * (t.val % 2) + (y 1).val
    blk_simp
    omega

open Reference8Ideal.Read in
theorem ref_apply (a : S4224x2048.Idx → EReal) (w : S2048x2560.Idx → EReal) : val_main_v2 (F := Ideal) a w = proj a w := by
  funext i
  unfold proj
  refine (val_main_v2_apply a w _).trans ?_
  refine Finset.sum_congr rfl fun k _ => congrArg₂ (· * ·) (congrArg a ?_) (congrArg w ?_)
  · exact eq_ix2 (n0 := 4224) (n1 := 2048) _
  · exact eq_ix2 (n0 := 2048) (n1 := 2560) _

/-- Both programs leave the same projection. -/
theorem algebraic : Cert.algebraic_Kernel8Ideal_Reference8Ideal := by
  intro m g m' g' _ hargs
  refine ⟨fun c => proj (m ((c.tc : Thread nD τ).loc main_arg0)) (m ((c.tc : Thread nD τ).loc main_arg1)), ?_, ?_⟩
  · exact (θ_run Kernel8Ideal.defs _ _).mono (fun r h c => ⟨(h c).1.trans (array m c), (h c).2⟩) (Value.run_blocks m g)
  · refine (θ_run Reference8Ideal.defs _ _).mono (fun r h c => ⟨(h c).1.trans ?_, (h c).2⟩) (Reference8Ideal.Value.run m' g')
    refine (Reference8Ideal.Read.val_main_v2_eq _ _).trans ((ref_apply _ _).trans ?_)
    exact congrArg₂ proj (hargs c).1 (hargs c).2

end Cert.Proj.InFwd

end
-- ==== Proof.OutFwd.lean ====
module

public import proofs.«01_k».proof.Defs
public import proofs.«01_k».proof.Proof.Gen.Kernel9Ideal.Value
public import proofs.«01_k».proof.Proof.Gen.Reference9Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Proj.OutFwd

open Idealize.ShloMosaic Idealize.SL Idealize.SL.Sem
open Cert.Kernel9Ideal Cert.Kernel9Ideal.Gen

/-! ## The output projection, added to the residual -/

/-- The residual and the product with the weight. -/
def proj (a : S4224x2048.Idx → EReal) (w : S2048x2048.Idx → EReal) (x : S4224x2048.Idx → EReal) : S4224x2048.Idx → EReal := fun i =>
  x i + ∑ k : Fin 2048, a (ix2 (i 0) k) * w (ix2 k (i 1))

theorem pay_apply (a : Vec Ideal S1408x2048 .bf16) (b : Vec Ideal S2048x1024 .bf16) (x : Vec Ideal S1408x1024 .f32) (p : Fin 1408) (q : Fin 1024) :
    k0_pay1 a b x (ix2 p q) = (∑ k : Fin 2048, a (ix2 p k) * b (ix2 k q)) + x (ix2 p q) := by
  pointwise [k0_pay1]

theorem idx0 : ∀ t : Fin cfg0.N, win0_0.index t 0 = t.val / 2 ∧ win0_0.index t 1 = 0 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = t.val % 2 := by decide +kernel
theorem idx3 : ∀ t : Fin cfg0.N, win0_3.index t 0 = t.val / 2 ∧ win0_3.index t 1 = t.val % 2 := by decide +kernel

theorem lt_N (t : Fin cfg0.N) : t.val < 6 := lt_of_lt_of_eq t.isLt N_0

variable (m : (ℓ : Loc nD τ sig) → Buf (Elt Ideal) ℓ) (c : Dev nD)

theorem a_at (t : Fin cfg0.N) (p : Fin 1408) (k : Fin 2048) :
    (iblk m c 0 t : Vec Ideal S1408x2048 .bf16) (ix2 p k) = (V m c main_arg0 : S4224x2048.Idx → EReal) (ix2 ⟨1408 * (t.val / 2) + p.val, by have := lt_N t; omega⟩ k) := by
  blk_ext [iblk, idx0 t]

theorem w_at (t : Fin cfg0.N) (q : Fin 1024) (k : Fin 2048) :
    (iblk m c 1 t : Vec Ideal S2048x1024 .bf16) (ix2 k q) = (V m c main_arg1 : S2048x2048.Idx → EReal) (ix2 k ⟨1024 * (t.val % 2) + q.val, by omega⟩) := by
  blk_ext [iblk, idx1 t]

theorem x_at (t : Fin cfg0.N) (p : Fin 1408) (q : Fin 1024) :
    (iblk m c 2 t : Vec Ideal S1408x1024 .f32) (ix2 p q) = (V m c main_arg2 : S4224x2048.Idx → EReal) (ix2 ⟨1408 * (t.val / 2) + p.val, by have := lt_N t; omega⟩ ⟨1024 * (t.val % 2) + q.val, by omega⟩) := by
  blk_ext [iblk, idx2 t]

theorem out_eq (a : Vec Ideal S1408x2048 .bf16) (b : Vec Ideal S2048x1024 .bf16) (x : Vec Ideal S1408x1024 .f32) : out0_3 a b x = k0_pay1 a b x := by
  frame_out

/-- A block's entry is the whole's at the block's place. -/
theorem block (t : Fin cfg0.N) (p : Fin 1408) (q : Fin 1024) :
    out0_3 (iblk m c 0 t) (iblk m c 1 t) (iblk m c 2 t) (ix2 p q) = proj (m ((c.tc : Thread nD τ).loc main_arg0)) (m ((c.tc : Thread nD τ).loc main_arg1)) (m ((c.tc : Thread nD τ).loc main_arg2)) (ix2 ⟨1408 * (t.val / 2) + p.val, by have := lt_N t; omega⟩ ⟨1024 * (t.val % 2) + q.val, by omega⟩) := by
  refine (congrFun (out_eq (iblk m c 0 t) (iblk m c 1 t) (iblk m c 2 t)) _).trans ((pay_apply _ _ _ p q).trans ?_)
  unfold proj
  refine (add_comm _ _).trans (congrArg₂ (fun u v : EReal => u + v) ((x_at m c t p q).trans (congrFun (V_main_arg2 m c) _)) ?_)
  refine Finset.sum_congr rfl fun k _ => congrArg₂ (· * ·) ?_ ?_
  · exact (a_at m c t p k).trans (congrFun (V_main_arg0 m c) _)
  · exact (w_at m c t q k).trans (congrFun (V_main_arg1 m c) _)

theorem array : (dats m 0 c).arrAt 3 cfg0.N = proj (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  refine (congrFun (after0_3 m c t) y).trans (((congrArg (out0_3 (iblk m c 0 t) (iblk m c 1 t) (iblk m c 2 t)) (eq_ix2 (n0 := 1408) (n1 := 1024) y)).trans (block m c t (y 0) (y 1))).trans ?_)
  refine congrArg (proj (m ((c.tc : Thread nD τ).loc main_arg0)) (m ((c.tc : Thread nD τ).loc main_arg1)) (m ((c.tc : Thread nD τ).loc main_arg2))) ?_
  refine ((eq_ix2 (n0 := 4224) (n1 := 2048) ((win0_3.blk t).view.emb y)).trans (congrArg₂ ix2 (Fin.ext ?_) (Fin.ext ?_))).symm
  · have i0 := (idx3 t).1
    show _ = 1408 * (t.val / 2) + (y 0).val
    blk_simp
    omega
  · have i1 := (idx3 t).2
    show _ = 1024 * (t.val % 2) + (y 1).val
    blk_simp
    omega

open Reference9Ideal.Read in
theorem ref_apply (a : S4224x2048.Idx → EReal) (w : S2048x2048.Idx → EReal) (x : S4224x2048.Idx → EReal) : val_main_v3 (F := Ideal) a w x = proj a w x := by
  funext i
  refine (val_main_v3_apply (F := Ideal) a w x i).trans ?_
  unfold proj
  refine congrArg (fun s : EReal => x i + s) ((val_main_v2_apply a w _).trans ?_)
  refine Finset.sum_congr rfl fun k _ => congrArg₂ (· * ·) (congrArg a ?_) (congrArg w ?_)
  · exact eq_ix2 (n0 := 4224) (n1 := 2048) _
  · exact eq_ix2 (n0 := 2048) (n1 := 2048) _

/-- Both programs leave the same sum. -/
theorem algebraic : Cert.algebraic_Kernel9Ideal_Reference9Ideal := by
  intro m g m' g' _ hargs
  refine ⟨fun c => proj (m ((c.tc : Thread nD τ).loc main_arg0)) (m ((c.tc : Thread nD τ).loc main_arg1)) (m ((c.tc : Thread nD τ).loc main_arg2)), ?_, ?_⟩
  · exact (θ_run Kernel9Ideal.defs _ _).mono (fun r h c => ⟨(h c).1.trans (array m c), (h c).2⟩) (Value.run_blocks m g)
  · refine (θ_run Reference9Ideal.defs _ _).mono (fun r h c => ⟨(h c).1.trans ?_, (h c).2⟩) (Reference9Ideal.Value.run m' g')
    refine (Reference9Ideal.Read.val_main_v3_eq _ _ _).trans ((ref_apply _ _ _).trans ?_)
    obtain ⟨h0, h1, h2⟩ := hargs c
    exact congr (congrArg₂ proj h0 h1) h2

end Cert.Proj.OutFwd

end
-- ==== Proof.OutDx.lean ====
module

public import proofs.«01_k».proof.Defs
public import proofs.«01_k».proof.Proof.Gen.Kernel10Ideal.Value
public import proofs.«01_k».proof.Proof.Gen.Reference10Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Proj.OutDx

open Idealize.ShloMosaic Idealize.SL Idealize.SL.Sem
open Cert.Kernel10Ideal Cert.Kernel10Ideal.Gen

/-! ## The gradient that the output projection sends back to its input -/

/-- The product with the weight, summed over its columns. -/
def dx (a : S4224x2048.Idx → EReal) (w : S2048x2048.Idx → EReal) : S4224x2048.Idx → EReal := fun i =>
  ∑ k : Fin 2048, a (ix2 (i 0) k) * w (ix2 (i 1) k)

theorem pay_apply (a : Vec Ideal S1408x2048 .bf16) (b : Vec Ideal S1024x2048 .bf16) (p : Fin 1408) (q : Fin 1024) :
    k0_pay1 a b (ix2 p q) = ∑ k : Fin 2048, a (ix2 p k) * b (ix2 q k) := by
  pointwise [k0_pay1]

theorem idx0 : ∀ t : Fin cfg0.N, win0_0.index t 0 = t.val / 2 ∧ win0_0.index t 1 = 0 := by decide +kernel
theorem idx1 : ∀ t : Fin cfg0.N, win0_1.index t 0 = t.val % 2 ∧ win0_1.index t 1 = 0 := by decide +kernel
theorem idx2 : ∀ t : Fin cfg0.N, win0_2.index t 0 = t.val / 2 ∧ win0_2.index t 1 = t.val % 2 := by decide +kernel

theorem lt_N (t : Fin cfg0.N) : t.val < 6 := lt_of_lt_of_eq t.isLt N_0

variable (m : (ℓ : Loc nD τ sig) → Buf (Elt Ideal) ℓ) (c : Dev nD)

theorem a_at (t : Fin cfg0.N) (p : Fin 1408) (k : Fin 2048) :
    (iblk m c 0 t : Vec Ideal S1408x2048 .bf16) (ix2 p k) = (V m c main_arg0 : S4224x2048.Idx → EReal) (ix2 ⟨1408 * (t.val / 2) + p.val, by have := lt_N t; omega⟩ k) := by
  blk_ext [iblk, idx0 t]

theorem w_at (t : Fin cfg0.N) (q : Fin 1024) (k : Fin 2048) :
    (iblk m c 1 t : Vec Ideal S1024x2048 .bf16) (ix2 q k) = (V m c main_arg1 : S2048x2048.Idx → EReal) (ix2 ⟨1024 * (t.val % 2) + q.val, by omega⟩ k) := by
  blk_ext [iblk, idx1 t]

theorem out_eq (a : Vec Ideal S1408x2048 .bf16) (b : Vec Ideal S1024x2048 .bf16) : out0_2 a b = k0_pay1 a b := by
  frame_out

/-- A block's entry is the whole's at the block's place. -/
theorem block (t : Fin cfg0.N) (p : Fin 1408) (q : Fin 1024) :
    out0_2 (iblk m c 0 t) (iblk m c 1 t) (ix2 p q) = dx (m ((c.tc : Thread nD τ).loc main_arg0)) (m ((c.tc : Thread nD τ).loc main_arg1)) (ix2 ⟨1408 * (t.val / 2) + p.val, by have := lt_N t; omega⟩ ⟨1024 * (t.val % 2) + q.val, by omega⟩) := by
  refine (congrFun (out_eq (iblk m c 0 t) (iblk m c 1 t)) _).trans ((pay_apply _ _ p q).trans ?_)
  unfold dx
  refine Finset.sum_congr rfl fun k _ => congrArg₂ (· * ·) ?_ ?_
  · exact (a_at m c t p k).trans (congrFun (V_main_arg0 m c) _)
  · exact (w_at m c t q k).trans (congrFun (V_main_arg1 m c) _)

theorem array : (dats m 0 c).arrAt 2 cfg0.N = dx (m ((c.tc : Thread nD τ).loc main_arg0)) (m ((c.tc : Thread nD τ).loc main_arg1)) := by
  refine (dats m 0 c).arrAt_eq_of_covers 2 _ (by decide +kernel) fun t hf y => ?_
  refine (congrFun (after0_2 m c t) y).trans (((congrArg (out0_2 (iblk m c 0 t) (iblk m c 1 t)) (eq_ix2 (n0 := 1408) (n1 := 1024) y)).trans (block m c t (y 0) (y 1))).trans ?_)
  refine congrArg (dx (m ((c.tc : Thread nD τ).loc main_arg0)) (m ((c.tc : Thread nD τ).loc main_arg1))) ?_
  refine ((eq_ix2 (n0 := 4224) (n1 := 2048) ((win0_2.blk t).view.emb y)).trans (congrArg₂ ix2 (Fin.ext ?_) (Fin.ext ?_))).symm
  · have i0 := (idx2 t).1
    show _ = 1408 * (t.val / 2) + (y 0).val
    blk_simp
    omega
  · have i1 := (idx2 t).2
    show _ = 1024 * (t.val % 2) + (y 1).val
    blk_simp
    omega

open Reference10Ideal.Read in
theorem ref_apply (a : S4224x2048.Idx → EReal) (w : S2048x2048.Idx → EReal) : val_main_v5 (F := Ideal) a w = dx a w := by
  funext i
  unfold dx
  refine (val_main_v5_apply a w _).trans ?_
  refine Finset.sum_congr rfl fun k _ => congrArg₂ (· * ·) (congrArg a ?_) (congrArg w ?_)
  · exact eq_ix2 (n0 := 4224) (n1 := 2048) _
  · exact eq_ix2 (n0 := 2048) (n1 := 2048) _

/-- Both programs leave the same gradient. -/
theorem algebraic : Cert.algebraic_Kernel10Ideal_Reference10Ideal := by
  intro m g m' g' _ hargs
  refine ⟨fun c => dx (m ((c.tc : Thread nD τ).loc main_arg0)) (m ((c.tc : Thread nD τ).loc main_arg1)), ?_, ?_⟩
  · exact (θ_run Kernel10Ideal.defs _ _).mono (fun r h c => ⟨(h c).1.trans (array m c), (h c).2⟩) (Value.run_blocks m g)
  · refine (θ_run Reference10Ideal.defs _ _).mono (fun r h c => ⟨(h c).1.trans ?_, (h c).2⟩) (Reference10Ideal.Value.run m' g')
    refine (Reference10Ideal.Read.val_main_v5_eq _ _).trans ((ref_apply _ _).trans ?_)
    exact congrArg₂ dx (hargs c).1 (hargs c).2

end Cert.Proj.OutDx

end
-- ==== Proof.OutDw.lean ====
module

public import proofs.«01_k».proof.Defs
public import proofs.«01_k».proof.Proof.Gen.Kernel11Ideal.Value
public import proofs.«01_k».proof.Proof.Gen.Reference11Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Proj.OutDw

open Idealize.ShloMosaic Idealize.SL Idealize.SL.Sem
open Cert.Kernel11Ideal Cert.Kernel11Ideal.Gen

/-! ## The gradient of the output projection's weight -/

/-- The sum over the rows. -/
def dw (a : S4224x2048.Idx → EReal) (w : S4224x2048.Idx → EReal) : S2048x2048.Idx → EReal := fun i =>
  ∑ k : Fin 4224, a (ix2 k (i 0)) * w (ix2 k (i 1))

theorem pay_apply (a : Vec Ideal S4224x1024 .bf16) (b : Vec Ideal S4224x1024 .bf16) (p : Fin 1024) (q : Fin 1024) :
    k0_pay1 a b (ix2 p q) = ∑ k : Fin 4224, a (ix2 k p) * b (ix2 k q) := by
  pointwise [k0_pay1]

theorem idx0 : ∀ t : Fin cfg0.N, win0_0.index t 0 = 0 ∧ win0_0.index t 1 = t.val / 2 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = t.val % 2 := by decide +kernel

theorem lt_N (t : Fin cfg0.N) : t.val < 4 := lt_of_lt_of_eq t.isLt N_0

variable (m : (ℓ : Loc nD τ sig) → Buf (Elt Ideal) ℓ) (c : Dev nD)

theorem a_at (t : Fin cfg0.N) (p : Fin 1024) (k : Fin 4224) :
    (iblk m c 0 t : Vec Ideal S4224x1024 .bf16) (ix2 k p) = (V m c main_arg0 : S4224x2048.Idx → EReal) (ix2 k ⟨1024 * (t.val / 2) + p.val, by have := lt_N t; omega⟩) := by
  blk_ext [iblk, idx0 t]

theorem w_at (t : Fin cfg0.N) (q : Fin 1024) (k : Fin 4224) :
    (iblk m c 1 t : Vec Ideal S4224x1024 .bf16) (ix2 k q) = (V m c main_arg1 : S4224x2048.Idx → EReal) (ix2 k ⟨1024 * (t.val % 2) + q.val, by omega⟩) := by
  blk_ext [iblk, idx1 t]

theorem out_eq (a : Vec Ideal S4224x1024 .bf16) (b : Vec Ideal S4224x1024 .bf16) : out0_2 a b = k0_pay1 a b := by
  frame_out

/-- A block's entry is the whole's at the block's place. -/
theorem block (t : Fin cfg0.N) (p : Fin 1024) (q : Fin 1024) :
    out0_2 (iblk m c 0 t) (iblk m c 1 t) (ix2 p q) = dw (m ((c.tc : Thread nD τ).loc main_arg0)) (m ((c.tc : Thread nD τ).loc main_arg1)) (ix2 ⟨1024 * (t.val / 2) + p.val, by have := lt_N t; omega⟩ ⟨1024 * (t.val % 2) + q.val, by omega⟩) := by
  refine (congrFun (out_eq (iblk m c 0 t) (iblk m c 1 t)) _).trans ((pay_apply _ _ p q).trans ?_)
  unfold dw
  refine Finset.sum_congr rfl fun k _ => congrArg₂ (· * ·) ?_ ?_
  · exact (a_at m c t p k).trans (congrFun (V_main_arg0 m c) _)
  · exact (w_at m c t q k).trans (congrFun (V_main_arg1 m c) _)

theorem array : (dats m 0 c).arrAt 2 cfg0.N = dw (m ((c.tc : Thread nD τ).loc main_arg0)) (m ((c.tc : Thread nD τ).loc main_arg1)) := by
  refine (dats m 0 c).arrAt_eq_of_covers 2 _ (by decide +kernel) fun t hf y => ?_
  refine (congrFun (after0_2 m c t) y).trans (((congrArg (out0_2 (iblk m c 0 t) (iblk m c 1 t)) (eq_ix2 (n0 := 1024) (n1 := 1024) y)).trans (block m c t (y 0) (y 1))).trans ?_)
  refine congrArg (dw (m ((c.tc : Thread nD τ).loc main_arg0)) (m ((c.tc : Thread nD τ).loc main_arg1))) ?_
  refine ((eq_ix2 (n0 := 2048) (n1 := 2048) ((win0_2.blk t).view.emb y)).trans (congrArg₂ ix2 (Fin.ext ?_) (Fin.ext ?_))).symm
  · have i0 := (idx2 t).1
    show _ = 1024 * (t.val / 2) + (y 0).val
    blk_simp
    omega
  · have i1 := (idx2 t).2
    show _ = 1024 * (t.val % 2) + (y 1).val
    blk_simp
    omega

open Reference11Ideal.Read in
theorem ref_apply (a : S4224x2048.Idx → EReal) (w : S4224x2048.Idx → EReal) : val_main_v8 (F := Ideal) a w = dw a w := by
  funext i
  rw [val_main_v8_apply]
  rw [val_main_v7_apply]
  unfold dw
  refine (val_main_v6_apply a w _).trans ?_
  refine Finset.sum_congr rfl fun k _ => (mul_comm _ _).trans (congrArg₂ (· * ·) (congrArg a ?_) (congrArg w ?_))
  · exact eq_ix2 (n0 := 4224) (n1 := 2048) _
  · exact eq_ix2 (n0 := 4224) (n1 := 2048) _

/-- Both programs leave the same gradient. -/
theorem algebraic : Cert.algebraic_Kernel11Ideal_Reference11Ideal := by
  intro m g m' g' _ hargs
  refine ⟨fun c => dw (m ((c.tc : Thread nD τ).loc main_arg0)) (m ((c.tc : Thread nD τ).loc main_arg1)), ?_, ?_⟩
  · exact (θ_run Kernel11Ideal.defs _ _).mono (fun r h c => ⟨(h c).1.trans (array m c), (h c).2⟩) (Value.run_blocks m g)
  · refine (θ_run Reference11Ideal.defs _ _).mono (fun r h c => ⟨(h c).1.trans ?_, (h c).2⟩) (Reference11Ideal.Value.run m' g')
    refine (Reference11Ideal.Read.val_main_v8_eq _ _).trans ((ref_apply _ _).trans ?_)
    exact congrArg₂ dw (hargs c).1 (hargs c).2

end Cert.Proj.OutDw

end
-- ==== Proof.InDw.lean ====
module

public import proofs.«01_k».proof.Defs
public import proofs.«01_k».proof.Proof.Gen.Kernel12Ideal.Value
public import proofs.«01_k».proof.Proof.Gen.Reference12Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Proj.InDw

open Idealize.ShloMosaic Idealize.SL Idealize.SL.Sem
open Cert.Kernel12Ideal Cert.Kernel12Ideal.Gen

/-! ## The gradient of the input projection's weight -/

/-- The sum over the rows. -/
def dw (a : S4224x2560.Idx → EReal) (w : S4224x2048.Idx → EReal) : S2560x2048.Idx → EReal := fun i =>
  ∑ k : Fin 4224, a (ix2 k (i 0)) * w (ix2 k (i 1))

theorem pay_apply (a : Vec Ideal S4224x512 .bf16) (b : Vec Ideal S4224x1024 .bf16) (p : Fin 512) (q : Fin 1024) :
    k0_pay1 a b (ix2 p q) = ∑ k : Fin 4224, a (ix2 k p) * b (ix2 k q) := by
  pointwise [k0_pay1]

theorem idx0 : ∀ t : Fin cfg0.N, win0_0.index t 0 = 0 ∧ win0_0.index t 1 = t.val / 2 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = t.val % 2 := by decide +kernel

theorem lt_N (t : Fin cfg0.N) : t.val < 10 := lt_of_lt_of_eq t.isLt N_0

variable (m : (ℓ : Loc nD τ sig) → Buf (Elt Ideal) ℓ) (c : Dev nD)

theorem a_at (t : Fin cfg0.N) (p : Fin 512) (k : Fin 4224) :
    (iblk m c 0 t : Vec Ideal S4224x512 .bf16) (ix2 k p) = (V m c main_arg0 : S4224x2560.Idx → EReal) (ix2 k ⟨512 * (t.val / 2) + p.val, by have := lt_N t; omega⟩) := by
  blk_ext [iblk, idx0 t]

theorem w_at (t : Fin cfg0.N) (q : Fin 1024) (k : Fin 4224) :
    (iblk m c 1 t : Vec Ideal S4224x1024 .bf16) (ix2 k q) = (V m c main_arg1 : S4224x2048.Idx → EReal) (ix2 k ⟨1024 * (t.val % 2) + q.val, by omega⟩) := by
  blk_ext [iblk, idx1 t]

theorem out_eq (a : Vec Ideal S4224x512 .bf16) (b : Vec Ideal S4224x1024 .bf16) : out0_2 a b = k0_pay1 a b := by
  frame_out

/-- A block's entry is the whole's at the block's place. -/
theorem block (t : Fin cfg0.N) (p : Fin 512) (q : Fin 1024) :
    out0_2 (iblk m c 0 t) (iblk m c 1 t) (ix2 p q) = dw (m ((c.tc : Thread nD τ).loc main_arg0)) (m ((c.tc : Thread nD τ).loc main_arg1)) (ix2 ⟨512 * (t.val / 2) + p.val, by have := lt_N t; omega⟩ ⟨1024 * (t.val % 2) + q.val, by omega⟩) := by
  refine (congrFun (out_eq (iblk m c 0 t) (iblk m c 1 t)) _).trans ((pay_apply _ _ p q).trans ?_)
  unfold dw
  refine Finset.sum_congr rfl fun k _ => congrArg₂ (· * ·) ?_ ?_
  · exact (a_at m c t p k).trans (congrFun (V_main_arg0 m c) _)
  · exact (w_at m c t q k).trans (congrFun (V_main_arg1 m c) _)

theorem array : (dats m 0 c).arrAt 2 cfg0.N = dw (m ((c.tc : Thread nD τ).loc main_arg0)) (m ((c.tc : Thread nD τ).loc main_arg1)) := by
  refine (dats m 0 c).arrAt_eq_of_covers 2 _ (by decide +kernel) fun t hf y => ?_
  refine (congrFun (after0_2 m c t) y).trans (((congrArg (out0_2 (iblk m c 0 t) (iblk m c 1 t)) (eq_ix2 (n0 := 512) (n1 := 1024) y)).trans (block m c t (y 0) (y 1))).trans ?_)
  refine congrArg (dw (m ((c.tc : Thread nD τ).loc main_arg0)) (m ((c.tc : Thread nD τ).loc main_arg1))) ?_
  refine ((eq_ix2 (n0 := 2560) (n1 := 2048) ((win0_2.blk t).view.emb y)).trans (congrArg₂ ix2 (Fin.ext ?_) (Fin.ext ?_))).symm
  · have i0 := (idx2 t).1
    show _ = 512 * (t.val / 2) + (y 0).val
    blk_simp
    omega
  · have i1 := (idx2 t).2
    show _ = 1024 * (t.val % 2) + (y 1).val
    blk_simp
    omega

open Reference12Ideal.Read in
theorem ref_apply (a : S4224x2560.Idx → EReal) (w : S4224x2048.Idx → EReal) : val_main_v7 (F := Ideal) a w = dw a w := by
  funext i
  rw [val_main_v7_apply]
  rw [val_main_v6_apply]
  rw [val_main_v5_apply]
  unfold dw
  refine (val_main_v4_apply a w _).trans ?_
  refine Finset.sum_congr rfl fun k _ => congrArg₂ (· * ·) (congrArg a ?_) (congrArg w ?_)
  · exact eq_ix2 (n0 := 4224) (n1 := 2560) _
  · exact eq_ix2 (n0 := 4224) (n1 := 2048) _

/-- Both programs leave the same gradient. -/
theorem algebraic : Cert.algebraic_Kernel12Ideal_Reference12Ideal := by
  intro m g m' g' _ hargs
  refine ⟨fun c => dw (m ((c.tc : Thread nD τ).loc main_arg0)) (m ((c.tc : Thread nD τ).loc main_arg1)), ?_, ?_⟩
  · exact (θ_run Kernel12Ideal.defs _ _).mono (fun r h c => ⟨(h c).1.trans (array m c), (h c).2⟩) (Value.run_blocks m g)
  · refine (θ_run Reference12Ideal.defs _ _).mono (fun r h c => ⟨(h c).1.trans ?_, (h c).2⟩) (Reference12Ideal.Value.run m' g')
    refine (Reference12Ideal.Read.val_main_v7_eq _ _).trans ((ref_apply _ _).trans ?_)
    exact congrArg₂ dw (hargs c).1 (hargs c).2

end Cert.Proj.InDw

end
-- ==== Proof.InDx.lean ====
module

public import proofs.«01_k».proof.Defs
public import proofs.«01_k».proof.Proof.Gen.Kernel13Ideal.Value
public import proofs.«01_k».proof.Proof.Gen.Reference13Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Proj.InDx

open Idealize.ShloMosaic Idealize.SL Idealize.SL.Sem
open Cert.Kernel13Ideal Cert.Kernel13Ideal.Gen

/-! ## The gradient that the input projection sends back to its input -/

/-- The product with the weight, summed over its columns. -/
def dx (a : S4224x2560.Idx → EReal) (w : S2048x2560.Idx → EReal) : S4224x2048.Idx → EReal := fun i =>
  ∑ k : Fin 2560, a (ix2 (i 0) k) * w (ix2 (i 1) k)

theorem pay_apply (a : Vec Ideal S1408x2560 .bf16) (b : Vec Ideal S2560x1024 .bf16) (p : Fin 1408) (q : Fin 1024) :
    k0_pay1 a b (ix2 p q) = ∑ k : Fin 2560, a (ix2 p k) * b (ix2 k q) := by
  pointwise [k0_pay1]

theorem idx0 : ∀ t : Fin cfg0.N, win0_0.index t 0 = t.val / 2 ∧ win0_0.index t 1 = 0 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = t.val % 2 := by decide +kernel

theorem lt_N (t : Fin cfg0.N) : t.val < 6 := lt_of_lt_of_eq t.isLt N_0

variable (m : (ℓ : Loc nD τ sig) → Buf (Elt Ideal) ℓ) (c : Dev nD)

theorem w_read (r : Fin 2560) (k : Fin 2048) : (V m c main_v0 : S2560x2048.Idx → EReal) (ix2 r k) = (m ((c.tc : Thread nD τ).loc main_arg1) : S2048x2560.Idx → EReal) (ix2 k r) := by
  unfold V hostOps0
  after_reads_simp
  pointwise []

theorem a_at (t : Fin cfg0.N) (p : Fin 1408) (k : Fin 2560) :
    (iblk m c 0 t : Vec Ideal S1408x2560 .bf16) (ix2 p k) = (V m c main_arg0 : S4224x2560.Idx → EReal) (ix2 ⟨1408 * (t.val / 2) + p.val, by have := lt_N t; omega⟩ k) := by
  blk_ext [iblk, idx0 t]

theorem w_at (t : Fin cfg0.N) (q : Fin 1024) (k : Fin 2560) :
    (iblk m c 1 t : Vec Ideal S2560x1024 .bf16) (ix2 k q) = (V m c main_v0 : S2560x2048.Idx → EReal) (ix2 k ⟨1024 * (t.val % 2) + q.val, by omega⟩) := by
  blk_ext [iblk, idx1 t]

theorem out_eq (a : Vec Ideal S1408x2560 .bf16) (b : Vec Ideal S2560x1024 .bf16) : out0_2 a b = k0_pay1 a b := by
  frame_out

/-- A block's entry is the whole's at the block's place. -/
theorem block (t : Fin cfg0.N) (p : Fin 1408) (q : Fin 1024) :
    out0_2 (iblk m c 0 t) (iblk m c 1 t) (ix2 p q) = dx (m ((c.tc : Thread nD τ).loc main_arg0)) (m ((c.tc : Thread nD τ).loc main_arg1)) (ix2 ⟨1408 * (t.val / 2) + p.val, by have := lt_N t; omega⟩ ⟨1024 * (t.val % 2) + q.val, by omega⟩) := by
  refine (congrFun (out_eq (iblk m c 0 t) (iblk m c 1 t)) _).trans ((pay_apply _ _ p q).trans ?_)
  unfold dx
  refine Finset.sum_congr rfl fun k _ => congrArg₂ (· * ·) ?_ ?_
  · exact (a_at m c t p k).trans (congrFun (V_main_arg0 m c) _)
  · exact (w_at m c t q k).trans (w_read m c _ _)

theorem array : (dats m 0 c).arrAt 2 cfg0.N = dx (m ((c.tc : Thread nD τ).loc main_arg0)) (m ((c.tc : Thread nD τ).loc main_arg1)) := by
  refine (dats m 0 c).arrAt_eq_of_covers 2 _ (by decide +kernel) fun t hf y => ?_
  refine (congrFun (after0_2 m c t) y).trans (((congrArg (out0_2 (iblk m c 0 t) (iblk m c 1 t)) (eq_ix2 (n0 := 1408) (n1 := 1024) y)).trans (block m c t (y 0) (y 1))).trans ?_)
  refine congrArg (dx (m ((c.tc : Thread nD τ).loc main_arg0)) (m ((c.tc : Thread nD τ).loc main_arg1))) ?_
  refine ((eq_ix2 (n0 := 4224) (n1 := 2048) ((win0_2.blk t).view.emb y)).trans (congrArg₂ ix2 (Fin.ext ?_) (Fin.ext ?_))).symm
  · have i0 := (idx2 t).1
    show _ = 1408 * (t.val / 2) + (y 0).val
    blk_simp
    omega
  · have i1 := (idx2 t).2
    show _ = 1024 * (t.val % 2) + (y 1).val
    blk_simp
    omega

open Reference13Ideal.Read in
theorem ref_apply (a : S4224x2560.Idx → EReal) (w : S2048x2560.Idx → EReal) : val_main_v4 (F := Ideal) a w = dx a w := by
  funext i
  unfold dx
  refine (val_main_v4_apply a w _).trans ?_
  refine Finset.sum_congr rfl fun k _ => congrArg₂ (· * ·) (congrArg a ?_) (congrArg w ?_)
  · exact eq_ix2 (n0 := 4224) (n1 := 2560) _
  · exact eq_ix2 (n0 := 2048) (n1 := 2560) _

/-- Both programs leave the same gradient. -/
theorem algebraic : Cert.algebraic_Kernel13Ideal_Reference13Ideal := by
  intro m g m' g' _ hargs
  refine ⟨fun c => dx (m ((c.tc : Thread nD τ).loc main_arg0)) (m ((c.tc : Thread nD τ).loc main_arg1)), ?_, ?_⟩
  · exact (θ_run Kernel13Ideal.defs _ _).mono (fun r h c => ⟨(h c).1.trans (array m c), (h c).2⟩) (Value.run_blocks m g)
  · refine (θ_run Reference13Ideal.defs _ _).mono (fun r h c => ⟨(h c).1.trans ?_, (h c).2⟩) (Reference13Ideal.Value.run m' g')
    refine (Reference13Ideal.Read.val_main_v4_eq _ _).trans ((ref_apply _ _).trans ?_)
    exact congrArg₂ dx (hargs c).1 (hargs c).2

end Cert.Proj.InDx

end
-- ==== Proof.GluFwd.lean ====
module

public import proofs.«01_k».proof.Defs
public import proofs.«01_k».proof.Proof.Gen.Kernel14Ideal.Value
public import proofs.«01_k».proof.Proof.Gen.Reference14Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Glu.Fwd

open Idealize.ShloMosaic Idealize.SL Idealize.SL.Sem
open Cert.Kernel14Ideal Cert.Kernel14Ideal.Gen

/-! ## GELU and the gate -/

/-- GELU, in its form with the hyperbolic tangent. -/
def gelu (y : EReal) : EReal :=
  y * (FloatOps.ofBits (F := Ideal) .f32 0x3F000000#32 * (FloatOps.ofBits (F := Ideal) .f32 0x3F800000#32
    + FloatOps.tanh (F := Ideal) (φ := .f32) (FloatOps.ofBits (F := Ideal) .f32 0x3F4C422A#32 * (y + FloatOps.ofBits (F := Ideal) .f32 0x3D372713#32 * (y * y * y)))))

/-- GELU times the logistic function of its product with the weight and the bias. -/
def glu (y : S4224x1024.Idx → EReal) (w : S1024x1024.Idx → EReal) (b : S1024.Idx → EReal) : S4224x1024.Idx → EReal := fun i =>
  gelu (y i) * FloatOps.logistic (F := Ideal) (φ := .f32) ((∑ k : Fin 1024, gelu (y (ix2 (i 0) k)) * w (ix2 k (i 1))) + b (ix1 (i 1)))

theorem act_eq (h c a o y : EReal) :
    h * y * (o + FloatOps.tanh (F := Ideal) (φ := .f32) (c * (y + a * y * y * y))) = y * (h * (o + FloatOps.tanh (F := Ideal) (φ := .f32) (c * (y + a * (y * y * y))))) := by
  rw [mul_assoc a y y, mul_assoc a (y * y) y, mul_comm h y, mul_assoc]

theorem pay_apply (y : Vec Ideal S384x1024 .f32) (w : Vec Ideal S1024x1024 .bf16) (b : Vec Ideal S1x1024 .f32) (p : Fin 384) (q : Fin 1024) :
    k0_pay1 y w b (ix2 p q) = gelu (y (ix2 p q)) * FloatOps.logistic (F := Ideal) (φ := .f32) ((∑ k : Fin 1024, gelu (y (ix2 p k)) * w (ix2 k q)) + b (ix2 0 q)) := by
  simp only [gelu, ← act_eq]
  pointwise [k0_pay1]

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel

theorem lt_N (t : Fin cfg0.N) : t.val < 11 := lt_of_lt_of_eq t.isLt N_0

variable (m : (ℓ : Loc nD τ sig) → Buf (Elt Ideal) ℓ) (c : Dev nD)

theorem b_read (q : Fin 1024) : (V m c main_v0 : S1x1024.Idx → EReal) (ix2 0 q) = (m ((c.tc : Thread nD τ).loc main_arg2) : S1024.Idx → EReal) (ix1 q) := by
  unfold V hostOps0
  after_reads_simp
  pointwise []

theorem y_at (t : Fin cfg0.N) (p : Fin 384) (k : Fin 1024) :
    (iblk m c 0 t : Vec Ideal S384x1024 .f32) (ix2 p k) = (V m c main_arg0 : S4224x1024.Idx → EReal) (ix2 ⟨384 * t.val + p.val, by have := lt_N t; omega⟩ k) := by
  blk_ext [iblk, idx0 t]

theorem w_at (t : Fin cfg0.N) (k q : Fin 1024) :
    (iblk m c 1 t : Vec Ideal S1024x1024 .bf16) (ix2 k q) = (V m c main_arg1 : S1024x1024.Idx → EReal) (ix2 k q) := by
  blk_ext [iblk, idx1 t]

theorem b_at (t : Fin cfg0.N) (q : Fin 1024) :
    (iblk m c 2 t : Vec Ideal S1x1024 .f32) (ix2 0 q) = (V m c main_v0 : S1x1024.Idx → EReal) (ix2 0 q) := by
  blk_ext [iblk, idx2 t]

theorem out_eq (y : Vec Ideal S384x1024 .f32) (w : Vec Ideal S1024x1024 .bf16) (b : Vec Ideal S1x1024 .f32) : out0_3 y w b = k0_pay1 y w b := by
  frame_out

/-- A block's entry is the whole's at the block's place. -/
theorem block (t : Fin cfg0.N) (p : Fin 384) (q : Fin 1024) :
    out0_3 (iblk m c 0 t) (iblk m c 1 t) (iblk m c 2 t) (ix2 p q) = glu (m ((c.tc : Thread nD τ).loc main_arg0)) (m ((c.tc : Thread nD τ).loc main_arg1)) (m ((c.tc : Thread nD τ).loc main_arg2)) (ix2 ⟨384 * t.val + p.val, by have := lt_N t; omega⟩ q) := by
  refine (congrFun (out_eq (iblk m c 0 t) (iblk m c 1 t) (iblk m c 2 t)) _).trans ((pay_apply _ _ _ p q).trans ?_)
  have hy := fun k => congrArg gelu ((y_at m c t p k).trans (congrFun (V_main_arg0 m c) _))
  unfold glu
  refine congrArg₂ (· * ·) (hy q) (congrArg (FloatOps.logistic (F := Ideal) (φ := .f32)) (congrArg₂ (· + ·) ?_ ?_))
  · refine Finset.sum_congr rfl fun k _ => congrArg₂ (· * ·) (hy k) ?_
    exact (w_at m c t k q).trans (congrFun (V_main_arg1 m c) _)
  · exact (b_at m c t q).trans (b_read m c q)

theorem array : (dats m 0 c).arrAt 3 cfg0.N = glu (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  refine (congrFun (after0_3 m c t) y).trans (((congrArg (out0_3 (iblk m c 0 t) (iblk m c 1 t) (iblk m c 2 t)) (eq_ix2 (n0 := 384) (n1 := 1024) y)).trans (block m c t (y 0) (y 1))).trans ?_)
  refine congrArg (glu (m ((c.tc : Thread nD τ).loc main_arg0)) (m ((c.tc : Thread nD τ).loc main_arg1)) (m ((c.tc : Thread nD τ).loc main_arg2))) ?_
  refine ((eq_ix2 (n0 := 4224) (n1 := 1024) ((win0_3.blk t).view.emb y)).trans (congrArg₂ ix2 (Fin.ext ?_) (Fin.ext ?_))).symm
  · have i0 := (idx3 t).1
    show _ = 384 * t.val + (y 0).val
    blk_simp
    omega
  · have i1 := (idx3 t).2
    show _ = (y 1).val
    blk_simp
    omega

open Reference14Ideal.Read in
theorem ref_gelu (y : S4224x1024.Idx → EReal) (i : S4224x1024.Idx) : val_main_v13 (F := Ideal) y i = gelu (y i) := by
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply]
  rfl

open Reference14Ideal.Read in
theorem ref_apply (y : S4224x1024.Idx → EReal) (w : S1024x1024.Idx → EReal) (b : S1024.Idx → EReal) : val_main_v24 (F := Ideal) y w b = glu y w b := by
  funext i
  rw [val_main_v24_apply, ref_gelu, val_main_v23_apply, val_main_v22_apply, val_main_v21_apply, val_main_v20_apply, val_main_v19_apply, val_main_v18_apply, val_main_v17_apply]
  have e : val_main_v14 (F := Ideal) y w i = ∑ k : Fin 1024, gelu (y (ix2 (i 0) k)) * w (ix2 k (i 1)) := by
    refine (val_main_v14_apply y w i).trans ?_
    refine Finset.sum_congr rfl fun k _ => congrArg₂ (· * ·) ((ref_gelu y _).trans (congrArg (fun j => gelu (y j)) ?_)) (congrArg w ?_)
    · exact eq_ix2 (n0 := 4224) (n1 := 1024) _
    · exact eq_ix2 (n0 := 1024) (n1 := 1024) _
  have eb : val_main_v16 (F := Ideal) b i = b (ix1 (i 1)) := by
    rw [val_main_v16_apply, val_main_v15_apply]
    exact congrArg b (eq_ix1 (n0 := 1024) _)
  rw [e, eb]
  unfold glu
  refine congrArg (gelu (y i) * ·) ?_
  generalize (∑ k : Fin 1024, gelu (y (ix2 (i 0) k)) * w (ix2 k (i 1))) = s
  generalize b (ix1 (i 1)) = d
  rw [val_main_cst_4_apply, val_main_cst_3_apply]
  pointwise [Ideal.logistic]

/-- Both programs leave the same gate. -/
theorem algebraic : Cert.algebraic_Kernel14Ideal_Reference14Ideal := by
  intro m g m' g' _ hargs
  refine ⟨fun c => glu (m ((c.tc : Thread nD τ).loc main_arg0)) (m ((c.tc : Thread nD τ).loc main_arg1)) (m ((c.tc : Thread nD τ).loc main_arg2)), ?_, ?_⟩
  · exact (θ_run Kernel14Ideal.defs _ _).mono (fun r h c => ⟨(h c).1.trans (array m c), (h c).2⟩) (Value.run_blocks m g)
  · refine (θ_run Reference14Ideal.defs _ _).mono (fun r h c => ⟨(h c).1.trans ?_, (h c).2⟩) (Reference14Ideal.Value.run m' g')
    refine (Reference14Ideal.Read.val_main_v24_eq _ _ _).trans ((ref_apply _ _ _).trans ?_)
    exact congr (congrArg₂ glu (hargs c).1 (hargs c).2.1) (hargs c).2.2

end Cert.Glu.Fwd

end
-- ==== Proof.GluDw.lean ====
module

public import proofs.«01_k».proof.Defs
public import proofs.«01_k».proof.Proof.Gen.Kernel15Ideal.Value
public import proofs.«01_k».proof.Proof.Gen.Reference15Ideal.Read
public import Idealize.ShloMosaic.Lib.StableHlo.RunRead
public import Idealize.ShloMosaic.Lib.Pipeline.ValueKit
public import Idealize.ShloMosaic.Lib.Pipeline.ValueKit.Point

@[expose] public section

set_option maxRecDepth 16384

noncomputable section

namespace Cert.Glu.Dw

open Idealize.ShloMosaic Idealize.SL Idealize.SL.Sem
open Cert.Kernel15Ideal Cert.Kernel15Ideal.Gen

/-! ## The gradient of the gate's weight -/

/-- The product of the two, over the rows. -/
def dw (a : S4224x1024.Idx → EReal) (b : S4224x1024.Idx → EReal) : S1024x1024.Idx → EReal := fun i =>
  ∑ k : Fin 4224, a (ix2 k (i 0)) * b (ix2 k (i 1))

theorem pay_apply (a : Vec Ideal S4224x1024 .bf16) (b : Vec Ideal S4224x1024 .bf16) (p : Fin 1024) (q : Fin 1024) :
    k0_pay1 a b (ix2 p q) = ∑ k : Fin 4224, a (ix2 k p) * b (ix2 k q) := by
  pointwise [k0_pay1]

theorem pay_eq (a : Vec Ideal S4224x1024 .bf16) (b : Vec Ideal S4224x1024 .bf16) : k0_pay1 a b = dw a b := by
  funext i
  exact (congrArg (k0_pay1 a b) (eq_ix2 (n0 := 1024) (n1 := 1024) i)).trans (pay_apply a b (i 0) (i 1))

open Reference15Ideal.Read in
theorem ref_apply (a : S4224x1024.Idx → EReal) (b : S4224x1024.Idx → EReal) : val_main_v6 (F := Ideal) a b = dw a b := by
  funext i
  rw [val_main_v6_apply]
  rw [val_main_v5_apply]
  unfold dw
  refine (val_main_v4_apply a b _).trans ?_
  refine Finset.sum_congr rfl fun k _ => (mul_comm _ _).trans (congrArg₂ (· * ·) (congrArg a ?_) (congrArg b ?_))
  · exact eq_ix2 (n0 := 4224) (n1 := 1024) _
  · exact eq_ix2 (n0 := 4224) (n1 := 1024) _

/-- Both programs leave the same gradient. -/
theorem algebraic : Cert.algebraic_Kernel15Ideal_Reference15Ideal := by
  intro m g m' g' _ hargs
  refine ⟨fun c => dw (m ((c.tc : Thread nD τ).loc main_arg0)) (m ((c.tc : Thread nD τ).loc main_arg1)), ?_, ?_⟩
  · exact (θ_run Kernel15Ideal.defs _ _).mono (fun r h c => ⟨(h c).1.trans (pay_eq _ _), (h c).2⟩) (Value.run m g)
  · refine (θ_run Reference15Ideal.defs _ _).mono (fun r h c => ⟨(h c).1.trans ?_, (h c).2⟩) (Reference15Ideal.Value.run m' g')
    refine (Reference15Ideal.Read.val_main_v6_eq _ _).trans ((ref_apply _ _).trans ?_)
    exact congrArg₂ dw (hargs c).1 (hargs c).2

end Cert.Glu.Dw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Value
public import proofs.«01_k».proof.Proof.Points
public import proofs.«01_k».proof.Proof.Same
public import proofs.«01_k».proof.Proof.DownDx
public import proofs.«01_k».proof.Proof.DownDw
public import proofs.«01_k».proof.Proof.UpDw
public import proofs.«01_k».proof.Proof.UpDx
public import proofs.«01_k».proof.Proof.UpFwd
public import proofs.«01_k».proof.Proof.DownFwd
public import proofs.«01_k».proof.Proof.InFwd
public import proofs.«01_k».proof.Proof.OutFwd
public import proofs.«01_k».proof.Proof.OutDx
public import proofs.«01_k».proof.Proof.OutDw
public import proofs.«01_k».proof.Proof.InDw
public import proofs.«01_k».proof.Proof.InDx
public import proofs.«01_k».proof.Proof.GluFwd
public import proofs.«01_k».proof.Proof.GluDw
public import Idealize.ShloMosaic.Adequacy

@[expose] public section

set_option maxRecDepth 16384

noncomputable section

namespace Cert.Proof

open Idealize.ShloMosaic Idealize.SL Idealize.SL.Sem
open Cert.KernelIdeal.Gen Cert.KernelIdeal.Ssm
open Cert.KernelIdeal (cfgs)

/-- The kernel ends with its arguments as launched and its counters at zero. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD, r.2.mem ((c.tc : Thread KernelIdeal.nD KernelIdeal.τ).loc KernelIdeal.main_arg0) = m ((c.tc : Thread KernelIdeal.nD KernelIdeal.τ).loc KernelIdeal.main_arg0) ∧ r.2.mem ((c.tc : Thread KernelIdeal.nD KernelIdeal.τ).loc KernelIdeal.main_arg1) = m ((c.tc : Thread KernelIdeal.nD KernelIdeal.τ).loc KernelIdeal.main_arg1) ∧ r.2.mem ((c.tc : Thread KernelIdeal.nD KernelIdeal.τ).loc KernelIdeal.main_arg2) = m ((c.tc : Thread KernelIdeal.nD KernelIdeal.τ).loc KernelIdeal.main_arg2) ∧ r.2.mem ((c.tc : Thread KernelIdeal.nD KernelIdeal.τ).loc KernelIdeal.main_arg3) = m ((c.tc : Thread KernelIdeal.nD KernelIdeal.τ).loc KernelIdeal.main_arg3) ∧ r.2.mem ((c.tc : Thread KernelIdeal.nD KernelIdeal.τ).loc KernelIdeal.main_arg4) = m ((c.tc : Thread KernelIdeal.nD KernelIdeal.τ).loc KernelIdeal.main_arg4) ∧ r.2.mem ((c.tc : Thread KernelIdeal.nD KernelIdeal.τ).loc KernelIdeal.main_arg5) = m ((c.tc : Thread KernelIdeal.nD KernelIdeal.τ).loc KernelIdeal.main_arg5) ∧ r.2.mem ((c.tc : Thread KernelIdeal.nD KernelIdeal.τ).loc KernelIdeal.main_arg6) = m ((c.tc : Thread KernelIdeal.nD KernelIdeal.τ).loc KernelIdeal.main_arg6) ∧ r.2.mem ((c.tc : Thread KernelIdeal.nD KernelIdeal.τ).loc KernelIdeal.main_arg7) = m ((c.tc : Thread KernelIdeal.nD KernelIdeal.τ).loc KernelIdeal.main_arg7) ∧ r.2.mem ((c.tc : Thread KernelIdeal.nD KernelIdeal.τ).loc KernelIdeal.main_arg8) = m ((c.tc : Thread KernelIdeal.nD KernelIdeal.τ).loc KernelIdeal.main_arg8) ∧ r.2.mem ((c.tc : Thread KernelIdeal.nD KernelIdeal.τ).loc KernelIdeal.main_arg9) = m ((c.tc : Thread KernelIdeal.nD KernelIdeal.τ).loc KernelIdeal.main_arg9) ∧ r.2.mem ((c.tc : Thread KernelIdeal.nD KernelIdeal.τ).loc KernelIdeal.main_arg10) = m ((c.tc : Thread KernelIdeal.nD KernelIdeal.τ).loc KernelIdeal.main_arg10)) ∧ r.2.sem = fun _ => 0) :=
  (θ_run KernelIdeal.defs _ _).mono (fun r h => ⟨args_of m h.1, h.2⟩) (run_main m ρ)

set_option maxHeartbeats 4000000 in
/-- The kernel's own text is the idealized kernel's. -/
theorem frame_kernel : Cert.quiescent_Kernel := by
  intro m ρ _
  rw [defs_eq, main_eq]
  exact frame_any (F := Bits) m ρ

theorem frame_ideal : Cert.quiescent_KernelIdeal := fun m ρ _ => frame_any m ρ

/-- The reference ends with its arguments as launched; it has no counters. -/
theorem frame_reference : Cert.quiescent_ReferenceIdeal := fun m ρ _ =>
  (θ_run ReferenceIdeal.defs _ _).mono (fun r h => ⟨fun c => (h c).2.2, sem_eq_zero_of_no_sems (by decide) r.2⟩) (ReferenceIdeal.Value.run m ρ)

theorem frame_reference2 : Cert.quiescent_Reference2Ideal := fun m ρ _ =>
  (θ_run Reference2Ideal.defs _ _).mono (fun r h => ⟨fun c => (h c).2, sem_eq_zero_of_no_sems (by decide) r.2⟩) (Reference2Ideal.Value.run m ρ)

theorem frame_reference3 : Cert.quiescent_Reference3Ideal := fun m ρ _ =>
  (θ_run Reference3Ideal.defs _ _).mono (fun r h => ⟨fun c => (h c).2, sem_eq_zero_of_no_sems (by decide) r.2⟩) (Reference3Ideal.Value.run m ρ)

theorem frame_reference4 : Cert.quiescent_Reference4Ideal := fun m ρ _ =>
  (θ_run Reference4Ideal.defs _ _).mono (fun r h => ⟨fun c => (h c).2, sem_eq_zero_of_no_sems (by decide) r.2⟩) (Reference4Ideal.Value.run m ρ)

theorem frame_reference5 : Cert.quiescent_Reference5Ideal := fun m ρ _ =>
  (θ_run Reference5Ideal.defs _ _).mono (fun r h => ⟨fun c => (h c).2, sem_eq_zero_of_no_sems (by decide) r.2⟩) (Reference5Ideal.Value.run m ρ)

theorem frame_reference6 : Cert.quiescent_Reference6Ideal := fun m ρ _ =>
  (θ_run Reference6Ideal.defs _ _).mono (fun r h => ⟨fun c => (h c).2.2, sem_eq_zero_of_no_sems (by decide) r.2⟩) (Reference6Ideal.Value.run m ρ)

theorem frame_reference7 : Cert.quiescent_Reference7Ideal := fun m ρ _ =>
  (θ_run Reference7Ideal.defs _ _).mono (fun r h => ⟨fun c => (h c).2, sem_eq_zero_of_no_sems (by decide) r.2⟩) (Reference7Ideal.Value.run m ρ)

theorem frame_reference8 : Cert.quiescent_Reference8Ideal := fun m ρ _ =>
  (θ_run Reference8Ideal.defs _ _).mono (fun r h => ⟨fun c => (h c).2, sem_eq_zero_of_no_sems (by decide) r.2⟩) (Reference8Ideal.Value.run m ρ)

theorem frame_reference9 : Cert.quiescent_Reference9Ideal := fun m ρ _ =>
  (θ_run Reference9Ideal.defs _ _).mono (fun r h => ⟨fun c => (h c).2, sem_eq_zero_of_no_sems (by decide) r.2⟩) (Reference9Ideal.Value.run m ρ)

theorem frame_reference10 : Cert.quiescent_Reference10Ideal := fun m ρ _ =>
  (θ_run Reference10Ideal.defs _ _).mono (fun r h => ⟨fun c => (h c).2, sem_eq_zero_of_no_sems (by decide) r.2⟩) (Reference10Ideal.Value.run m ρ)

theorem frame_reference11 : Cert.quiescent_Reference11Ideal := fun m ρ _ =>
  (θ_run Reference11Ideal.defs _ _).mono (fun r h => ⟨fun c => (h c).2, sem_eq_zero_of_no_sems (by decide) r.2⟩) (Reference11Ideal.Value.run m ρ)

theorem frame_reference12 : Cert.quiescent_Reference12Ideal := fun m ρ _ =>
  (θ_run Reference12Ideal.defs _ _).mono (fun r h => ⟨fun c => (h c).2, sem_eq_zero_of_no_sems (by decide) r.2⟩) (Reference12Ideal.Value.run m ρ)

theorem frame_reference13 : Cert.quiescent_Reference13Ideal := fun m ρ _ =>
  (θ_run Reference13Ideal.defs _ _).mono (fun r h => ⟨fun c => (h c).2, sem_eq_zero_of_no_sems (by decide) r.2⟩) (Reference13Ideal.Value.run m ρ)

theorem frame_reference14 : Cert.quiescent_Reference14Ideal := fun m ρ _ =>
  (θ_run Reference14Ideal.defs _ _).mono (fun r h => ⟨fun c => (h c).2, sem_eq_zero_of_no_sems (by decide) r.2⟩) (Reference14Ideal.Value.run m ρ)

theorem frame_reference15 : Cert.quiescent_Reference15Ideal := fun m ρ _ =>
  (θ_run Reference15Ideal.defs _ _).mono (fun r h => ⟨fun c => (h c).2, sem_eq_zero_of_no_sems (by decide) r.2⟩) (Reference15Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_tame.Gen.facts,
  frame_kernel, frame_ideal, fun m ρ _ => frame_any m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  trivial, algebraic,
  trivial, Mlp.DownDx.algebraic,
  trivial, Mlp.DownDw.algebraic,
  trivial, Mlp.UpDw.algebraic,
  trivial, Mlp.UpDx.algebraic,
  trivial, Mlp.UpFwd.algebraic,
  trivial, Mlp.DownFwd.algebraic,
  trivial, Proj.InFwd.algebraic,
  trivial, Proj.OutFwd.algebraic,
  trivial, Proj.OutDx.algebraic,
  trivial, Proj.OutDw.algebraic,
  trivial, Proj.InDw.algebraic,
  trivial, Proj.InDx.algebraic,
  trivial, Glu.Fwd.algebraic,
  trivial, Glu.Dw.algebraic⟩

end Cert.Proof

end
